-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v275_0)) (v1 : (c : Dev Cert.Kernel2Ideal.nD) → Buf (Elt Ideal) ((c.tc : Thread Cert.Kernel2Ideal.nD Cert.Kernel2Ideal.τ).loc Cert.Kernel2Ideal.main_v275_1)) (v2 : (c : Dev Cert.Kernel2Ideal.nD) → Buf (Elt Ideal) ((c.tc : Thread Cert.Kernel2Ideal.nD Cert.Kernel2Ideal.τ).loc Cert.Kernel2Ideal.main_v275_2)) (v3 : (c : Dev Cert.Kernel2Ideal.nD) → Buf (Elt Ideal) ((c.tc : Thread Cert.Kernel2Ideal.nD Cert.Kernel2Ideal.τ).loc Cert.Kernel2Ideal.main_v275_3)) (v4 : (c : Dev Cert.Kernel2Ideal.nD) → Buf (Elt Ideal) ((c.tc : Thread Cert.Kernel2Ideal.nD Cert.Kernel2Ideal.τ).loc Cert.Kernel2Ideal.main_v275_4)) (v5 : (c : Dev Cert.Kernel2Ideal.nD) → Buf (Elt Ideal) ((c.tc : Thread Cert.Kernel2Ideal.nD Cert.Kernel2Ideal.τ).loc Cert.Kernel2Ideal.main_v275_5)) (v6 : (c : Dev Cert.Kernel2Ideal.nD) → Buf (Elt Ideal) ((c.tc : Thread Cert.Kernel2Ideal.nD Cert.Kernel2Ideal.τ).loc Cert.Kernel2Ideal.main_v275_6)) (v7 : (c : Dev Cert.Kernel2Ideal.nD) → Buf (Elt Ideal) ((c.tc : Thread Cert.Kernel2Ideal.nD Cert.Kernel2Ideal.τ).loc Cert.Kernel2Ideal.main_v275_7)) (v8 : (c : Dev Cert.Kernel2Ideal.nD) → Buf (Elt Ideal) ((c.tc : Thread Cert.Kernel2Ideal.nD Cert.Kernel2Ideal.τ).loc Cert.Kernel2Ideal.main_v275_8)) (v9 : (c : Dev Cert.Kernel2Ideal.nD) → Buf (Elt Ideal) ((c.tc : Thread Cert.Kernel2Ideal.nD Cert.Kernel2Ideal.τ).loc Cert.Kernel2Ideal.main_v275_9)) (v10 : (c : Dev Cert.Kernel2Ideal.nD) → Buf (Elt Ideal) ((c.tc : Thread Cert.Kernel2Ideal.nD Cert.Kernel2Ideal.τ).loc Cert.Kernel2Ideal.main_v275_10)) (v11 : (c : Dev Cert.Kernel2Ideal.nD) → Buf (Elt Ideal) ((c.tc : Thread Cert.Kernel2Ideal.nD Cert.Kernel2Ideal.τ).loc Cert.Kernel2Ideal.main_v275_11)) (v12 : (c : Dev Cert.Kernel2Ideal.nD) → Buf (Elt Ideal) ((c.tc : Thread Cert.Kernel2Ideal.nD Cert.Kernel2Ideal.τ).loc Cert.Kernel2Ideal.main_v275_12)) (v13 : (c : Dev Cert.Kernel2Ideal.nD) → Buf (Elt Ideal) ((c.tc : Thread Cert.Kernel2Ideal.nD Cert.Kernel2Ideal.τ).loc Cert.Kernel2Ideal.main_v275_13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v275_0) = v0 c
          ∧ r.2.mem ((c.tc : Thread Cert.Kernel2Ideal.nD Cert.Kernel2Ideal.τ).loc Cert.Kernel2Ideal.main_v275_1) = v1 c
          ∧ r.2.mem ((c.tc : Thread Cert.Kernel2Ideal.nD Cert.Kernel2Ideal.τ).loc Cert.Kernel2Ideal.main_v275_2) = v2 c
          ∧ r.2.mem ((c.tc : Thread Cert.Kernel2Ideal.nD Cert.Kernel2Ideal.τ).loc Cert.Kernel2Ideal.main_v275_3) = v3 c
          ∧ r.2.mem ((c.tc : Thread Cert.Kernel2Ideal.nD Cert.Kernel2Ideal.τ).loc Cert.Kernel2Ideal.main_v275_4) = v4 c
          ∧ r.2.mem ((c.tc : Thread Cert.Kernel2Ideal.nD Cert.Kernel2Ideal.τ).loc Cert.Kernel2Ideal.main_v275_5) = v5 c
          ∧ r.2.mem ((c.tc : Thread Cert.Kernel2Ideal.nD Cert.Kernel2Ideal.τ).loc Cert.Kernel2Ideal.main_v275_6) = v6 c
          ∧ r.2.mem ((c.tc : Thread Cert.Kernel2Ideal.nD Cert.Kernel2Ideal.τ).loc Cert.Kernel2Ideal.main_v275_7) = v7 c
          ∧ r.2.mem ((c.tc : Thread Cert.Kernel2Ideal.nD Cert.Kernel2Ideal.τ).loc Cert.Kernel2Ideal.main_v275_8) = v8 c
          ∧ r.2.mem ((c.tc : Thread Cert.Kernel2Ideal.nD Cert.Kernel2Ideal.τ).loc Cert.Kernel2Ideal.main_v275_9) = v9 c
          ∧ r.2.mem ((c.tc : Thread Cert.Kernel2Ideal.nD Cert.Kernel2Ideal.τ).loc Cert.Kernel2Ideal.main_v275_10) = v10 c
          ∧ r.2.mem ((c.tc : Thread Cert.Kernel2Ideal.nD Cert.Kernel2Ideal.τ).loc Cert.Kernel2Ideal.main_v275_11) = v11 c
          ∧ r.2.mem ((c.tc : Thread Cert.Kernel2Ideal.nD Cert.Kernel2Ideal.τ).loc Cert.Kernel2Ideal.main_v275_12) = v12 c
          ∧ r.2.mem ((c.tc : Thread Cert.Kernel2Ideal.nD Cert.Kernel2Ideal.τ).loc Cert.Kernel2Ideal.main_v275_13) = v13 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v117) = v0 c
          ∧ r.2.mem ((c.tc : Thread Cert.Reference2Ideal.nD Cert.Reference2Ideal.τ).loc Cert.Reference2Ideal.main_v118) = v1 c
          ∧ r.2.mem ((c.tc : Thread Cert.Reference2Ideal.nD Cert.Reference2Ideal.τ).loc Cert.Reference2Ideal.main_v119) = v2 c
          ∧ r.2.mem ((c.tc : Thread Cert.Reference2Ideal.nD Cert.Reference2Ideal.τ).loc Cert.Reference2Ideal.main_v122) = v3 c
          ∧ r.2.mem ((c.tc : Thread Cert.Reference2Ideal.nD Cert.Reference2Ideal.τ).loc Cert.Reference2Ideal.main_v123) = v4 c
          ∧ r.2.mem ((c.tc : Thread Cert.Reference2Ideal.nD Cert.Reference2Ideal.τ).loc Cert.Reference2Ideal.main_v125) = v5 c
          ∧ r.2.mem ((c.tc : Thread Cert.Reference2Ideal.nD Cert.Reference2Ideal.τ).loc Cert.Reference2Ideal.main_v128) = v6 c
          ∧ r.2.mem ((c.tc : Thread Cert.Reference2Ideal.nD Cert.Reference2Ideal.τ).loc Cert.Reference2Ideal.main_v129) = v7 c
          ∧ r.2.mem ((c.tc : Thread Cert.Reference2Ideal.nD Cert.Reference2Ideal.τ).loc Cert.Reference2Ideal.main_v134) = v8 c
          ∧ r.2.mem ((c.tc : Thread Cert.Reference2Ideal.nD Cert.Reference2Ideal.τ).loc Cert.Reference2Ideal.main_v135) = v9 c
          ∧ r.2.mem ((c.tc : Thread Cert.Reference2Ideal.nD Cert.Reference2Ideal.τ).loc Cert.Reference2Ideal.main_v138) = v10 c
          ∧ r.2.mem ((c.tc : Thread Cert.Reference2Ideal.nD Cert.Reference2Ideal.τ).loc Cert.Reference2Ideal.main_v140) = v11 c
          ∧ r.2.mem ((c.tc : Thread Cert.Reference2Ideal.nD Cert.Reference2Ideal.τ).loc Cert.Reference2Ideal.main_v141) = v12 c
          ∧ r.2.mem ((c.tc : Thread Cert.Reference2Ideal.nD Cert.Reference2Ideal.τ).loc Cert.Reference2Ideal.main_v143) = v13 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x8x2176x256 : Shape := ⟨4, ![16, 8, 2176, 256]⟩
abbrev S16x2176x256 : Shape := ⟨3, ![16, 2176, 256]⟩
abbrev S128x8x64 : Shape := ⟨3, ![128, 8, 64]⟩
abbrev S_ : Shape := ⟨0, ![]⟩

class Facts : Prop where
  bitsLt_bf16_f32 : FTy.bits .bf16 < FTy.bits .f32
  bcast_S_S16x8x2176x256 : S_.BroadcastsInDim S16x8x2176x256 (![] : Fin 0 → Fin S16x8x2176x256.rank)
  reducesTo_S16x8x2176x256_S_d0_1_2_3 : S16x8x2176x256.ReducesTo [0, 1, 2, 3] S_
  h_S_ : 0 < S_.numel
  bcast_S_S16x2176x256 : S_.BroadcastsInDim S16x2176x256 (![] : Fin 0 → Fin S16x2176x256.rank)
  reducesTo_S16x2176x256_S_d0_1_2 : S16x2176x256.ReducesTo [0, 1, 2] S_

variable [Facts]

def fn {F : FTy → Type} [FloatOps F] (main_arg0 : FVec F S16x8x2176x256 .bf16) (main_arg1 : FVec F S16x2176x256 .bf16) (main_arg2 : FVec F S128x8x64 .f32) : IVec S_ 1 :=
  let main_v0 : FVec F S16x8x2176x256 .f32 := (extf .f32 · bitsLt_bf16_f32) main_arg0
  let main_v1 : FVec F S16x8x2176x256 .f32 := Host.absf main_v0
  let main_cst : FVec F S_ .f32 := constant S_ .f32 0x7F800000#32
  let main_v2 : FVec F S16x8x2176x256 .f32 := broadcastInDim S16x8x2176x256 ![] bcast_S_S16x8x2176x256 main_cst
  let main_v3 : IVec S16x8x2176x256 1 := cmpf .olt main_v1 main_v2
  let main_c : IVec S_ 1 := constantI S_ 1 1#1
  let main_v4 : IVec S_ 1 := (fun x v => Host.reduce IntOp.andi x v reducesTo_S16x8x2176x256_S_d0_1_2_3 h_S_) main_v3 main_c
  let main_v5 : FVec F S16x2176x256 .f32 := (extf .f32 · bitsLt_bf16_f32) main_arg1
  let main_v6 : FVec F S16x2176x256 .f32 := Host.absf main_v5
  let main_cst_0 : FVec F S_ .f32 := constant S_ .f32 0x7F800000#32
  let main_v7 : FVec F S16x2176x256 .f32 := broadcastInDim S16x2176x256 ![] bcast_S_S16x2176x256 main_cst_0
  let main_v8 : IVec S16x2176x256 1 := cmpf .olt main_v6 main_v7
  let main_c_1 : IVec S_ 1 := constantI S_ 1 1#1
  let main_v9 : IVec S_ 1 := (fun x v => Host.reduce IntOp.andi x v reducesTo_S16x2176x256_S_d0_1_2 h_S_) main_v8 main_c_1
  let main_v10 : IVec S_ 1 := andi main_v4 main_v9
  main_v10
-- ==== Kernel.lean ====
abbrev S16x8x2176x256 : Shape := ⟨4, ![16, 8, 2176, 256]⟩
abbrev S16x2176x256 : Shape := ⟨3, ![16, 2176, 256]⟩
abbrev S128x8x64 : Shape := ⟨3, ![128, 8, 64]⟩
abbrev S8x128x64 : Shape := ⟨3, ![8, 128, 64]⟩
abbrev S16x2176x512 : Shape := ⟨3, ![16, 2176, 512]⟩
abbrev S1x8x128x256 : Shape := ⟨4, ![1, 8, 128, 256]⟩
abbrev S1x2176x256 : Shape := ⟨3, ![1, 2176, 256]⟩
abbrev S1x128x512 : Shape := ⟨3, ![1, 128, 512]⟩
abbrev S17x1024x128 : Shape := ⟨3, ![17, 1024, 128]⟩
abbrev S1024x128 : Shape := ⟨2, ![1024, 128]⟩
abbrev S8x128x256 : Shape := ⟨3, ![8, 128, 256]⟩
abbrev S1024x256 : Shape := ⟨2, ![1024, 256]⟩
abbrev S1x256x256 : Shape := ⟨3, ![1, 256, 256]⟩
abbrev S256x256 : Shape := ⟨2, ![256, 256]⟩
abbrev S1x1024x128 : Shape := ⟨3, ![1, 1024, 128]⟩
abbrev S1x128x256 : Shape := ⟨3, ![1, 128, 256]⟩
abbrev S128x256 : Shape := ⟨2, ![128, 256]⟩
abbrev S1024 : Shape := ⟨1, ![1024]⟩
abbrev S1024x1 : Shape := ⟨2, ![1024, 1]⟩
abbrev S256x128 : Shape := ⟨2, ![256, 128]⟩
abbrev S128x128 : Shape := ⟨2, ![128, 128]⟩
abbrev S1x128x64 : Shape := ⟨3, ![1, 128, 64]⟩
abbrev S128x64 : Shape := ⟨2, ![128, 64]⟩
abbrev S128x512 : Shape := ⟨2, ![128, 512]⟩

abbrev nBuf : Space → Nat
  | .hbm => 6
  | .vmem => 11
  | .smem => 0
  | _ => 0

abbrev bufTy : (tb : Table) → Fin (tcTables nBuf tb) → BufTy
  | .hbm, ⟨0, _⟩ => ⟨S16x8x2176x256, .bf16⟩
  | .hbm, ⟨1, _⟩ => ⟨S16x2176x256, .bf16⟩
  | .hbm, ⟨2, _⟩ => ⟨S128x8x64, .f32⟩
  | .hbm, ⟨3, _⟩ => ⟨S8x128x64, .f32⟩
  | .hbm, ⟨4, _⟩ => ⟨S8x128x64, .bf16⟩
  | .hbm, ⟨5, _⟩ => ⟨S16x2176x512, .f32⟩
  | .local _ .vmem, ⟨0, _⟩ => ⟨S1x8x128x256, .bf16⟩
  | .local _ .vmem, ⟨1, _⟩ => ⟨S1x8x128x256, .bf16⟩
  | .local _ .vmem, ⟨2, _⟩ => ⟨S1x2176x256, .bf16⟩
  | .local _ .vmem, ⟨3, _⟩ => ⟨S1x2176x256, .bf16⟩
  | .local _ .vmem, ⟨4, _⟩ => ⟨S8x128x64, .bf16⟩
  | .local _ .vmem, ⟨5, _⟩ => ⟨S1x128x512, .f32⟩
  | .local _ .vmem, ⟨6, _⟩ => ⟨S1x128x512, .f32⟩
  | .local _ .vmem, ⟨7, _⟩ => ⟨S17x1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | _, _ => ⟨S16x8x2176x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 17], ![false, false]⟩

@[reducible] def k0_t1_loop (i : grid0.Coords) : Scf.Loop 32 :=
  let c0_i32_10 : BitVec 32 := 0#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v28 : BitVec 32 := Scalar.subi v27 c0_i32_10
  let c1_i32_11 : BitVec 32 := 1#32
  let v30 : BitVec 32 := Scalar.divsi v28 c1_i32_11
  let v31 : BitVec 32 := Scalar.muli v30 c1_i32_11
  let v32 : BitVec 32 := Scalar.addi c0_i32_10 v31
  let c1_i32_12 : BitVec 32 := 1#32
  ⟨c0_i32_10, v32, c1_i32_12⟩
def k0_mult1 (i : grid0.Coords) (k0_t1 : Fin (k0_t1_loop i).trips) : BitVec 32 :=
  let c0_i32_10 : BitVec 32 := 0#32
  let c1_i32_12 : BitVec 32 := 1#32
  let arg10 : BitVec 32 := Scf.iv c0_i32_10 c1_i32_12 k0_t1
  let c2_i32_73 : BitVec 32 := 2#32
  let v108 : BitVec 32 := Scalar.muli arg10 c2_i32_73
  let c128_i32 : BitVec 32 := 128#32
  let v109 : BitVec 32 := Scalar.muli v108 c128_i32
  v109
def k0_off1 (i : grid0.Coords) (k0_t1 : Fin (k0_t1_loop i).trips) : Fin 3 → Nat :=
  let c0_74 : Index := 0#32
  let c0_i32_10 : BitVec 32 := 0#32
  let c1_i32_12 : BitVec 32 := 1#32
  let arg10 : BitVec 32 := Scf.iv c0_i32_10 c1_i32_12 k0_t1
  let c2_i32_73 : BitVec 32 := 2#32
  let v108 : BitVec 32 := Scalar.muli arg10 c2_i32_73
  let c128_i32 : BitVec 32 := 128#32
  let v109 : BitVec 32 := Scalar.muli v108 c128_i32
  let v110 : BitVec 32 := v109
  let v111 : Index := Scalar.indexCast v110
  let c0_75 : Index := 0#32
  ![0, v111.toNat, 0]
def k0_off2 (i : grid0.Coords) (k0_t1 : Fin (k0_t1_loop i).trips) : Fin 3 → Nat :=
  let c2_i32_77 : BitVec 32 := 2#32
  let c0_i32_10 : BitVec 32 := 0#32
  let c1_i32_12 : BitVec 32 := 1#32
  let arg10 : BitVec 32 := Scf.iv c0_i32_10 c1_i32_12 k0_t1
  let v116 : BitVec 32 := Scalar.muli c2_i32_77 arg10
  let v117 : Index := Scalar.indexCast v116
  let c0_78 : Index := 0#32
  let c0_79 : Index := 0#32
  ![v117.toNat, 0, 0]
def k0_off3 (i : grid0.Coords) (k0_t1 : Fin (k0_t1_loop i).trips) : Fin 3 → Nat :=
  let c2_i32_80 : BitVec 32 := 2#32
  let c0_i32_10 : BitVec 32 := 0#32
  let c1_i32_12 : BitVec 32 := 1#32
  let arg10 : BitVec 32 := Scf.iv c0_i32_10 c1_i32_12 k0_t1
  let v122 : BitVec 32 := Scalar.muli c2_i32_80 arg10
  let c1_i32_81 : BitVec 32 := 1#32
  let v123 : BitVec 32 := Scalar.addi v122 c1_i32_81
  let v124 : Index := Scalar.indexCast v123
  let c0_82 : Index := 0#32
  let c0_83 : Index := 0#32
  ![v124.toNat, 0, 0]
@[reducible] def k0_t2_loop (i : grid0.Coords) : Scf.Loop 32 :=
  let c0_i32_10 : BitVec 32 := 0#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v28 : BitVec 32 := Scalar.subi v27 c0_i32_10
  let c1_i32_11 : BitVec 32 := 1#32
  let v30 : BitVec 32 := Scalar.divsi v28 c1_i32_11
  let v31 : BitVec 32 := Scalar.muli v30 c1_i32_11
  let v32 : BitVec 32 := Scalar.addi c0_i32_10 v31
  let v29 : BitVec 32 := Scalar.addi c0_i32_10 v28
  let c1_i32_13 : BitVec 32 := 1#32
  ⟨v32, v29, c1_i32_13⟩
def k0_mult2 (i : grid0.Coords) (k0_t2 : Fin (k0_t2_loop i).trips) : BitVec 32 :=
  let c0_i32_10 : BitVec 32 := 0#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v28 : BitVec 32 := Scalar.subi v27 c0_i32_10
  let c1_i32_11 : BitVec 32 := 1#32
  let v30 : BitVec 32 := Scalar.divsi v28 c1_i32_11
  let v31 : BitVec 32 := Scalar.muli v30 c1_i32_11
  let v32 : BitVec 32 := Scalar.addi c0_i32_10 v31
  let c1_i32_13 : BitVec 32 := 1#32
  let arg10 : BitVec 32 := Scf.iv v32 c1_i32_13 k0_t2
  let c2_i32_73 : BitVec 32 := 2#32
  let v108 : BitVec 32 := Scalar.muli arg10 c2_i32_73
  let c128_i32 : BitVec 32 := 128#32
  let v109 : BitVec 32 := Scalar.muli v108 c128_i32
  v109
def k0_off4 (i : grid0.Coords) (k0_t2 : Fin (k0_t2_loop i).trips) : Fin 3 → Nat :=
  let c0_74 : Index := 0#32
  let c0_i32_10 : BitVec 32 := 0#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v28 : BitVec 32 := Scalar.subi v27 c0_i32_10
  let c1_i32_11 : BitVec 32 := 1#32
  let v30 : BitVec 32 := Scalar.divsi v28 c1_i32_11
  let v31 : BitVec 32 := Scalar.muli v30 c1_i32_11
  let v32 : BitVec 32 := Scalar.addi c0_i32_10 v31
  let c1_i32_13 : BitVec 32 := 1#32
  let arg10 : BitVec 32 := Scf.iv v32 c1_i32_13 k0_t2
  let c2_i32_73 : BitVec 32 := 2#32
  let v108 : BitVec 32 := Scalar.muli arg10 c2_i32_73
  let c128_i32 : BitVec 32 := 128#32
  let v109 : BitVec 32 := Scalar.muli v108 c128_i32
  let v110 : BitVec 32 := v109
  let v111 : Index := Scalar.indexCast v110
  let c0_75 : Index := 0#32
  ![0, v111.toNat, 0]
def k0_off5 (i : grid0.Coords) (k0_t2 : Fin (k0_t2_loop i).trips) : Fin 3 → Nat :=
  let c2_i32_77 : BitVec 32 := 2#32
  let c0_i32_10 : BitVec 32 := 0#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v28 : BitVec 32 := Scalar.subi v27 c0_i32_10
  let c1_i32_11 : BitVec 32 := 1#32
  let v30 : BitVec 32 := Scalar.divsi v28 c1_i32_11
  let v31 : BitVec 32 := Scalar.muli v30 c1_i32_11
  let v32 : BitVec 32 := Scalar.addi c0_i32_10 v31
  let c1_i32_13 : BitVec 32 := 1#32
  let arg10 : BitVec 32 := Scf.iv v32 c1_i32_13 k0_t2
  let v116 : BitVec 32 := Scalar.muli c2_i32_77 arg10
  let v117 : Index := Scalar.indexCast v116
  let c0_78 : Index := 0#32
  let c0_79 : Index := 0#32
  ![v117.toNat, 0, 0]
def k0_off6 (i : grid0.Coords) (k0_t2 : Fin (k0_t2_loop i).trips) : Fin 3 → Nat :=
  let c2_i32_80 : BitVec 32 := 2#32
  let c0_i32_10 : BitVec 32 := 0#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v28 : BitVec 32 := Scalar.subi v27 c0_i32_10
  let c1_i32_11 : BitVec 32 := 1#32
  let v30 : BitVec 32 := Scalar.divsi v28 c1_i32_11
  let v31 : BitVec 32 := Scalar.muli v30 c1_i32_11
  let v32 : BitVec 32 := Scalar.addi c0_i32_10 v31
  let c1_i32_13 : BitVec 32 := 1#32
  let arg10 : BitVec 32 := Scf.iv v32 c1_i32_13 k0_t2
  let v122 : BitVec 32 := Scalar.muli c2_i32_80 arg10
  let c1_i32_81 : BitVec 32 := 1#32
  let v123 : BitVec 32 := Scalar.addi v122 c1_i32_81
  let v124 : Index := Scalar.indexCast v123
  let c0_82 : Index := 0#32
  let c0_83 : Index := 0#32
  ![v124.toNat, 0, 0]
@[reducible] def k0_t3_loop (i : grid0.Coords) : Scf.Loop 32 :=
  let c2_i32_14 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v33 : BitVec 32 := Scalar.muli c2_i32_14 v27
  let c1_i32_15 : BitVec 32 := 1#32
  let v34 : BitVec 32 := Scalar.addi arg1 c1_i32_15
  let v35 : BitVec 32 := Scalar.subi v34 v33
  let c1_i32_17 : BitVec 32 := 1#32
  let v37 : BitVec 32 := Scalar.divsi v35 c1_i32_17
  let v38 : BitVec 32 := Scalar.muli v37 c1_i32_17
  let v39 : BitVec 32 := Scalar.addi v33 v38
  let c1_i32_18 : BitVec 32 := 1#32
  ⟨v33, v39, c1_i32_18⟩
def k0_mult3 (i : grid0.Coords) (k0_t3 : Fin (k0_t3_loop i).trips) : BitVec 32 :=
  let c2_i32_14 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v33 : BitVec 32 := Scalar.muli c2_i32_14 v27
  let c1_i32_18 : BitVec 32 := 1#32
  let arg10 : BitVec 32 := Scf.iv v33 c1_i32_18 k0_t3
  let c128_i32 : BitVec 32 := 128#32
  let v108 : BitVec 32 := Scalar.muli arg10 c128_i32
  v108
def k0_off7 (i : grid0.Coords) (k0_t3 : Fin (k0_t3_loop i).trips) : Fin 3 → Nat :=
  let c0_73 : Index := 0#32
  let c2_i32_14 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v33 : BitVec 32 := Scalar.muli c2_i32_14 v27
  let c1_i32_18 : BitVec 32 := 1#32
  let arg10 : BitVec 32 := Scf.iv v33 c1_i32_18 k0_t3
  let c128_i32 : BitVec 32 := 128#32
  let v108 : BitVec 32 := Scalar.muli arg10 c128_i32
  let v109 : BitVec 32 := v108
  let v110 : Index := Scalar.indexCast v109
  let c0_74 : Index := 0#32
  ![0, v110.toNat, 0]
def k0_off8 (i : grid0.Coords) (k0_t3 : Fin (k0_t3_loop i).trips) : Fin 3 → Nat :=
  let c2_i32_14 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v33 : BitVec 32 := Scalar.muli c2_i32_14 v27
  let c1_i32_18 : BitVec 32 := 1#32
  let arg10 : BitVec 32 := Scf.iv v33 c1_i32_18 k0_t3
  let v120 : Index := Scalar.indexCast arg10
  let c0_77 : Index := 0#32
  let c0_78 : Index := 0#32
  ![v120.toNat, 0, 0]
@[reducible] def k0_t4_loop (i : grid0.Coords) : Scf.Loop 32 :=
  let c2_i32_14 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v33 : BitVec 32 := Scalar.muli c2_i32_14 v27
  let c1_i32_15 : BitVec 32 := 1#32
  let v34 : BitVec 32 := Scalar.addi arg1 c1_i32_15
  let v35 : BitVec 32 := Scalar.subi v34 v33
  let c1_i32_17 : BitVec 32 := 1#32
  let v37 : BitVec 32 := Scalar.divsi v35 c1_i32_17
  let v38 : BitVec 32 := Scalar.muli v37 c1_i32_17
  let v39 : BitVec 32 := Scalar.addi v33 v38
  let v36 : BitVec 32 := Scalar.addi v33 v35
  let c1_i32_19 : BitVec 32 := 1#32
  ⟨v39, v36, c1_i32_19⟩
def k0_mult4 (i : grid0.Coords) (k0_t4 : Fin (k0_t4_loop i).trips) : BitVec 32 :=
  let c2_i32_14 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v33 : BitVec 32 := Scalar.muli c2_i32_14 v27
  let c1_i32_15 : BitVec 32 := 1#32
  let v34 : BitVec 32 := Scalar.addi arg1 c1_i32_15
  let v35 : BitVec 32 := Scalar.subi v34 v33
  let c1_i32_17 : BitVec 32 := 1#32
  let v37 : BitVec 32 := Scalar.divsi v35 c1_i32_17
  let v38 : BitVec 32 := Scalar.muli v37 c1_i32_17
  let v39 : BitVec 32 := Scalar.addi v33 v38
  let c1_i32_19 : BitVec 32 := 1#32
  let arg10 : BitVec 32 := Scf.iv v39 c1_i32_19 k0_t4
  let c128_i32 : BitVec 32 := 128#32
  let v108 : BitVec 32 := Scalar.muli arg10 c128_i32
  v108
def k0_off9 (i : grid0.Coords) (k0_t4 : Fin (k0_t4_loop i).trips) : Fin 3 → Nat :=
  let c0_73 : Index := 0#32
  let c2_i32_14 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v33 : BitVec 32 := Scalar.muli c2_i32_14 v27
  let c1_i32_15 : BitVec 32 := 1#32
  let v34 : BitVec 32 := Scalar.addi arg1 c1_i32_15
  let v35 : BitVec 32 := Scalar.subi v34 v33
  let c1_i32_17 : BitVec 32 := 1#32
  let v37 : BitVec 32 := Scalar.divsi v35 c1_i32_17
  let v38 : BitVec 32 := Scalar.muli v37 c1_i32_17
  let v39 : BitVec 32 := Scalar.addi v33 v38
  let c1_i32_19 : BitVec 32 := 1#32
  let arg10 : BitVec 32 := Scf.iv v39 c1_i32_19 k0_t4
  let c128_i32 : BitVec 32 := 128#32
  let v108 : BitVec 32 := Scalar.muli arg10 c128_i32
  let v109 : BitVec 32 := v108
  let v110 : Index := Scalar.indexCast v109
  let c0_74 : Index := 0#32
  ![0, v110.toNat, 0]
def k0_off10 (i : grid0.Coords) (k0_t4 : Fin (k0_t4_loop i).trips) : Fin 3 → Nat :=
  let c2_i32_14 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v33 : BitVec 32 := Scalar.muli c2_i32_14 v27
  let c1_i32_15 : BitVec 32 := 1#32
  let v34 : BitVec 32 := Scalar.addi arg1 c1_i32_15
  let v35 : BitVec 32 := Scalar.subi v34 v33
  let c1_i32_17 : BitVec 32 := 1#32
  let v37 : BitVec 32 := Scalar.divsi v35 c1_i32_17
  let v38 : BitVec 32 := Scalar.muli v37 c1_i32_17
  let v39 : BitVec 32 := Scalar.addi v33 v38
  let c1_i32_19 : BitVec 32 := 1#32
  let arg10 : BitVec 32 := Scf.iv v39 c1_i32_19 k0_t4
  let v120 : Index := Scalar.indexCast arg10
  let c0_77 : Index := 0#32
  let c0_78 : Index := 0#32
  ![v120.toNat, 0, 0]
@[reducible] def k0_t5_loop (i : grid0.Coords) : Scf.Loop 32 :=
  let c0_i32_30 : BitVec 32 := 0#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v53 : BitVec 32 := Scalar.subi v27 c0_i32_30
  let c1_i32_31 : BitVec 32 := 1#32
  let v55 : BitVec 32 := Scalar.divsi v53 c1_i32_31
  let v56 : BitVec 32 := Scalar.muli v55 c1_i32_31
  let v57 : BitVec 32 := Scalar.addi c0_i32_30 v56
  let c1_i32_32 : BitVec 32 := 1#32
  ⟨c0_i32_30, v57, c1_i32_32⟩
def k0_mult5 (i : grid0.Coords) (k0_t5 : Fin (k0_t5_loop i).trips) : BitVec 32 :=
  let c0_i32_30 : BitVec 32 := 0#32
  let c1_i32_32 : BitVec 32 := 1#32
  let arg10 : BitVec 32 := Scf.iv c0_i32_30 c1_i32_32 k0_t5
  let c2_i32_73 : BitVec 32 := 2#32
  let v108 : BitVec 32 := Scalar.muli arg10 c2_i32_73
  let c128_i32 : BitVec 32 := 128#32
  let v109 : BitVec 32 := Scalar.muli v108 c128_i32
  v109
def k0_off11 (i : grid0.Coords) (k0_t5 : Fin (k0_t5_loop i).trips) : Fin 3 → Nat :=
  let c0_74 : Index := 0#32
  let c0_i32_30 : BitVec 32 := 0#32
  let c1_i32_32 : BitVec 32 := 1#32
  let arg10 : BitVec 32 := Scf.iv c0_i32_30 c1_i32_32 k0_t5
  let c2_i32_73 : BitVec 32 := 2#32
  let v108 : BitVec 32 := Scalar.muli arg10 c2_i32_73
  let c128_i32 : BitVec 32 := 128#32
  let v109 : BitVec 32 := Scalar.muli v108 c128_i32
  let v110 : BitVec 32 := v109
  let v111 : Index := Scalar.indexCast v110
  let c0_75 : Index := 0#32
  ![0, v111.toNat, 0]
def k0_off12 (i : grid0.Coords) (k0_t5 : Fin (k0_t5_loop i).trips) : Fin 3 → Nat :=
  let c2_i32_76 : BitVec 32 := 2#32
  let c0_i32_30 : BitVec 32 := 0#32
  let c1_i32_32 : BitVec 32 := 1#32
  let arg10 : BitVec 32 := Scf.iv c0_i32_30 c1_i32_32 k0_t5
  let v114 : BitVec 32 := Scalar.muli c2_i32_76 arg10
  let v115 : Index := Scalar.indexCast v114
  let c0_77 : Index := 0#32
  let c0_78 : Index := 0#32
  ![v115.toNat, 0, 0]
def k0_off13 (i : grid0.Coords) (k0_t5 : Fin (k0_t5_loop i).trips) : Fin 3 → Nat :=
  let c2_i32_79 : BitVec 32 := 2#32
  let c0_i32_30 : BitVec 32 := 0#32
  let c1_i32_32 : BitVec 32 := 1#32
  let arg10 : BitVec 32 := Scf.iv c0_i32_30 c1_i32_32 k0_t5
  let v120 : BitVec 32 := Scalar.muli c2_i32_79 arg10
  let c1_i32_80 : BitVec 32 := 1#32
  let v121 : BitVec 32 := Scalar.addi v120 c1_i32_80
  let v122 : Index := Scalar.indexCast v121
  let c0_81 : Index := 0#32
  let c0_82 : Index := 0#32
  ![v122.toNat, 0, 0]
@[reducible] def k0_t6_loop (i : grid0.Coords) : Scf.Loop 32 :=
  let c0_i32_30 : BitVec 32 := 0#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v53 : BitVec 32 := Scalar.subi v27 c0_i32_30
  let c1_i32_31 : BitVec 32 := 1#32
  let v55 : BitVec 32 := Scalar.divsi v53 c1_i32_31
  let v56 : BitVec 32 := Scalar.muli v55 c1_i32_31
  let v57 : BitVec 32 := Scalar.addi c0_i32_30 v56
  let v54 : BitVec 32 := Scalar.addi c0_i32_30 v53
  let c1_i32_33 : BitVec 32 := 1#32
  ⟨v57, v54, c1_i32_33⟩
def k0_mult6 (i : grid0.Coords) (k0_t6 : Fin (k0_t6_loop i).trips) : BitVec 32 :=
  let c0_i32_30 : BitVec 32 := 0#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v53 : BitVec 32 := Scalar.subi v27 c0_i32_30
  let c1_i32_31 : BitVec 32 := 1#32
  let v55 : BitVec 32 := Scalar.divsi v53 c1_i32_31
  let v56 : BitVec 32 := Scalar.muli v55 c1_i32_31
  let v57 : BitVec 32 := Scalar.addi c0_i32_30 v56
  let c1_i32_33 : BitVec 32 := 1#32
  let arg10 : BitVec 32 := Scf.iv v57 c1_i32_33 k0_t6
  let c2_i32_73 : BitVec 32 := 2#32
  let v108 : BitVec 32 := Scalar.muli arg10 c2_i32_73
  let c128_i32 : BitVec 32 := 128#32
  let v109 : BitVec 32 := Scalar.muli v108 c128_i32
  v109
def k0_off14 (i : grid0.Coords) (k0_t6 : Fin (k0_t6_loop i).trips) : Fin 3 → Nat :=
  let c0_74 : Index := 0#32
  let c0_i32_30 : BitVec 32 := 0#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v53 : BitVec 32 := Scalar.subi v27 c0_i32_30
  let c1_i32_31 : BitVec 32 := 1#32
  let v55 : BitVec 32 := Scalar.divsi v53 c1_i32_31
  let v56 : BitVec 32 := Scalar.muli v55 c1_i32_31
  let v57 : BitVec 32 := Scalar.addi c0_i32_30 v56
  let c1_i32_33 : BitVec 32 := 1#32
  let arg10 : BitVec 32 := Scf.iv v57 c1_i32_33 k0_t6
  let c2_i32_73 : BitVec 32 := 2#32
  let v108 : BitVec 32 := Scalar.muli arg10 c2_i32_73
  let c128_i32 : BitVec 32 := 128#32
  let v109 : BitVec 32 := Scalar.muli v108 c128_i32
  let v110 : BitVec 32 := v109
  let v111 : Index := Scalar.indexCast v110
  let c0_75 : Index := 0#32
  ![0, v111.toNat, 0]
def k0_off15 (i : grid0.Coords) (k0_t6 : Fin (k0_t6_loop i).trips) : Fin 3 → Nat :=
  let c2_i32_76 : BitVec 32 := 2#32
  let c0_i32_30 : BitVec 32 := 0#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v53 : BitVec 32 := Scalar.subi v27 c0_i32_30
  let c1_i32_31 : BitVec 32 := 1#32
  let v55 : BitVec 32 := Scalar.divsi v53 c1_i32_31
  let v56 : BitVec 32 := Scalar.muli v55 c1_i32_31
  let v57 : BitVec 32 := Scalar.addi c0_i32_30 v56
  let c1_i32_33 : BitVec 32 := 1#32
  let arg10 : BitVec 32 := Scf.iv v57 c1_i32_33 k0_t6
  let v114 : BitVec 32 := Scalar.muli c2_i32_76 arg10
  let v115 : Index := Scalar.indexCast v114
  let c0_77 : Index := 0#32
  let c0_78 : Index := 0#32
  ![v115.toNat, 0, 0]
def k0_off16 (i : grid0.Coords) (k0_t6 : Fin (k0_t6_loop i).trips) : Fin 3 → Nat :=
  let c2_i32_79 : BitVec 32 := 2#32
  let c0_i32_30 : BitVec 32 := 0#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v53 : BitVec 32 := Scalar.subi v27 c0_i32_30
  let c1_i32_31 : BitVec 32 := 1#32
  let v55 : BitVec 32 := Scalar.divsi v53 c1_i32_31
  let v56 : BitVec 32 := Scalar.muli v55 c1_i32_31
  let v57 : BitVec 32 := Scalar.addi c0_i32_30 v56
  let c1_i32_33 : BitVec 32 := 1#32
  let arg10 : BitVec 32 := Scf.iv v57 c1_i32_33 k0_t6
  let v120 : BitVec 32 := Scalar.muli c2_i32_79 arg10
  let c1_i32_80 : BitVec 32 := 1#32
  let v121 : BitVec 32 := Scalar.addi v120 c1_i32_80
  let v122 : Index := Scalar.indexCast v121
  let c0_81 : Index := 0#32
  let c0_82 : Index := 0#32
  ![v122.toNat, 0, 0]
@[reducible] def k0_t7_loop (i : grid0.Coords) : Scf.Loop 32 :=
  let c2_i32_34 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v58 : BitVec 32 := Scalar.muli c2_i32_34 v27
  let c1_i32_35 : BitVec 32 := 1#32
  let v59 : BitVec 32 := Scalar.addi arg1 c1_i32_35
  let v60 : BitVec 32 := Scalar.subi v59 v58
  let c1_i32_37 : BitVec 32 := 1#32
  let v62 : BitVec 32 := Scalar.divsi v60 c1_i32_37
  let v63 : BitVec 32 := Scalar.muli v62 c1_i32_37
  let v64 : BitVec 32 := Scalar.addi v58 v63
  let c1_i32_38 : BitVec 32 := 1#32
  ⟨v58, v64, c1_i32_38⟩
def k0_mult7 (i : grid0.Coords) (k0_t7 : Fin (k0_t7_loop i).trips) : BitVec 32 :=
  let c2_i32_34 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v58 : BitVec 32 := Scalar.muli c2_i32_34 v27
  let c1_i32_38 : BitVec 32 := 1#32
  let arg10 : BitVec 32 := Scf.iv v58 c1_i32_38 k0_t7
  let c128_i32 : BitVec 32 := 128#32
  let v108 : BitVec 32 := Scalar.muli arg10 c128_i32
  v108
def k0_off17 (i : grid0.Coords) (k0_t7 : Fin (k0_t7_loop i).trips) : Fin 3 → Nat :=
  let c0_73 : Index := 0#32
  let c2_i32_34 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v58 : BitVec 32 := Scalar.muli c2_i32_34 v27
  let c1_i32_38 : BitVec 32 := 1#32
  let arg10 : BitVec 32 := Scf.iv v58 c1_i32_38 k0_t7
  let c128_i32 : BitVec 32 := 128#32
  let v108 : BitVec 32 := Scalar.muli arg10 c128_i32
  let v109 : BitVec 32 := v108
  let v110 : Index := Scalar.indexCast v109
  let c0_74 : Index := 0#32
  ![0, v110.toNat, 0]
def k0_off18 (i : grid0.Coords) (k0_t7 : Fin (k0_t7_loop i).trips) : Fin 3 → Nat :=
  let c2_i32_34 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v58 : BitVec 32 := Scalar.muli c2_i32_34 v27
  let c1_i32_38 : BitVec 32 := 1#32
  let arg10 : BitVec 32 := Scf.iv v58 c1_i32_38 k0_t7
  let v113 : Index := Scalar.indexCast arg10
  let c0_75 : Index := 0#32
  let c0_76 : Index := 0#32
  ![v113.toNat, 0, 0]
@[reducible] def k0_t8_loop (i : grid0.Coords) : Scf.Loop 32 :=
  let c2_i32_34 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v58 : BitVec 32 := Scalar.muli c2_i32_34 v27
  let c1_i32_35 : BitVec 32 := 1#32
  let v59 : BitVec 32 := Scalar.addi arg1 c1_i32_35
  let v60 : BitVec 32 := Scalar.subi v59 v58
  let c1_i32_37 : BitVec 32 := 1#32
  let v62 : BitVec 32 := Scalar.divsi v60 c1_i32_37
  let v63 : BitVec 32 := Scalar.muli v62 c1_i32_37
  let v64 : BitVec 32 := Scalar.addi v58 v63
  let v61 : BitVec 32 := Scalar.addi v58 v60
  let c1_i32_39 : BitVec 32 := 1#32
  ⟨v64, v61, c1_i32_39⟩
def k0_mult8 (i : grid0.Coords) (k0_t8 : Fin (k0_t8_loop i).trips) : BitVec 32 :=
  let c2_i32_34 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v58 : BitVec 32 := Scalar.muli c2_i32_34 v27
  let c1_i32_35 : BitVec 32 := 1#32
  let v59 : BitVec 32 := Scalar.addi arg1 c1_i32_35
  let v60 : BitVec 32 := Scalar.subi v59 v58
  let c1_i32_37 : BitVec 32 := 1#32
  let v62 : BitVec 32 := Scalar.divsi v60 c1_i32_37
  let v63 : BitVec 32 := Scalar.muli v62 c1_i32_37
  let v64 : BitVec 32 := Scalar.addi v58 v63
  let c1_i32_39 : BitVec 32 := 1#32
  let arg10 : BitVec 32 := Scf.iv v64 c1_i32_39 k0_t8
  let c128_i32 : BitVec 32 := 128#32
  let v108 : BitVec 32 := Scalar.muli arg10 c128_i32
  v108
def k0_off19 (i : grid0.Coords) (k0_t8 : Fin (k0_t8_loop i).trips) : Fin 3 → Nat :=
  let c0_73 : Index := 0#32
  let c2_i32_34 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v58 : BitVec 32 := Scalar.muli c2_i32_34 v27
  let c1_i32_35 : BitVec 32 := 1#32
  let v59 : BitVec 32 := Scalar.addi arg1 c1_i32_35
  let v60 : BitVec 32 := Scalar.subi v59 v58
  let c1_i32_37 : BitVec 32 := 1#32
  let v62 : BitVec 32 := Scalar.divsi v60 c1_i32_37
  let v63 : BitVec 32 := Scalar.muli v62 c1_i32_37
  let v64 : BitVec 32 := Scalar.addi v58 v63
  let c1_i32_39 : BitVec 32 := 1#32
  let arg10 : BitVec 32 := Scf.iv v64 c1_i32_39 k0_t8
  let c128_i32 : BitVec 32 := 128#32
  let v108 : BitVec 32 := Scalar.muli arg10 c128_i32
  let v109 : BitVec 32 := v108
  let v110 : Index := Scalar.indexCast v109
  let c0_74 : Index := 0#32
  ![0, v110.toNat, 0]
def k0_off20 (i : grid0.Coords) (k0_t8 : Fin (k0_t8_loop i).trips) : Fin 3 → Nat :=
  let c2_i32_34 : BitVec 32 := 2#32
  let arg1 : BitVec 32 := BitVec.ofNat 32 (i 1).val
  let c0_i32 : BitVec 32 := 0#32
  let v12 : BitVec 1 := Scalar.cmpi .sgt arg1 c0_i32
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c2_i32 : BitVec 32 := 2#32
  let c0_i32_6 : BitVec 32 := 0#32
  let v17 : BitVec 1 := Scalar.cmpi .sgt c2_i32 c0_i32_6
  let v18 : BitVec 32 := Scalar.extui v17
  let c0_i32_7 : BitVec 32 := 0#32
  let v19 : BitVec 1 := Scalar.cmpi .slt c2_i32 c0_i32_7
  let v20 : BitVec 32 := Scalar.extui v19
  let v21 : BitVec 32 := Scalar.subi v18 v20
  let v22 : BitVec 1 := Scalar.cmpi .ne v16 v21
  let v23 : BitVec 32 := Scalar.remsi arg1 c2_i32
  let c0_i32_8 : BitVec 32 := 0#32
  let v24 : BitVec 1 := Scalar.cmpi .ne v23 c0_i32_8
  let v25 : BitVec 1 := Scalar.andi v22 v24
  let v11 : BitVec 32 := Scalar.divsi arg1 c2_i32
  let c1_i32 : BitVec 32 := 1#32
  let v26 : BitVec 32 := Scalar.subi v11 c1_i32
  let v27 : BitVec 32 := Scalar.select v25 v26 v11
  let v58 : BitVec 32 := Scalar.muli c2_i32_34 v27
  let c1_i32_35 : BitVec 32 := 1#32
  let v59 : BitVec 32 := Scalar.addi arg1 c1_i32_35
  let v60 : BitVec 32 := Scalar.subi v59 v58
  let c1_i32_37 : BitVec 32 := 1#32
  let v62 : BitVec 32 := Scalar.divsi v60 c1_i32_37
  let v63 : BitVec 32 := Scalar.muli v62 c1_i32_37
  let v64 : BitVec 32 := Scalar.addi v58 v63
  let c1_i32_39 : BitVec 32 := 1#32
  let arg10 : BitVec 32 := Scf.iv v64 c1_i32_39 k0_t8
  let v113 : Index := Scalar.indexCast arg10
  let c0_75 : Index := 0#32
  let c0_76 : Index := 0#32
  ![v113.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x8x2176x256 : Shape := ⟨4, ![16, 8, 2176, 256]⟩
abbrev S16x2176x256 : Shape := ⟨3, ![16, 2176, 256]⟩
abbrev S128x8x64 : Shape := ⟨3, ![128, 8, 64]⟩
abbrev S2176 : Shape := ⟨1, ![2176]⟩
abbrev S16x8x2176x128 : Shape := ⟨4, ![16, 8, 2176, 128]⟩
abbrev S16x2176x128 : Shape := ⟨3, ![16, 2176, 128]⟩
abbrev S16x8x2176x2176 : Shape := ⟨4, ![16, 8, 2176, 2176]⟩
abbrev S1x2176 : Shape := ⟨2, ![1, 2176]⟩
abbrev S2176x1 : Shape := ⟨2, ![2176, 1]⟩
abbrev S2176x2176 : Shape := ⟨2, ![2176, 2176]⟩
abbrev S_ : Shape := ⟨0, ![]⟩
abbrev S16x8x2176 : Shape := ⟨3, ![16, 8, 2176]⟩
abbrev S16x8x2176x1 : Shape := ⟨4, ![16, 8, 2176, 1]⟩
abbrev S16x128x8x2176 : Shape := ⟨4, ![16, 128, 8, 2176]⟩
abbrev S16x2176x8x128 : Shape := ⟨4, ![16, 2176, 8, 128]⟩
abbrev S8x64x16x2176 : Shape := ⟨4, ![8, 64, 16, 2176]⟩
abbrev S16x2176x8x64 : Shape := ⟨4, ![16, 2176, 8, 64]⟩
abbrev S16x2176x512 : Shape := ⟨3, ![16, 2176, 512]⟩

abbrev nBuf : Space → Nat
  | .hbm => 43
  | .vmem => 0
  | .smem => 0
  | _ => 0

abbrev bufTy : (tb : Table) → Fin (tcTables nBuf tb) → BufTy
  | .hbm, ⟨0, _⟩ => ⟨S16x8x2176x256, .bf16⟩
  | .hbm, ⟨1, _⟩ => ⟨S16x2176x256, .bf16⟩
  | .hbm, ⟨2, _⟩ => ⟨S128x8x64, .f32⟩
  | .hbm, ⟨3, _⟩ => ⟨S16x8x2176x256, .f32⟩
  | .hbm, ⟨4, _⟩ => ⟨S16x2176x256, .f32⟩
  | .hbm, ⟨5, _⟩ => ⟨S2176, .i32⟩
  | .hbm, ⟨6, _⟩ => ⟨S16x8x2176x128, .f32⟩
  | .hbm, ⟨7, _⟩ => ⟨S16x2176x128, .f32⟩
  | .hbm, ⟨8, _⟩ => ⟨S16x8x2176x2176, .f32⟩
  | .hbm, ⟨9, _⟩ => ⟨S16x8x2176x128, .f32⟩
  | .hbm, ⟨10, _⟩ => ⟨S16x2176x128, .f32⟩
  | .hbm, ⟨11, _⟩ => ⟨S16x8x2176x2176, .f32⟩
  | .hbm, ⟨12, _⟩ => ⟨S16x8x2176x2176, .f32⟩
  | .hbm, ⟨13, _⟩ => ⟨S1x2176, .i32⟩
  | .hbm, ⟨14, _⟩ => ⟨S2176x1, .i32⟩
  | .hbm, ⟨15, _⟩ => ⟨S2176x2176, .i32⟩
  | .hbm, ⟨16, _⟩ => ⟨S2176x2176, .i32⟩
  | .hbm, ⟨17, _⟩ => ⟨S2176x2176, .i1⟩
  | .hbm, ⟨18, _⟩ => ⟨S_, .f32⟩
  | .hbm, ⟨19, _⟩ => ⟨S_, .f32⟩
  | .hbm, ⟨20, _⟩ => ⟨S16x8x2176x2176, .i1⟩
  | .hbm, ⟨21, _⟩ => ⟨S16x8x2176x2176, .f32⟩
  | .hbm, ⟨22, _⟩ => ⟨S16x8x2176x2176, .f32⟩
  | .hbm, ⟨23, _⟩ => ⟨S_, .f32⟩
  | .hbm, ⟨24, _⟩ => ⟨S16x8x2176, .f32⟩
  | .hbm, ⟨25, _⟩ => ⟨S_, .f32⟩
  | .hbm, ⟨26, _⟩ => ⟨S16x8x2176, .f32⟩
  | .hbm, ⟨27, _⟩ => ⟨S16x8x2176, .f32⟩
  | .hbm, ⟨28, _⟩ => ⟨S16x8x2176x1, .f32⟩
  | .hbm, ⟨29, _⟩ => ⟨S16x8x2176x2176, .f32⟩
  | .hbm, ⟨30, _⟩ => ⟨S16x8x2176x2176, .f32⟩
  | .hbm, ⟨31, _⟩ => ⟨S16x8x2176x2176, .f32⟩
  | .hbm, ⟨32, _⟩ => ⟨S_, .f32⟩
  | .hbm, ⟨33, _⟩ => ⟨S16x8x2176, .f32⟩
  | .hbm, ⟨34, _⟩ => ⟨S16x8x2176x1, .f32⟩
  | .hbm, ⟨35, _⟩ => ⟨S16x8x2176x2176, .f32⟩
  | .hbm, ⟨36, _⟩ => ⟨S16x8x2176x2176, .f32⟩
  | .hbm, ⟨37, _⟩ => ⟨S16x2176x128, .f32⟩
  | .hbm, ⟨38, _⟩ => ⟨S16x128x8x2176, .f32⟩
  | .hbm, ⟨39, _⟩ => ⟨S16x2176x8x128, .f32⟩
  | .hbm, ⟨40, _⟩ => ⟨S8x64x16x2176, .f32⟩
  | .hbm, ⟨41, _⟩ => ⟨S16x2176x8x64, .f32⟩
  | .hbm, ⟨42, _⟩ => ⟨S16x2176x512, .f32⟩
  | _, _ => ⟨S16x8x2176x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel2.lean ====
abbrev S16x2176x1024 : Shape := ⟨3, ![16, 2176, 1024]⟩
abbrev S1024x2920 : Shape := ⟨2, ![1024, 2920]⟩
abbrev S256 : Shape := ⟨1, ![256]⟩
abbrev S128 : Shape := ⟨1, ![128]⟩
abbrev S256x768 : Shape := ⟨2, ![256, 768]⟩
abbrev S128x8x64 : Shape := ⟨3, ![128, 8, 64]⟩
abbrev S8x64x128 : Shape := ⟨3, ![8, 64, 128]⟩
abbrev S1024x256 : Shape := ⟨2, ![1024, 256]⟩
abbrev S1024x64 : Shape := ⟨2, ![1024, 64]⟩
abbrev S1024x512 : Shape := ⟨2, ![1024, 512]⟩
abbrev S1024x8 : Shape := ⟨2, ![1024, 8]⟩
abbrev S_ : Shape := ⟨0, ![]⟩
abbrev S1024x56 : Shape := ⟨2, ![1024, 56]⟩
abbrev S1024x1024 : Shape := ⟨2, ![1024, 1024]⟩
abbrev S1024x128 : Shape := ⟨2, ![1024, 128]⟩
abbrev S1024x32 : Shape := ⟨2, ![1024, 32]⟩
abbrev S1024x96 : Shape := ⟨2, ![1024, 96]⟩
abbrev S1024x2048 : Shape := ⟨2, ![1024, 2048]⟩
abbrev S1024x3072 : Shape := ⟨2, ![1024, 3072]⟩
abbrev S1x256 : Shape := ⟨2, ![1, 256]⟩
abbrev S1x128 : Shape := ⟨2, ![1, 128]⟩
abbrev S256x8x96 : Shape := ⟨3, ![256, 8, 96]⟩
abbrev S256x8x64 : Shape := ⟨3, ![256, 8, 64]⟩
abbrev S256x512 : Shape := ⟨2, ![256, 512]⟩
abbrev S256x8x16 : Shape := ⟨3, ![256, 8, 16]⟩
abbrev S256x128 : Shape := ⟨2, ![256, 128]⟩
abbrev S256x1 : Shape := ⟨2, ![256, 1]⟩
abbrev S1x256x128 : Shape := ⟨3, ![1, 256, 128]⟩
abbrev S8x256x128 : Shape := ⟨3, ![8, 256, 128]⟩
abbrev S2176 : Shape := ⟨1, ![2176]⟩
abbrev S16 : Shape := ⟨1, ![16]⟩
abbrev S2176x1 : Shape := ⟨2, ![2176, 1]⟩
abbrev S1x16 : Shape := ⟨2, ![1, 16]⟩
abbrev S2176x16 : Shape := ⟨2, ![2176, 16]⟩
abbrev S1x2176x1x16 : Shape := ⟨4, ![1, 2176, 1, 16]⟩
abbrev S1x2176x8x16 : Shape := ⟨4, ![1, 2176, 8, 16]⟩
abbrev S2176x128 : Shape := ⟨2, ![2176, 128]⟩
abbrev S2176x96 : Shape := ⟨2, ![2176, 96]⟩
abbrev S16x4x2176x64 : Shape := ⟨4, ![16, 4, 2176, 64]⟩
abbrev S16x2064x128 : Shape := ⟨3, ![16, 2064, 128]⟩
abbrev S16x2176x128 : Shape := ⟨3, ![16, 2176, 128]⟩
abbrev S16x8x2176x64 : Shape := ⟨4, ![16, 8, 2176, 64]⟩
abbrev S16x2064x64 : Shape := ⟨3, ![16, 2064, 64]⟩
abbrev S16x2064x256 : Shape := ⟨3, ![16, 2064, 256]⟩
abbrev S16x8x2176x256 : Shape := ⟨4, ![16, 8, 2176, 256]⟩
abbrev S16x2064x160 : Shape := ⟨3, ![16, 2064, 160]⟩
abbrev S16x2176x256 : Shape := ⟨3, ![16, 2176, 256]⟩
abbrev S1x544x1024 : Shape := ⟨3, ![1, 544, 1024]⟩
abbrev S544x128 : Shape := ⟨2, ![544, 128]⟩
abbrev S1x4x544x64 : Shape := ⟨4, ![1, 4, 544, 64]⟩
abbrev S1x544x128 : Shape := ⟨3, ![1, 544, 128]⟩
abbrev S1x8x544x64 : Shape := ⟨4, ![1, 8, 544, 64]⟩
abbrev S1x544x64 : Shape := ⟨3, ![1, 544, 64]⟩
abbrev S1x544x256 : Shape := ⟨3, ![1, 544, 256]⟩
abbrev S1x8x544x256 : Shape := ⟨4, ![1, 8, 544, 256]⟩
abbrev S1x544x160 : Shape := ⟨3, ![1, 544, 160]⟩
abbrev S544x1024 : Shape := ⟨2, ![544, 1024]⟩
abbrev S544x256 : Shape := ⟨2, ![544, 256]⟩
abbrev S544x64 : Shape := ⟨2, ![544, 64]⟩
abbrev S1x1x544x64 : Shape := ⟨4, ![1, 1, 544, 64]⟩
abbrev S544x512 : Shape := ⟨2, ![544, 512]⟩
abbrev S544 : Shape := ⟨1, ![544]⟩
abbrev S544x1 : Shape := ⟨2, ![544, 1]⟩
abbrev S544x768 : Shape := ⟨2, ![544, 768]⟩
abbrev S1x64x128 : Shape := ⟨3, ![1, 64, 128]⟩
abbrev S64x128 : Shape := ⟨2, ![64, 128]⟩
abbrev S1x1x544x256 : Shape := ⟨4, ![1, 1, 544, 256]⟩
abbrev S544x32 : Shape := ⟨2, ![544, 32]⟩
abbrev S1x544x32 : Shape := ⟨3, ![1, 544, 32]⟩

abbrev nBuf : Space → Nat
  | .hbm => 349
  | .vmem => 46
  | .smem => 0
  | _ => 0

abbrev hbmTy0_0 (i : Nat) : BufTy := match i % 128 with
  | 0 => ⟨S16x2176x1024, .f32⟩
  | 1 => ⟨S1024x2920, .f32⟩
  | 2 => ⟨S256, .f32⟩
  | 3 => ⟨S128, .f32⟩
  | 4 => ⟨S256x768, .f32⟩
  | 5 => ⟨S128x8x64, .f32⟩
  | 6 => ⟨S8x64x128, .f32⟩
  | 7 => ⟨S8x64x128, .bf16⟩
  | 8 => ⟨S1024x256, .f32⟩
  | 9 => ⟨S1024x64, .f32⟩
  | 10 => ⟨S1024x64, .f32⟩
  | 11 => ⟨S1024x512, .f32⟩
  | 12 => ⟨S1024x64, .f32⟩
  | 13 => ⟨S1024x8, .f32⟩
  | 14 => ⟨S_, .f32⟩
  | 15 => ⟨S1024x56, .f32⟩
  | 16 => ⟨S1024x1024, .f32⟩
  | 17 => ⟨S1024x256, .f32⟩
  | 18 => ⟨S1024x256, .f32⟩
  | 19 => ⟨S1024x512, .f32⟩
  | 20 => ⟨S1024x256, .f32⟩
  | 21 => ⟨S1024x128, .f32⟩
  | 22 => ⟨S1024x128, .f32⟩
  | 23 => ⟨S1024x256, .f32⟩
  | 24 => ⟨S1024x128, .f32⟩
  | 25 => ⟨S1024x32, .f32⟩
  | 26 => ⟨S_, .f32⟩
  | 27 => ⟨S1024x96, .f32⟩
  | 28 => ⟨S1024x2048, .f32⟩
  | 29 => ⟨S1024x3072, .f32⟩
  | 30 => ⟨S1024x3072, .bf16⟩
  | 31 => ⟨S1x256, .f32⟩
  | 32 => ⟨S1x128, .f32⟩
  | 33 => ⟨S256x8x96, .f32⟩
  | 34 => ⟨S256x8x64, .f32⟩
  | 35 => ⟨S256x512, .f32⟩
  | 36 => ⟨S256x8x16, .f32⟩
  | 37 => ⟨S256x128, .f32⟩
  | 38 => ⟨S256x8x16, .f32⟩
  | 39 => ⟨S256x128, .f32⟩
  | 40 => ⟨S256x768, .f32⟩
  | 41 => ⟨S256x768, .bf16⟩
  | 42 => ⟨S256, .i32⟩
  | 43 => ⟨S256x1, .i32⟩
  | 44 => ⟨S128, .i32⟩
  | 45 => ⟨S1x128, .i32⟩
  | 46 => ⟨S_, .i32⟩
  | 47 => ⟨S1x128, .i32⟩
  | 48 => ⟨S1x128, .i32⟩
  | 49 => ⟨S256x128, .i32⟩
  | 50 => ⟨S256x128, .i32⟩
  | 51 => ⟨S256x128, .i1⟩
  | 52 => ⟨S_, .i32⟩
  | 53 => ⟨S1x128, .i32⟩
  | 54 => ⟨S1x128, .i1⟩
  | 55 => ⟨S256x128, .i1⟩
  | 56 => ⟨S256x128, .i1⟩
  | 57 => ⟨S_, .i32⟩
  | 58 => ⟨S1x128, .i32⟩
  | 59 => ⟨S1x128, .i32⟩
  | 60 => ⟨S_, .i32⟩
  | 61 => ⟨S1x128, .i32⟩
  | 62 => ⟨S1x128, .i32⟩
  | 63 => ⟨S256x128, .i32⟩
  | 64 => ⟨S256x128, .i32⟩
  | 65 => ⟨S256x128, .i1⟩
  | 66 => ⟨S_, .i32⟩
  | 67 => ⟨S1x128, .i32⟩
  | 68 => ⟨S1x128, .i1⟩
  | 69 => ⟨S256x128, .i1⟩
  | 70 => ⟨S256x128, .i1⟩
  | 71 => ⟨S_, .i32⟩
  | 72 => ⟨S1x128, .i32⟩
  | 73 => ⟨S1x128, .i1⟩
  | 74 => ⟨S256x128, .i1⟩
  | 75 => ⟨S256x128, .i1⟩
  | 76 => ⟨S256x128, .i1⟩
  | 77 => ⟨S_, .i32⟩
  | 78 => ⟨S1x128, .i32⟩
  | 79 => ⟨S1x128, .i32⟩
  | 80 => ⟨S256x128, .i32⟩
  | 81 => ⟨S256x128, .i32⟩
  | 82 => ⟨S256x128, .i1⟩
  | 83 => ⟨S_, .i32⟩
  | 84 => ⟨S1x128, .i32⟩
  | 85 => ⟨S1x128, .i1⟩
  | 86 => ⟨S256x128, .i1⟩
  | 87 => ⟨S256x128, .i1⟩
  | 88 => ⟨S_, .i32⟩
  | 89 => ⟨S1x128, .i32⟩
  | 90 => ⟨S1x128, .i32⟩
  | 91 => ⟨S_, .i32⟩
  | 92 => ⟨S1x128, .i32⟩
  | 93 => ⟨S1x128, .i32⟩
  | 94 => ⟨S256x128, .i32⟩
  | 95 => ⟨S256x128, .i32⟩
  | 96 => ⟨S256x128, .i1⟩
  | 97 => ⟨S_, .i32⟩
  | 98 => ⟨S1x128, .i32⟩
  | 99 => ⟨S1x128, .i1⟩
  | 100 => ⟨S256x128, .i1⟩
  | 101 => ⟨S256x128, .i1⟩
  | 102 => ⟨S_, .i32⟩
  | 103 => ⟨S1x128, .i32⟩
  | 104 => ⟨S1x128, .i1⟩
  | 105 => ⟨S256x128, .i1⟩
  | 106 => ⟨S256x128, .i1⟩
  | 107 => ⟨S256x128, .i1⟩
  | 108 => ⟨S_, .i32⟩
  | 109 => ⟨S1x128, .i32⟩
  | 110 => ⟨S1x128, .i32⟩
  | 111 => ⟨S256x128, .i32⟩
  | 112 => ⟨S256x128, .i32⟩
  | 113 => ⟨S256x128, .i1⟩
  | 114 => ⟨S_, .i32⟩
  | 115 => ⟨S1x128, .i32⟩
  | 116 => ⟨S1x128, .i1⟩
  | 117 => ⟨S256x128, .i1⟩
  | 118 => ⟨S256x128, .i1⟩
  | 119 => ⟨S_, .i32⟩
  | 120 => ⟨S1x128, .i32⟩
  | 121 => ⟨S1x128, .i32⟩
  | 122 => ⟨S_, .i32⟩
  | 123 => ⟨S1x128, .i32⟩
  | 124 => ⟨S1x128, .i32⟩
  | 125 => ⟨S256x128, .i32⟩
  | 126 => ⟨S256x128, .i32⟩
  | 127 => ⟨S256x128, .i1⟩
  | _ => ⟨S16x2176x1024, .f32⟩

abbrev hbmTy0_1 (i : Nat) : BufTy := match i % 128 with
  | 0 => ⟨S_, .i32⟩
  | 1 => ⟨S1x128, .i32⟩
  | 2 => ⟨S1x128, .i1⟩
  | 3 => ⟨S256x128, .i1⟩
  | 4 => ⟨S256x128, .i1⟩
  | 5 => ⟨S_, .i32⟩
  | 6 => ⟨S1x128, .i32⟩
  | 7 => ⟨S1x128, .i1⟩
  | 8 => ⟨S256x128, .i1⟩
  | 9 => ⟨S256x128, .i1⟩
  | 10 => ⟨S256x128, .i1⟩
  | 11 => ⟨S_, .i32⟩
  | 12 => ⟨S1x128, .i32⟩
  | 13 => ⟨S1x128, .i32⟩
  | 14 => ⟨S256x128, .i32⟩
  | 15 => ⟨S256x128, .i32⟩
  | 16 => ⟨S256x128, .i1⟩
  | 17 => ⟨S_, .i32⟩
  | 18 => ⟨S1x128, .i32⟩
  | 19 => ⟨S1x128, .i1⟩
  | 20 => ⟨S256x128, .i1⟩
  | 21 => ⟨S256x128, .i1⟩
  | 22 => ⟨S_, .i32⟩
  | 23 => ⟨S1x128, .i32⟩
  | 24 => ⟨S1x128, .i32⟩
  | 25 => ⟨S_, .i32⟩
  | 26 => ⟨S1x128, .i32⟩
  | 27 => ⟨S1x128, .i32⟩
  | 28 => ⟨S256x128, .i32⟩
  | 29 => ⟨S256x128, .i32⟩
  | 30 => ⟨S256x128, .i1⟩
  | 31 => ⟨S_, .i32⟩
  | 32 => ⟨S1x128, .i32⟩
  | 33 => ⟨S1x128, .i1⟩
  | 34 => ⟨S256x128, .i1⟩
  | 35 => ⟨S256x128, .i1⟩
  | 36 => ⟨S_, .i32⟩
  | 37 => ⟨S1x128, .i32⟩
  | 38 => ⟨S1x128, .i1⟩
  | 39 => ⟨S256x128, .i1⟩
  | 40 => ⟨S256x128, .i1⟩
  | 41 => ⟨S256x128, .i1⟩
  | 42 => ⟨S_, .i32⟩
  | 43 => ⟨S1x128, .i32⟩
  | 44 => ⟨S1x128, .i32⟩
  | 45 => ⟨S256x128, .i32⟩
  | 46 => ⟨S256x128, .i32⟩
  | 47 => ⟨S256x128, .i1⟩
  | 48 => ⟨S_, .i32⟩
  | 49 => ⟨S1x128, .i32⟩
  | 50 => ⟨S1x128, .i1⟩
  | 51 => ⟨S256x128, .i1⟩
  | 52 => ⟨S256x128, .i1⟩
  | 53 => ⟨S_, .i32⟩
  | 54 => ⟨S1x128, .i32⟩
  | 55 => ⟨S1x128, .i32⟩
  | 56 => ⟨S_, .i32⟩
  | 57 => ⟨S1x128, .i32⟩
  | 58 => ⟨S1x128, .i32⟩
  | 59 => ⟨S256x128, .i32⟩
  | 60 => ⟨S256x128, .i32⟩
  | 61 => ⟨S256x128, .i1⟩
  | 62 => ⟨S_, .i32⟩
  | 63 => ⟨S1x128, .i32⟩
  | 64 => ⟨S1x128, .i1⟩
  | 65 => ⟨S256x128, .i1⟩
  | 66 => ⟨S256x128, .i1⟩
  | 67 => ⟨S_, .i32⟩
  | 68 => ⟨S1x128, .i32⟩
  | 69 => ⟨S1x128, .i1⟩
  | 70 => ⟨S256x128, .i1⟩
  | 71 => ⟨S256x128, .i1⟩
  | 72 => ⟨S256x128, .i1⟩
  | 73 => ⟨S_, .i32⟩
  | 74 => ⟨S1x128, .i32⟩
  | 75 => ⟨S1x128, .i32⟩
  | 76 => ⟨S256x128, .i32⟩
  | 77 => ⟨S256x128, .i32⟩
  | 78 => ⟨S256x128, .i1⟩
  | 79 => ⟨S_, .i32⟩
  | 80 => ⟨S1x128, .i32⟩
  | 81 => ⟨S1x128, .i1⟩
  | 82 => ⟨S256x128, .i1⟩
  | 83 => ⟨S256x128, .i1⟩
  | 84 => ⟨S_, .i32⟩
  | 85 => ⟨S1x128, .i32⟩
  | 86 => ⟨S1x128, .i32⟩
  | 87 => ⟨S_, .i32⟩
  | 88 => ⟨S1x128, .i32⟩
  | 89 => ⟨S1x128, .i32⟩
  | 90 => ⟨S256x128, .i32⟩
  | 91 => ⟨S256x128, .i32⟩
  | 92 => ⟨S256x128, .i1⟩
  | 93 => ⟨S_, .i32⟩
  | 94 => ⟨S1x128, .i32⟩
  | 95 => ⟨S1x128, .i1⟩
  | 96 => ⟨S256x128, .i1⟩
  | 97 => ⟨S256x128, .i1⟩
  | 98 => ⟨S_, .i32⟩
  | 99 => ⟨S1x128, .i32⟩
  | 100 => ⟨S1x128, .i1⟩
  | 101 => ⟨S256x128, .i1⟩
  | 102 => ⟨S256x128, .i1⟩
  | 103 => ⟨S256x128, .i1⟩
  | 104 => ⟨S_, .i32⟩
  | 105 => ⟨S1x128, .i32⟩
  | 106 => ⟨S1x128, .i32⟩
  | 107 => ⟨S256x128, .i32⟩
  | 108 => ⟨S256x128, .i32⟩
  | 109 => ⟨S256x128, .i1⟩
  | 110 => ⟨S_, .i32⟩
  | 111 => ⟨S1x128, .i32⟩
  | 112 => ⟨S1x128, .i1⟩
  | 113 => ⟨S256x128, .i1⟩
  | 114 => ⟨S256x128, .i1⟩
  | 115 => ⟨S_, .i32⟩
  | 116 => ⟨S1x128, .i32⟩
  | 117 => ⟨S1x128, .i32⟩
  | 118 => ⟨S_, .i32⟩
  | 119 => ⟨S1x128, .i32⟩
  | 120 => ⟨S1x128, .i32⟩
  | 121 => ⟨S256x128, .i32⟩
  | 122 => ⟨S256x128, .i32⟩
  | 123 => ⟨S256x128, .i1⟩
  | 124 => ⟨S_, .i32⟩
  | 125 => ⟨S1x128, .i32⟩
  | 126 => ⟨S1x128, .i1⟩
  | 127 => ⟨S256x128, .i1⟩
  | _ => ⟨S16x2176x1024, .f32⟩

abbrev hbmTy0_2 (i : Nat) : BufTy := match i % 128 with
  | 0 => ⟨S256x128, .i1⟩
  | 1 => ⟨S_, .i32⟩
  | 2 => ⟨S1x128, .i32⟩
  | 3 => ⟨S1x128, .i1⟩
  | 4 => ⟨S256x128, .i1⟩
  | 5 => ⟨S256x128, .i1⟩
  | 6 => ⟨S256x128, .i1⟩
  | 7 => ⟨S_, .i32⟩
  | 8 => ⟨S1x128, .i32⟩
  | 9 => ⟨S1x128, .i32⟩
  | 10 => ⟨S256x128, .i32⟩
  | 11 => ⟨S256x128, .i32⟩
  | 12 => ⟨S256x128, .i1⟩
  | 13 => ⟨S_, .i32⟩
  | 14 => ⟨S1x128, .i32⟩
  | 15 => ⟨S1x128, .i1⟩
  | 16 => ⟨S256x128, .i1⟩
  | 17 => ⟨S256x128, .i1⟩
  | 18 => ⟨S_, .i32⟩
  | 19 => ⟨S1x128, .i32⟩
  | 20 => ⟨S1x128, .i32⟩
  | 21 => ⟨S_, .i32⟩
  | 22 => ⟨S1x128, .i32⟩
  | 23 => ⟨S1x128, .i32⟩
  | 24 => ⟨S256x128, .i32⟩
  | 25 => ⟨S256x128, .i32⟩
  | 26 => ⟨S256x128, .i1⟩
  | 27 => ⟨S_, .i32⟩
  | 28 => ⟨S1x128, .i32⟩
  | 29 => ⟨S1x128, .i1⟩
  | 30 => ⟨S256x128, .i1⟩
  | 31 => ⟨S256x128, .i1⟩
  | 32 => ⟨S_, .i32⟩
  | 33 => ⟨S1x128, .i32⟩
  | 34 => ⟨S1x128, .i1⟩
  | 35 => ⟨S256x128, .i1⟩
  | 36 => ⟨S256x128, .i1⟩
  | 37 => ⟨S256x128, .i1⟩
  | 38 => ⟨S1x256x128, .i1⟩
  | 39 => ⟨S1x256x128, .i1⟩
  | 40 => ⟨S1x256x128, .i1⟩
  | 41 => ⟨S1x256x128, .i1⟩
  | 42 => ⟨S1x256x128, .i1⟩
  | 43 => ⟨S1x256x128, .i1⟩
  | 44 => ⟨S1x256x128, .i1⟩
  | 45 => ⟨S1x256x128, .i1⟩
  | 46 => ⟨S8x256x128, .i1⟩
  | 47 => ⟨S8x256x128, .bf16⟩
  | 48 => ⟨S2176, .i32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S2176, .f32⟩
  | 58 => ⟨S2176x1, .f32⟩
  | 59 => ⟨S1x16, .f32⟩
  | 60 => ⟨S2176x16, .f32⟩
  | 61 => ⟨S2176x16, .f32⟩
  | 62 => ⟨S2176x16, .f32⟩
  | 63 => ⟨S2176x16, .f32⟩
  | 64 => ⟨S2176x16, .f32⟩
  | 65 => ⟨S1x2176x1x16, .f32⟩
  | 66 => ⟨S1x2176x8x16, .f32⟩
  | 67 => ⟨S2176x128, .f32⟩
  | 68 => ⟨S1x2176x1x16, .f32⟩
  | 69 => ⟨S1x2176x8x16, .f32⟩
  | 70 => ⟨S2176x128, .f32⟩
  | 71 => ⟨S_, .f32⟩
  | 72 => ⟨S2176x96, .f32⟩
  | 73 => ⟨S_, .f32⟩
  | 74 => ⟨S2176x16, .f32⟩
  | 75 => ⟨S2176x128, .f32⟩
  | 76 => ⟨S2176x16, .f32⟩
  | 77 => ⟨S2176x128, .f32⟩
  | 78 => ⟨S2176x128, .f32⟩
  | 79 => ⟨S16x4x2176x64, .bf16⟩
  | 80 => ⟨S16x2064x128, .f32⟩
  | 81 => ⟨S16x2176x128, .bf16⟩
  | 82 => ⟨S16x8x2176x64, .bf16⟩
  | 83 => ⟨S16x2064x64, .f32⟩
  | 84 => ⟨S16x2176x128, .bf16⟩
  | 85 => ⟨S16x2176x128, .f32⟩
  | 86 => ⟨S16x2176x1024, .f32⟩
  | 87 => ⟨S16x4x2176x64, .bf16⟩
  | 88 => ⟨S16x2064x256, .f32⟩
  | 89 => ⟨S16x4x2176x64, .bf16⟩
  | 90 => ⟨S16x8x2176x256, .bf16⟩
  | 91 => ⟨S16x2064x160, .f32⟩
  | 92 => ⟨S16x2176x256, .bf16⟩
  | _ => ⟨S16x2176x1024, .f32⟩

abbrev hbmTy (i : Nat) : BufTy := match i / 128 with
  | 0 => hbmTy0_0 i
  | 1 => hbmTy0_1 i
  | 2 => hbmTy0_2 i
  | _ => ⟨S16x2176x1024, .f32⟩

abbrev bufTy : (tb : Table) → Fin (tcTables nBuf tb) → BufTy
  | .hbm, ⟨i, _⟩ => hbmTy i
  | .local _ .vmem, ⟨0, _⟩ => ⟨S1x544x1024, .f32⟩
  | .local _ .vmem, ⟨1, _⟩ => ⟨S1x544x1024, .f32⟩
  | .local _ .vmem, ⟨2, _⟩ => ⟨S1024x3072, .bf16⟩
  | .local _ .vmem, ⟨3, _⟩ => ⟨S1x256, .f32⟩
  | .local _ .vmem, ⟨4, _⟩ => ⟨S1x128, .f32⟩
  | .local _ .vmem, ⟨5, _⟩ => ⟨S256x768, .bf16⟩
  | .local _ .vmem, ⟨6, _⟩ => ⟨S8x64x128, .bf16⟩
  | .local _ .vmem, ⟨7, _⟩ => ⟨S8x256x128, .bf16⟩
  | .local _ .vmem, ⟨8, _⟩ => ⟨S544x128, .f32⟩
  | .local _ .vmem, ⟨9, _⟩ => ⟨S544x128, .f32⟩
  | .local _ .vmem, ⟨10, _⟩ => ⟨S544x128, .f32⟩
  | .local _ .vmem, ⟨11, _⟩ => ⟨S544x128, .f32⟩
  | .local _ .vmem, ⟨12, _⟩ => ⟨S544x128, .f32⟩
  | .local _ .vmem, ⟨13, _⟩ => ⟨S544x128, .f32⟩
  | .local _ .vmem, ⟨14, _⟩ => ⟨S544x128, .f32⟩
  | .local _ .vmem, ⟨15, _⟩ => ⟨S544x128, .f32⟩
  | .local _ .vmem, ⟨16, _⟩ => ⟨S544x128, .f32⟩
  | .local _ .vmem, ⟨17, _⟩ => ⟨S544x128, .f32⟩
  | .local _ .vmem, ⟨18, _⟩ => ⟨S1x4x544x64, .bf16⟩
  | .local _ .vmem, ⟨19, _⟩ => ⟨S1x4x544x64, .bf16⟩
  | .local _ .vmem, ⟨20, _⟩ => ⟨S1x544x128, .f32⟩
  | .local _ .vmem, ⟨21, _⟩ => ⟨S1x544x128, .f32⟩
  | .local _ .vmem, ⟨22, _⟩ => ⟨S1x544x128, .bf16⟩
  | .local _ .vmem, ⟨23, _⟩ => ⟨S1x544x128, .bf16⟩
  | .local _ .vmem, ⟨24, _⟩ => ⟨S1x8x544x64, .bf16⟩
  | .local _ .vmem, ⟨25, _⟩ => ⟨S1x8x544x64, .bf16⟩
  | .local _ .vmem, ⟨26, _⟩ => ⟨S1x544x64, .f32⟩
  | .local _ .vmem, ⟨27, _⟩ => ⟨S1x544x64, .f32⟩
  | .local _ .vmem, ⟨28, _⟩ => ⟨S1x544x128, .bf16⟩
  | .local _ .vmem, ⟨29, _⟩ => ⟨S1x544x128, .bf16⟩
  | .local _ .vmem, ⟨30, _⟩ => ⟨S1x544x128, .f32⟩
  | .local _ .vmem, ⟨31, _⟩ => ⟨S1x544x128, .f32⟩
  | .local _ .vmem, ⟨32, _⟩ => ⟨S1x544x1024, .f32⟩
  | .local _ .vmem, ⟨33, _⟩ => ⟨S1x544x1024, .f32⟩
  | .local _ .vmem, ⟨34, _⟩ => ⟨S1x4x544x64, .bf16⟩
  | .local _ .vmem, ⟨35, _⟩ => ⟨S1x4x544x64, .bf16⟩
  | .local _ .vmem, ⟨36, _⟩ => ⟨S1x544x256, .f32⟩
  | .local _ .vmem, ⟨37, _⟩ => ⟨S1x544x256, .f32⟩
  | .local _ .vmem, ⟨38, _⟩ => ⟨S1x4x544x64, .bf16⟩
  | .local _ .vmem, ⟨39, _⟩ => ⟨S1x4x544x64, .bf16⟩
  | .local _ .vmem, ⟨40, _⟩ => ⟨S1x8x544x256, .bf16⟩
  | .local _ .vmem, ⟨41, _⟩ => ⟨S1x8x544x256, .bf16⟩
  | .local _ .vmem, ⟨42, _⟩ => ⟨S1x544x160, .f32⟩
  | .local _ .vmem, ⟨43, _⟩ => ⟨S1x544x160, .f32⟩
  | .local _ .vmem, ⟨44, _⟩ => ⟨S1x544x256, .bf16⟩
  | .local _ .vmem, ⟨45, _⟩ => ⟨S1x544x256, .bf16⟩
  | _, _ => ⟨S16x2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c_1 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c_2 : Ref sig .tc := ⟨.hbm, 57, rfl⟩
abbrev main_v47 : Ref sig .tc := ⟨.hbm, 58, rfl⟩
abbrev main_v48 : Ref sig .tc := ⟨.hbm, 59, rfl⟩
abbrev main_c_3 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_c_4 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c_5 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_c_6 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_c_7 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_c_8 : Ref sig .tc := ⟨.hbm, 88, rfl⟩
abbrev main_v72 : Ref sig .tc := ⟨.hbm, 89, rfl⟩
abbrev main_v73 : Ref sig .tc := ⟨.hbm, 90, rfl⟩
abbrev main_c_9 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_c_10 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_c_11 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_c_12 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_c_13 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_c_14 : Ref sig .tc := ⟨.hbm, 119, rfl⟩
abbrev main_v97 : Ref sig .tc := ⟨.hbm, 120, rfl⟩
abbrev main_v98 : Ref sig .tc := ⟨.hbm, 121, rfl⟩
abbrev main_c_15 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_c_16 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_c_17 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_c_18 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_c_19 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_c_20 : Ref sig .tc := ⟨.hbm, 150, rfl⟩
abbrev main_v122 : Ref sig .tc := ⟨.hbm, 151, rfl⟩
abbrev main_v123 : Ref sig .tc := ⟨.hbm, 152, rfl⟩
abbrev main_c_21 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_c_22 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_c_23 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_c_24 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_c_25 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_c_26 : Ref sig .tc := ⟨.hbm, 181, rfl⟩
abbrev main_v147 : Ref sig .tc := ⟨.hbm, 182, rfl⟩
abbrev main_v148 : Ref sig .tc := ⟨.hbm, 183, rfl⟩
abbrev main_c_27 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_c_28 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_c_29 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_c_30 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_c_31 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_c_32 : Ref sig .tc := ⟨.hbm, 212, rfl⟩
abbrev main_v172 : Ref sig .tc := ⟨.hbm, 213, rfl⟩
abbrev main_v173 : Ref sig .tc := ⟨.hbm, 214, rfl⟩
abbrev main_c_33 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_c_34 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_c_35 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_c_36 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_c_37 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_c_38 : Ref sig .tc := ⟨.hbm, 243, rfl⟩
abbrev main_v197 : Ref sig .tc := ⟨.hbm, 244, rfl⟩
abbrev main_v198 : Ref sig .tc := ⟨.hbm, 245, rfl⟩
abbrev main_c_39 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_c_40 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_c_41 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_c_42 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_c_43 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_c_44 : Ref sig .tc := ⟨.hbm, 274, rfl⟩
abbrev main_v222 : Ref sig .tc := ⟨.hbm, 275, rfl⟩
abbrev main_v223 : Ref sig .tc := ⟨.hbm, 276, rfl⟩
abbrev main_c_45 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_c_46 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_c_47 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_cst_48 : Ref sig .tc := ⟨.hbm, 307, rfl⟩
abbrev main_v251 : Ref sig .tc := ⟨.hbm, 308, rfl⟩
abbrev main_v252 : Ref sig .tc := ⟨.hbm, 309, rfl⟩
abbrev main_cst_49 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_cst_50 : Ref sig .tc := ⟨.hbm, 327, rfl⟩
abbrev main_v269 : Ref sig .tc := ⟨.hbm, 328, rfl⟩
abbrev main_cst_51 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_v275_0 : Ref sig .tc := ⟨.hbm, 335, rfl⟩
abbrev main_v275_1 : Ref sig .tc := ⟨.hbm, 336, rfl⟩
abbrev main_v275_2 : Ref sig .tc := ⟨.hbm, 337, rfl⟩
abbrev main_v275_3 : Ref sig .tc := ⟨.hbm, 338, rfl⟩
abbrev main_v275_4 : Ref sig .tc := ⟨.hbm, 339, rfl⟩
abbrev main_v275_5 : Ref sig .tc := ⟨.hbm, 340, rfl⟩
abbrev main_v275_6 : Ref sig .tc := ⟨.hbm, 341, rfl⟩
abbrev main_v275_7 : Ref sig .tc := ⟨.hbm, 342, rfl⟩
abbrev main_v275_8 : Ref sig .tc := ⟨.hbm, 343, rfl⟩
abbrev main_v275_9 : Ref sig .tc := ⟨.hbm, 344, rfl⟩
abbrev main_v275_10 : Ref sig .tc := ⟨.hbm, 345, rfl⟩
abbrev main_v275_11 : Ref sig .tc := ⟨.hbm, 346, rfl⟩
abbrev main_v275_12 : Ref sig .tc := ⟨.hbm, 347, rfl⟩
abbrev main_v275_13 : Ref sig .tc := ⟨.hbm, 348, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_stg25_0 : Ref sig .tc := ⟨.vmem, 44, rfl⟩
abbrev cc0_stg25_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43
abbrev cc0_sem25_0 : DmaSem sig := 44
abbrev cc0_sem25_1 : DmaSem sig := 45

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S544x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S544x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S544x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S544x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S544x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x4x544x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x544x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x544x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x544x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x544x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x544x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x544x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x544x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x544x64 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x544x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x4x544x64 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x8x544x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x544x160 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x544x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== Reference2Ideal.lean ====
abbrev S16x2176x1024 : Shape := ⟨3, ![16, 2176, 1024]⟩
abbrev S1024x2920 : Shape := ⟨2, ![1024, 2920]⟩
abbrev S256 : Shape := ⟨1, ![256]⟩
abbrev S128 : Shape := ⟨1, ![128]⟩
abbrev S256x768 : Shape := ⟨2, ![256, 768]⟩
abbrev S128x8x64 : Shape := ⟨3, ![128, 8, 64]⟩
abbrev S2176 : Shape := ⟨1, ![2176]⟩
abbrev S16x2176x2920 : Shape := ⟨3, ![16, 2176, 2920]⟩
abbrev S16x2176x256 : Shape := ⟨3, ![16, 2176, 256]⟩
abbrev S16x2176x64 : Shape := ⟨3, ![16, 2176, 64]⟩
abbrev S16x2176x512 : Shape := ⟨3, ![16, 2176, 512]⟩
abbrev S16x2176x8 : Shape := ⟨3, ![16, 2176, 8]⟩
abbrev S16x2176x128 : Shape := ⟨3, ![16, 2176, 128]⟩
abbrev S16x2176x32 : Shape := ⟨3, ![16, 2176, 32]⟩
abbrev S_ : Shape := ⟨0, ![]⟩
abbrev S16x2176 : Shape := ⟨2, ![16, 2176]⟩
abbrev S16x2176x1 : Shape := ⟨3, ![16, 2176, 1]⟩
abbrev S1x1x256 : Shape := ⟨3, ![1, 1, 256]⟩
abbrev S16x2176x768 : Shape := ⟨3, ![16, 2176, 768]⟩
abbrev S16x2176x8x96 : Shape := ⟨4, ![16, 2176, 8, 96]⟩
abbrev S16x2176x8x64 : Shape := ⟨4, ![16, 2176, 8, 64]⟩
abbrev S8x128x16x2176 : Shape := ⟨4, ![8, 128, 16, 2176]⟩
abbrev S16x8x2176x128 : Shape := ⟨4, ![16, 8, 2176, 128]⟩
abbrev S16x2176x8x32 : Shape := ⟨4, ![16, 2176, 8, 32]⟩
abbrev S16 : Shape := ⟨1, ![16]⟩
abbrev S2176x1 : Shape := ⟨2, ![2176, 1]⟩
abbrev S1x16 : Shape := ⟨2, ![1, 16]⟩
abbrev S2176x16 : Shape := ⟨2, ![2176, 16]⟩
abbrev S1x2176x1x16 : Shape := ⟨4, ![1, 2176, 1, 16]⟩
abbrev S16x2176x8x16 : Shape := ⟨4, ![16, 2176, 8, 16]⟩
abbrev S16x8x2176x32 : Shape := ⟨4, ![16, 8, 2176, 32]⟩
abbrev S16x8x2176x160 : Shape := ⟨4, ![16, 8, 2176, 160]⟩
abbrev S1x1x128 : Shape := ⟨3, ![1, 1, 128]⟩
abbrev S1x2176x16 : Shape := ⟨3, ![1, 2176, 16]⟩
abbrev S16x2176x16 : Shape := ⟨3, ![16, 2176, 16]⟩
abbrev S16x2176x160 : Shape := ⟨3, ![16, 2176, 160]⟩
abbrev S16x2176x72 : Shape := ⟨3, ![16, 2176, 72]⟩
abbrev S16x2176x4x64 : Shape := ⟨4, ![16, 2176, 4, 64]⟩
abbrev S16x4x2176x64 : Shape := ⟨4, ![16, 4, 2176, 64]⟩
abbrev S16x2064x128 : Shape := ⟨3, ![16, 2064, 128]⟩
abbrev S16x8x2176x64 : Shape := ⟨4, ![16, 8, 2176, 64]⟩
abbrev S16x2064x64 : Shape := ⟨3, ![16, 2064, 64]⟩
abbrev S16x2064x256 : Shape := ⟨3, ![16, 2064, 256]⟩
abbrev S16x8x2176x256 : Shape := ⟨4, ![16, 8, 2176, 256]⟩
abbrev S16x2064x160 : Shape := ⟨3, ![16, 2064, 160]⟩

abbrev nBuf : Space → Nat
  | .hbm => 172
  | .vmem => 0
  | .smem => 0
  | _ => 0

abbrev hbmTy0_0 (i : Nat) : BufTy := match i % 128 with
  | 0 => ⟨S16x2176x1024, .f32⟩
  | 1 => ⟨S1024x2920, .f32⟩
  | 2 => ⟨S256, .f32⟩
  | 3 => ⟨S128, .f32⟩
  | 4 => ⟨S256x768, .f32⟩
  | 5 => ⟨S128x8x64, .f32⟩
  | 6 => ⟨S2176, .i32⟩
  | 7 => ⟨S16x2176x2920, .f32⟩
  | 8 => ⟨S16x2176x256, .f32⟩
  | 9 => ⟨S16x2176x64, .f32⟩
  | 10 => ⟨S16x2176x64, .f32⟩
  | 11 => ⟨S16x2176x512, .f32⟩
  | 12 => ⟨S16x2176x64, .f32⟩
  | 13 => ⟨S16x2176x8, .f32⟩
  | 14 => ⟨S16x2176x256, .f32⟩
  | 15 => ⟨S16x2176x256, .f32⟩
  | 16 => ⟨S16x2176x128, .f32⟩
  | 17 => ⟨S16x2176x128, .f32⟩
  | 18 => ⟨S16x2176x256, .f32⟩
  | 19 => ⟨S16x2176x256, .f32⟩
  | 20 => ⟨S16x2176x128, .f32⟩
  | 21 => ⟨S16x2176x32, .f32⟩
  | 22 => ⟨S16x2176x512, .f32⟩
  | 23 => ⟨S16x2176x256, .f32⟩
  | 24 => ⟨S_, .f32⟩
  | 25 => ⟨S16x2176, .f32⟩
  | 26 => ⟨S16x2176x1, .f32⟩
  | 27 => ⟨S_, .f32⟩
  | 28 => ⟨S16x2176x1, .f32⟩
  | 29 => ⟨S16x2176x1, .f32⟩
  | 30 => ⟨S_, .f32⟩
  | 31 => ⟨S16x2176x1, .f32⟩
  | 32 => ⟨S16x2176x1, .f32⟩
  | 33 => ⟨S16x2176x1, .f32⟩
  | 34 => ⟨S16x2176x256, .f32⟩
  | 35 => ⟨S16x2176x256, .f32⟩
  | 36 => ⟨S1x1x256, .f32⟩
  | 37 => ⟨S16x2176x256, .f32⟩
  | 38 => ⟨S16x2176x256, .f32⟩
  | 39 => ⟨S16x2176x768, .f32⟩
  | 40 => ⟨S16x2176x8x96, .f32⟩
  | 41 => ⟨S16x2176x8x64, .f32⟩
  | 42 => ⟨S8x128x16x2176, .f32⟩
  | 43 => ⟨S16x8x2176x128, .f32⟩
  | 44 => ⟨S16x2176x8x32, .f32⟩
  | 45 => ⟨S16, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S2176, .f32⟩
  | 54 => ⟨S2176x1, .f32⟩
  | 55 => ⟨S1x16, .f32⟩
  | 56 => ⟨S2176x16, .f32⟩
  | 57 => ⟨S2176x16, .f32⟩
  | 58 => ⟨S2176x16, .f32⟩
  | 59 => ⟨S1x2176x1x16, .f32⟩
  | 60 => ⟨S1x2176x1x16, .f32⟩
  | 61 => ⟨S1x2176x1x16, .f32⟩
  | 62 => ⟨S16x2176x8x16, .f32⟩
  | 63 => ⟨S16x2176x8x16, .f32⟩
  | 64 => ⟨S16x2176x8x16, .f32⟩
  | 65 => ⟨S16x2176x8x16, .f32⟩
  | 66 => ⟨S16x2176x8x16, .f32⟩
  | 67 => ⟨S16x2176x8x16, .f32⟩
  | 68 => ⟨S16x2176x8x16, .f32⟩
  | 69 => ⟨S16x2176x8x16, .f32⟩
  | 70 => ⟨S16x2176x8x16, .f32⟩
  | 71 => ⟨S16x2176x8x16, .f32⟩
  | 72 => ⟨S16x2176x8x16, .f32⟩
  | 73 => ⟨S16x2176x8x16, .f32⟩
  | 74 => ⟨S16x2176x8x32, .f32⟩
  | 75 => ⟨S16x8x2176x32, .f32⟩
  | 76 => ⟨S16x8x2176x160, .f32⟩
  | 77 => ⟨S_, .f32⟩
  | 78 => ⟨S16x8x2176x160, .f32⟩
  | 79 => ⟨S16x8x2176x160, .f32⟩
  | 80 => ⟨S16x2176x128, .f32⟩
  | 81 => ⟨S_, .f32⟩
  | 82 => ⟨S16x2176, .f32⟩
  | 83 => ⟨S16x2176x1, .f32⟩
  | 84 => ⟨S_, .f32⟩
  | 85 => ⟨S16x2176x1, .f32⟩
  | 86 => ⟨S16x2176x1, .f32⟩
  | 87 => ⟨S_, .f32⟩
  | 88 => ⟨S16x2176x1, .f32⟩
  | 89 => ⟨S16x2176x1, .f32⟩
  | 90 => ⟨S16x2176x1, .f32⟩
  | 91 => ⟨S16x2176x128, .f32⟩
  | 92 => ⟨S16x2176x128, .f32⟩
  | 93 => ⟨S1x1x128, .f32⟩
  | 94 => ⟨S16x2176x128, .f32⟩
  | 95 => ⟨S16x2176x128, .f32⟩
  | 96 => ⟨S16, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S2176, .f32⟩
  | 105 => ⟨S2176x1, .f32⟩
  | 106 => ⟨S1x16, .f32⟩
  | 107 => ⟨S2176x16, .f32⟩
  | 108 => ⟨S2176x16, .f32⟩
  | 109 => ⟨S2176x16, .f32⟩
  | 110 => ⟨S1x2176x16, .f32⟩
  | 111 => ⟨S1x2176x16, .f32⟩
  | 112 => ⟨S1x2176x16, .f32⟩
  | 113 => ⟨S16x2176x16, .f32⟩
  | 114 => ⟨S16x2176x16, .f32⟩
  | 115 => ⟨S16x2176x16, .f32⟩
  | 116 => ⟨S16x2176x16, .f32⟩
  | 117 => ⟨S16x2176x16, .f32⟩
  | 118 => ⟨S16x2176x16, .f32⟩
  | 119 => ⟨S16x2176x16, .f32⟩
  | 120 => ⟨S16x2176x16, .f32⟩
  | 121 => ⟨S16x2176x16, .f32⟩
  | 122 => ⟨S16x2176x16, .f32⟩
  | 123 => ⟨S16x2176x16, .f32⟩
  | 124 => ⟨S16x2176x16, .f32⟩
  | 125 => ⟨S16x2176x32, .f32⟩
  | 126 => ⟨S16x2176x160, .f32⟩
  | 127 => ⟨S16x2176x128, .f32⟩
  | _ => ⟨S16x2176x1024, .f32⟩

abbrev hbmTy0_1 (i : Nat) : BufTy := match i % 128 with
  | 0 => ⟨S16x2176x256, .f32⟩
  | 1 => ⟨S16x2176x72, .f32⟩
  | 2 => ⟨S16x2176x4x64, .f32⟩
  | 3 => ⟨S16x4x2176x64, .f32⟩
  | 4 => ⟨S_, .f32⟩
  | 5 => ⟨S16x4x2176x64, .f32⟩
  | 6 => ⟨S16x4x2176x64, .f32⟩
  | 7 => ⟨S16x4x2176x64, .bf16⟩
  | 8 => ⟨S16x2064x128, .f32⟩
  | 9 => ⟨S16x2176x128, .bf16⟩
  | 10 => ⟨S16x2176x8x64, .f32⟩
  | 11 => ⟨S16x8x2176x64, .f32⟩
  | 12 => ⟨S16x8x2176x64, .bf16⟩
  | 13 => ⟨S16x2064x64, .f32⟩
  | 14 => ⟨S_, .i32⟩
  | 15 => ⟨S_, .f32⟩
  | 16 => ⟨S16x2176x128, .f32⟩
  | 17 => ⟨S16x2176x128, .bf16⟩
  | 18 => ⟨S_, .i32⟩
  | 19 => ⟨S_, .f32⟩
  | 20 => ⟨S16x2176x128, .f32⟩
  | 21 => ⟨S_, .f32⟩
  | 22 => ⟨S16x2176x128, .f32⟩
  | 23 => ⟨S16x2176x128, .f32⟩
  | 24 => ⟨S16x2176x1024, .f32⟩
  | 25 => ⟨S16x2176x4x64, .f32⟩
  | 26 => ⟨S16x4x2176x64, .f32⟩
  | 27 => ⟨S_, .f32⟩
  | 28 => ⟨S16x4x2176x64, .f32⟩
  | 29 => ⟨S16x4x2176x64, .f32⟩
  | 30 => ⟨S16x4x2176x64, .bf16⟩
  | 31 => ⟨S16x2064x256, .f32⟩
  | 32 => ⟨S16x2176x4x64, .f32⟩
  | 33 => ⟨S16x4x2176x64, .f32⟩
  | 34 => ⟨S16x4x2176x64, .bf16⟩
  | 35 => ⟨S_, .i32⟩
  | 36 => ⟨S_, .f32⟩
  | 37 => ⟨S16x8x2176x256, .f32⟩
  | 38 => ⟨S16x8x2176x256, .bf16⟩
  | 39 => ⟨S16x2064x160, .f32⟩
  | 40 => ⟨S_, .i32⟩
  | 41 => ⟨S_, .f32⟩
  | 42 => ⟨S16x2176x256, .f32⟩
  | 43 => ⟨S16x2176x256, .bf16⟩
  | _ => ⟨S16x2176x1024, .f32⟩

abbrev hbmTy (i : Nat) : BufTy := match i / 128 with
  | 0 => hbmTy0_0 i
  | 1 => hbmTy0_1 i
  | _ => ⟨S16x2176x1024, .f32⟩

abbrev bufTy : (tb : Table) → Fin (tcTables nBuf tb) → BufTy
  | .hbm, ⟨i, _⟩ => hbmTy i
  | _, _ => ⟨S16x2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_4 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_5 : Ref sig .tc := ⟨.hbm, 81, rfl⟩
abbrev main_v69 : Ref sig .tc := ⟨.hbm, 82, rfl⟩
abbrev main_v70 : Ref sig .tc := ⟨.hbm, 83, rfl⟩
abbrev main_cst_6 : Ref sig .tc := ⟨.hbm, 84, rfl⟩
abbrev main_v71 : Ref sig .tc := ⟨.hbm, 85, rfl⟩
abbrev main_v72 : Ref sig .tc := ⟨.hbm, 86, rfl⟩
abbrev main_cst_7 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_8 : Ref sig .tc := ⟨.hbm, 98, rfl⟩
abbrev main_v83 : Ref sig .tc := ⟨.hbm, 99, rfl⟩
abbrev main_v84 : Ref sig .tc := ⟨.hbm, 100, rfl⟩
abbrev main_cst_9 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_cst_10 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_c : Ref sig .tc := ⟨.hbm, 142, rfl⟩
abbrev main_call0_v0 : Ref sig .tc := ⟨.hbm, 143, rfl⟩
abbrev main_v124 : Ref sig .tc := ⟨.hbm, 144, rfl⟩
abbrev main_v125 : Ref sig .tc := ⟨.hbm, 145, rfl⟩
abbrev main_c_11 : Ref sig .tc := ⟨.hbm, 146, rfl⟩
abbrev main_call1_v0 : Ref sig .tc := ⟨.hbm, 147, rfl⟩
abbrev main_v126 : Ref sig .tc := ⟨.hbm, 148, rfl⟩
abbrev main_cst_12 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_cst_13 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_c_14 : Ref sig .tc := ⟨.hbm, 163, rfl⟩
abbrev main_call2_v0 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_c_15 : Ref sig .tc := ⟨.hbm, 168, rfl⟩
abbrev main_call3_v0 : Ref sig .tc := ⟨.hbm, 169, rfl⟩
abbrev main_v142 : Ref sig .tc := ⟨.hbm, 170, rfl⟩
abbrev main_v143 : Ref sig .tc := ⟨.hbm, 171, rfl⟩

abbrev nD : Nat := 1
abbrev τ : Topo := Topo.v7x

variable {F : FTy → Type} [FloatOps F]
-- ==== Kernel3.lean ====
abbrev S16x2176x1024 : Shape := ⟨3, ![16, 2176, 1024]⟩
abbrev S16x2176x256 : Shape := ⟨3, ![16, 2176, 256]⟩
abbrev S16x2176x512 : Shape := ⟨3, ![16, 2176, 512]⟩
abbrev S1024x1024 : Shape := ⟨2, ![1024, 1024]⟩
abbrev S1024 : Shape := ⟨1, ![1024]⟩
abbrev S1x1024 : Shape := ⟨2, ![1, 1024]⟩
abbrev S1x544x1024 : Shape := ⟨3, ![1, 544, 1024]⟩
abbrev S1x544x256 : Shape := ⟨3, ![1, 544, 256]⟩
abbrev S1x544x512 : Shape := ⟨3, ![1, 544, 512]⟩
abbrev S544x1024 : Shape := ⟨2, ![544, 1024]⟩
abbrev S544x256 : Shape := ⟨2, ![544, 256]⟩
abbrev S544x512 : Shape := ⟨2, ![544, 512]⟩
abbrev S544 : Shape := ⟨1, ![544]⟩
abbrev S544x1 : Shape := ⟨2, ![544, 1]⟩

abbrev nBuf : Space → Nat
  | .hbm => 12
  | .vmem => 15
  | .smem => 0
  | _ => 0

abbrev bufTy : (tb : Table) → Fin (tcTables nBuf tb) → BufTy
  | .hbm, ⟨0, _⟩ => ⟨S16x2176x1024, .f32⟩
  | .hbm, ⟨1, _⟩ => ⟨S16x2176x1024, .f32⟩
  | .hbm, ⟨2, _⟩ => ⟨S16x2176x256, .f32⟩
  | .hbm, ⟨3, _⟩ => ⟨S16x2176x256, .f32⟩
  | .hbm, ⟨4, _⟩ => ⟨S16x2176x512, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S16x2176x1024, .f32⟩
  | .local _ .vmem, ⟨0, _⟩ => ⟨S1x544x1024, .f32⟩
  | .local _ .vmem, ⟨1, _⟩ => ⟨S1x544x1024, .f32⟩
  | .local _ .vmem, ⟨2, _⟩ => ⟨S1x544x1024, .f32⟩
  | .local _ .vmem, ⟨3, _⟩ => ⟨S1x544x1024, .f32⟩
  | .local _ .vmem, ⟨4, _⟩ => ⟨S1x544x256, .f32⟩
  | .local _ .vmem, ⟨5, _⟩ => ⟨S1x544x256, .f32⟩
  | .local _ .vmem, ⟨6, _⟩ => ⟨S1x544x256, .f32⟩
  | .local _ .vmem, ⟨7, _⟩ => ⟨S1x544x256, .f32⟩
  | .local _ .vmem, ⟨8, _⟩ => ⟨S1x544x512, .f32⟩
  | .local _ .vmem, ⟨9, _⟩ => ⟨S1x544x512, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x544x1024, .f32⟩
  | .local _ .vmem, ⟨14, _⟩ => ⟨S1x544x1024, .f32⟩
  | _, _ => ⟨S16x2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x544x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x544x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S16x2176x1024 : Shape := ⟨3, ![16, 2176, 1024]⟩
abbrev S16x2176x256 : Shape := ⟨3, ![16, 2176, 256]⟩
abbrev S16x2176x512 : Shape := ⟨3, ![16, 2176, 512]⟩
abbrev S1024x1024 : Shape := ⟨2, ![1024, 1024]⟩
abbrev S1024 : Shape := ⟨1, ![1024]⟩
abbrev S_ : Shape := ⟨0, ![]⟩
abbrev S16x2176 : Shape := ⟨2, ![16, 2176]⟩
abbrev S16x2176x1 : Shape := ⟨3, ![16, 2176, 1]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16x2176x1024, .f32⟩
  | .hbm, ⟨1, _⟩ => ⟨S16x2176x1024, .f32⟩
  | .hbm, ⟨2, _⟩ => ⟨S16x2176x256, .f32⟩
  | .hbm, ⟨3, _⟩ => ⟨S16x2176x256, .f32⟩
  | .hbm, ⟨4, _⟩ => ⟨S16x2176x512, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S16x2176x256, .f32⟩
  | .hbm, ⟨9, _⟩ => ⟨S16x2176x256, .f32⟩
  | .hbm, ⟨10, _⟩ => ⟨S16x2176x256, .f32⟩
  | .hbm, ⟨11, _⟩ => ⟨S_, .f32⟩
  | .hbm, ⟨12, _⟩ => ⟨S16x2176x256, .f32⟩
  | .hbm, ⟨13, _⟩ => ⟨S16x2176x256, .f32⟩
  | .hbm, ⟨14, _⟩ => ⟨S_, .f32⟩
  | .hbm, ⟨15, _⟩ => ⟨S16x2176x256, .f32⟩
  | .hbm, ⟨16, _⟩ => ⟨S16x2176x256, .f32⟩
  | .hbm, ⟨17, _⟩ => ⟨S16x2176x256, .f32⟩
  | .hbm, ⟨18, _⟩ => ⟨S16x2176x256, .f32⟩
  | .hbm, ⟨19, _⟩ => ⟨S16x2176x256, .f32⟩
  | .hbm, ⟨20, _⟩ => ⟨S16x2176x256, .f32⟩
  | .hbm, ⟨21, _⟩ => ⟨S16x2176x256, .f32⟩
  | .hbm, ⟨22, _⟩ => ⟨S_, .f32⟩
  | .hbm, ⟨23, _⟩ => ⟨S16x2176x256, .f32⟩
  | .hbm, ⟨24, _⟩ => ⟨S16x2176x256, .f32⟩
  | .hbm, ⟨25, _⟩ => ⟨S_, .f32⟩
  | .hbm, ⟨26, _⟩ => ⟨S16x2176x256, .f32⟩
  | .hbm, ⟨27, _⟩ => ⟨S16x2176x256, .f32⟩
  | .hbm, ⟨28, _⟩ => ⟨S16x2176x256, .f32⟩
  | .hbm, ⟨29, _⟩ => ⟨S16x2176x256, .f32⟩
  | .hbm, ⟨30, _⟩ => ⟨S16x2176x512, .f32⟩
  | .hbm, ⟨31, _⟩ => ⟨S16x2176x512, .f32⟩
  | .hbm, ⟨32, _⟩ => ⟨S16x2176x512, .f32⟩
  | .hbm, ⟨33, _⟩ => ⟨S_, .f32⟩
  | .hbm, ⟨34, _⟩ => ⟨S16x2176x512, .f32⟩
  | .hbm, ⟨35, _⟩ => ⟨S16x2176x512, .f32⟩
  | .hbm, ⟨36, _⟩ => ⟨S_, .f32⟩
  | .hbm, ⟨37, _⟩ => ⟨S16x2176x512, .f32⟩
  | .hbm, ⟨38, _⟩ => ⟨S16x2176x512, .f32⟩
  | .hbm, ⟨39, _⟩ => ⟨S16x2176x512, .f32⟩
  | .hbm, ⟨40, _⟩ => ⟨S16x2176x512, .f32⟩
  | .hbm, ⟨41, _⟩ => ⟨S16x2176x1024, .f32⟩
  | .hbm, ⟨42, _⟩ => ⟨S_, .f32⟩
  | .hbm, ⟨43, _⟩ => ⟨S16x2176x1024, .f32⟩
  | .hbm, ⟨44, _⟩ => ⟨S16x2176x1024, .f32⟩
  | .hbm, ⟨45, _⟩ => ⟨S16x2176x1024, .f32⟩
  | .hbm, ⟨46, _⟩ => ⟨S16x2176x1024, .f32⟩
  | .hbm, ⟨47, _⟩ => ⟨S_, .f32⟩
  | .hbm, ⟨48, _⟩ => ⟨S16x2176, .f32⟩
  | .hbm, ⟨49, _⟩ => ⟨S16x2176x1, .f32⟩
  | .hbm, ⟨50, _⟩ => ⟨S_, .f32⟩
  | .hbm, ⟨51, _⟩ => ⟨S16x2176x1, .f32⟩
  | .hbm, ⟨52, _⟩ => ⟨S16x2176x1, .f32⟩
  | .hbm, ⟨53, _⟩ => ⟨S16x2176x1024, .f32⟩
  | .hbm, ⟨54, _⟩ => ⟨S16x2176x1024, .f32⟩
  | .hbm, ⟨55, _⟩ => ⟨S16x2176x1024, .f32⟩
  | .hbm, ⟨56, _⟩ => ⟨S_, .f32⟩
  | .hbm, ⟨57, _⟩ => ⟨S16x2176, .f32⟩
  | .hbm, ⟨58, _⟩ => ⟨S16x2176x1, .f32⟩
  | .hbm, ⟨59, _⟩ => ⟨S_, .f32⟩
  | .hbm, ⟨60, _⟩ => ⟨S16x2176x1, .f32⟩
  | .hbm, ⟨61, _⟩ => ⟨S16x2176x1, .f32⟩
  | .hbm, ⟨62, _⟩ => ⟨S16x2176x1024, .f32⟩
  | .hbm, ⟨63, _⟩ => ⟨S16x2176x1024, .f32⟩
  | .hbm, ⟨64, _⟩ => ⟨S_, .f32⟩
  | .hbm, ⟨65, _⟩ => ⟨S16x2176x1, .f32⟩
  | .hbm, ⟨66, _⟩ => ⟨S16x2176x1, .f32⟩
  | .hbm, ⟨67, _⟩ => ⟨S16x2176x1, .f32⟩
  | .hbm, ⟨68, _⟩ => ⟨S16x2176x1024, .f32⟩
  | .hbm, ⟨69, _⟩ => ⟨S16x2176x1024, .f32⟩
  | .hbm, ⟨70, _⟩ => ⟨S1x1x1024, .f32⟩
  | .hbm, ⟨71, _⟩ => ⟨S16x2176x1024, .f32⟩
  | .hbm, ⟨72, _⟩ => ⟨S16x2176x1024, .f32⟩
  | .hbm, ⟨73, _⟩ => ⟨S1x1x1024, .f32⟩
  | .hbm, ⟨74, _⟩ => ⟨S16x2176x1024, .f32⟩
  | .hbm, ⟨75, _⟩ => ⟨S16x2176x1024, .f32⟩
  | _, _ => ⟨S16x2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_0 : Ref sig .tc := ⟨.hbm, 47, rfl⟩
abbrev main_v14 : Ref sig .tc := ⟨.hbm, 48, rfl⟩
abbrev main_v15 : Ref sig .tc := ⟨.hbm, 49, rfl⟩
abbrev main_cst_1 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_2 : Ref sig .tc := ⟨.hbm, 56, rfl⟩
abbrev main_v21 : Ref sig .tc := ⟨.hbm, 57, rfl⟩
abbrev main_v22 : Ref sig .tc := ⟨.hbm, 58, rfl⟩
abbrev main_cst_3 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_4 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩

abbrev nD : Nat := 1
abbrev τ : Topo := Topo.v7x

variable {F : FTy → Type} [FloatOps F]
-- ==== Proof.KI.Arith.lean ====
/-
  The loop bounds and the block offsets of the attention kernel in closed form: query tile `i 1 = n` runs over
  `n / 2` pairs of key tiles and then over the `n + 1 - 2 (n / 2)` tiles that are left, and every remainder loop
  has no trip.
-/
module

public import proofs.«01_k».proof.Proof.Gen.KernelIdeal.Skeleton
public import Mathlib.Tactic.IntervalCases

@[expose] public section

namespace Cert.KernelIdeal.Att

open Cert.KernelIdeal Cert.KernelIdeal.Gen
open Idealize.ShloMosaic

/-- The query tile of a grid point. -/
abbrev qt (i : grid0.Coords) : ℕ := (i 1).val

theorem qt_lt (i : grid0.Coords) : qt i < 17 := (i 1).isLt

section trips
variable (i : grid0.Coords)

theorem trips1 : (k0_t1_loop i).trips = qt i / 2 := by
  have h := qt_lt i
  delta k0_t1_loop; unfold qt at *
  generalize (i 1).val = a at *
  interval_cases a <;> rfl

theorem trips2 : (k0_t2_loop i).trips = 0 := by
  have h := qt_lt i
  delta k0_t2_loop; unfold qt at *
  generalize (i 1).val = a at *
  interval_cases a <;> rfl

theorem trips3 : (k0_t3_loop i).trips = qt i + 1 - 2 * (qt i / 2) := by
  have h := qt_lt i
  delta k0_t3_loop; unfold qt at *
  generalize (i 1).val = a at *
  interval_cases a <;> rfl

theorem trips4 : (k0_t4_loop i).trips = 0 := by
  have h := qt_lt i
  delta k0_t4_loop; unfold qt at *
  generalize (i 1).val = a at *
  interval_cases a <;> rfl

theorem trips5 : (k0_t5_loop i).trips = qt i / 2 := by
  have h := qt_lt i
  delta k0_t5_loop; unfold qt at *
  generalize (i 1).val = a at *
  interval_cases a <;> rfl

theorem trips6 : (k0_t6_loop i).trips = 0 := by
  have h := qt_lt i
  delta k0_t6_loop; unfold qt at *
  generalize (i 1).val = a at *
  interval_cases a <;> rfl

theorem trips7 : (k0_t7_loop i).trips = qt i + 1 - 2 * (qt i / 2) := by
  have h := qt_lt i
  delta k0_t7_loop; unfold qt at *
  generalize (i 1).val = a at *
  interval_cases a <;> rfl

theorem trips8 : (k0_t8_loop i).trips = 0 := by
  have h := qt_lt i
  delta k0_t8_loop; unfold qt at *
  generalize (i 1).val = a at *
  interval_cases a <;> rfl

theorem off1_eq (k : Fin (k0_t1_loop i).trips) : k0_off1 i k = ![0, 256 * k.val, 0] := by
  have h := qt_lt i
  have hk : k.val < qt i / 2 := (trips1 i) ▸ k.isLt
  unfold k0_off1
  generalize k.val = n at *
  have hn : n < 8 := by omega
  interval_cases n <;> rfl

theorem off2_eq (k : Fin (k0_t1_loop i).trips) : k0_off2 i k = ![2 * k.val, 0, 0] := by
  have h := qt_lt i
  have hk : k.val < qt i / 2 := (trips1 i) ▸ k.isLt
  unfold k0_off2
  generalize k.val = n at *
  have hn : n < 8 := by omega
  interval_cases n <;> rfl

theorem off3_eq (k : Fin (k0_t1_loop i).trips) : k0_off3 i k = ![2 * k.val + 1, 0, 0] := by
  have h := qt_lt i
  have hk : k.val < qt i / 2 := (trips1 i) ▸ k.isLt
  unfold k0_off3
  generalize k.val = n at *
  have hn : n < 8 := by omega
  interval_cases n <;> rfl

theorem off7_eq (k : Fin (k0_t3_loop i).trips) : k0_off7 i k = ![0, 128 * (2 * (qt i / 2) + k.val), 0] := by
  have h := qt_lt i
  have hk : k.val < qt i + 1 - 2 * (qt i / 2) := (trips3 i) ▸ k.isLt
  unfold k0_off7
  generalize k.val = n at *
  unfold qt at *
  generalize (i 1).val = a at *
  have hn : n < 2 := by omega
  interval_cases a <;> interval_cases n <;> first | rfl | omega

theorem off8_eq (k : Fin (k0_t3_loop i).trips) : k0_off8 i k = ![2 * (qt i / 2) + k.val, 0, 0] := by
  have h := qt_lt i
  have hk : k.val < qt i + 1 - 2 * (qt i / 2) := (trips3 i) ▸ k.isLt
  unfold k0_off8
  generalize k.val = n at *
  unfold qt at *
  generalize (i 1).val = a at *
  have hn : n < 2 := by omega
  interval_cases a <;> interval_cases n <;> first | rfl | omega

theorem off11_eq (k : Fin (k0_t5_loop i).trips) : k0_off11 i k = ![0, 256 * k.val, 0] := by
  have h := qt_lt i
  have hk : k.val < qt i / 2 := (trips5 i) ▸ k.isLt
  unfold k0_off11
  generalize k.val = n at *
  have hn : n < 8 := by omega
  interval_cases n <;> rfl

theorem off12_eq (k : Fin (k0_t5_loop i).trips) : k0_off12 i k = ![2 * k.val, 0, 0] := by
  have h := qt_lt i
  have hk : k.val < qt i / 2 := (trips5 i) ▸ k.isLt
  unfold k0_off12
  generalize k.val = n at *
  have hn : n < 8 := by omega
  interval_cases n <;> rfl

theorem off13_eq (k : Fin (k0_t5_loop i).trips) : k0_off13 i k = ![2 * k.val + 1, 0, 0] := by
  have h := qt_lt i
  have hk : k.val < qt i / 2 := (trips5 i) ▸ k.isLt
  unfold k0_off13
  generalize k.val = n at *
  have hn : n < 8 := by omega
  interval_cases n <;> rfl

theorem off17_eq (k : Fin (k0_t7_loop i).trips) : k0_off17 i k = ![0, 128 * (2 * (qt i / 2) + k.val), 0] := by
  have h := qt_lt i
  have hk : k.val < qt i + 1 - 2 * (qt i / 2) := (trips7 i) ▸ k.isLt
  unfold k0_off17
  generalize k.val = n at *
  unfold qt at *
  generalize (i 1).val = a at *
  have hn : n < 2 := by omega
  interval_cases a <;> interval_cases n <;> first | rfl | omega

theorem off18_eq (k : Fin (k0_t7_loop i).trips) : k0_off18 i k = ![2 * (qt i / 2) + k.val, 0, 0] := by
  have h := qt_lt i
  have hk : k.val < qt i + 1 - 2 * (qt i / 2) := (trips7 i) ▸ k.isLt
  unfold k0_off18
  generalize k.val = n at *
  unfold qt at *
  generalize (i 1).val = a at *
  have hn : n < 2 := by omega
  interval_cases a <;> interval_cases n <;> first | rfl | omega

end trips

end Cert.KernelIdeal.Att
-- ==== Proof.KI.Trips.lean ====
/-
  One trip of each loop of the attention kernel, and what the loops leave.
-/
module

public import proofs.«01_k».proof.Proof.KI.Arith
public import proofs.«01_k».proof.Proof.Gen.KernelIdeal.Frame
public import Idealize.ShloMosaic.Lib.Tactic
public import Idealize.ShloMosaic.Lib.WholeRead

@[expose] public section

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

abbrev 𝒱₀ : Variants := Variants.none

variable (c : Dev nD) (i : grid0.Coords)
  (arg2 : Memref sig .tc .vmem S1x8x128x256 .bf16) (harg2 : arg2.IsWhole)
  (arg3 : Memref sig .tc .vmem S1x2176x256 .bf16) (harg3 : arg3.IsWhole)
  (arg4 : Memref sig .tc .vmem S8x128x64 .bf16) (harg4 : arg4.IsWhole)
  (arg5 : Memref sig .tc .vmem S1x128x512 .f32) (harg5 : arg5.IsWhole)
  (arg6 : Memref sig .tc .vmem S17x1024x128 .f32) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1024x128 .f32) (harg9 : arg9.IsWhole)

/-- A whole buffer held at contents. -/
abbrev pt {S : Shape} {e : EltTy} (M : Memref sig .tc .vmem S e) (f : BufTy.Contents (Elt F) M.view.ty) : sProp 𝕄 :=
  (M.view.loc (c : Thread nD τ) ↦[M.view.set]{fullShare} f)

/-! ### Loads and stores of whole buffers held at contents that read a vector -/

/-- What a load through a rectangle gets of a buffer that reads `X`. -/
def ld {S : Shape} {e : EltTy} (X : Vec F S e) (R : Rect S) : Vec F R.shape e := fun y => X (R.toLoadRect.idx y)

section whole
variable {S : Shape} {e : EltTy} {M : Memref sig .tc .vmem S e} (h : M.IsWhole)

theorem readAt_ld (X : Vec F S e) (R : Rect S) :
    View.readAt (Elt F) M.view R.toLoadRect (h.unread X) = ld X R :=
  funext fun y => h.readAt_unread X _ y

theorem writes_unread (X : Vec F S e) (L : List (View.Piece (Elt F) S e)) :
    M.view.writes (Elt F) (h.unread X) L = h.unread (M.view.read (Elt F) (M.view.writes (Elt F) (h.unread X) L)) :=
  (h.unread_read _).symm

end whole

section sq
variable {M : Memref sig .tc .vmem S1024x128 .f32} (h : M.IsWhole)

/-- The whole of a [1024,128] buffer. -/
abbrev rsq : Rect S1024x128 := Rect.unit ![0, 0] S1024x128.size inb_S1024x128_S1024x128_0_0

theorem ld_sq (X : Vec F S1024x128 .f32) : ld X rsq = X := by
  funext y
  unfold ld
  congr 1
  funext a
  apply Fin.ext
  have : ∀ a : Fin S1024x128.rank, (![0, 0] : Fin 2 → ℕ) a = 0 := by decide
  show (![0, 0] : Fin 2 → ℕ) a + 1 * (y a).val = (y a).val
  rw [this]; omega

theorem read_sq (X : Vec F S1024x128 .f32) :
    View.readAt (Elt F) M.view rsq.toLoadRect (h.unread X) = X := by
  rw [readAt_ld h X rsq, ld_sq]

theorem write_sq (f : BufTy.Contents (Elt F) M.view.ty) (P : Vec F S1024x128 .f32) :
    M.view.writes (Elt F) f [⟨rsq, P⟩] = h.unread P := by
  refine h.eq_unread (funext fun y => ?_)
  refine View.read_writes_cons_hit_of_coords M.view f rsq P [] y y fun a => ?_
  have : ∀ a : Fin S1024x128.rank, (![0, 0] : Fin 2 → ℕ) a = 0 := by decide
  show (y a).val = (![0, 0] : Fin 2 → ℕ) a + 1 * (y a).val
  rw [this]; omega

end sq

/-! ### The tiles of logits the scratch holds -/

/-- The first `n` slots of the scratch hold the tiles `T 0, …, T (n-1)`. -/
def Fill (T : ℕ → Vec F S1x1024x128 .f32) (n : ℕ) (X : Vec F S17x1024x128 .f32) : Prop :=
  ∀ (y : S17x1024x128.Idx) (z : S1x1024x128.Idx), (y 0).val < n → (y 1).val = (z 1).val → (y 2).val = (z 2).val →
    X y = T (y 0).val z

/-- Slot `n` of the scratch. -/
abbrev rslot (off : Fin 3 → ℕ) (h : ∀ a, off a + S1x1024x128.size a ≤ S17x1024x128.size a) : Rect S17x1024x128 :=
  Rect.unit (s := S17x1024x128) off S1x1024x128.size h

theorem Fill.ld_slot {T : ℕ → Vec F S1x1024x128 .f32} {n : ℕ} {X : Vec F S17x1024x128 .f32} (hX : Fill T n X)
    (off : Fin 3 → ℕ) (h) (j : ℕ) (ho : off = ![j, 0, 0]) (hj : j < n) : ld X (rslot off h) = T j := by
  subst ho
  funext z
  unfold ld
  have h0 : (((rslot ![j, 0, 0] h).toLoadRect.idx z) 0).val = j := by
    show j + 1 * (z 0).val = j
    have : (z 0).val < 1 := (z 0).isLt
    omega
  have h1 : (((rslot ![j, 0, 0] h).toLoadRect.idx z) 1).val = (z 1).val := by
    show 0 + 1 * (z 1).val = (z 1).val
    omega
  have h2 : (((rslot ![j, 0, 0] h).toLoadRect.idx z) 2).val = (z 2).val := by
    show 0 + 1 * (z 2).val = (z 2).val
    omega
  rw [hX _ z (by rw [h0]; exact hj) h1 h2, h0]

/-- One more slot stored. -/
theorem Fill.store {T : ℕ → Vec F S1x1024x128 .f32} {n : ℕ} {M : Memref sig .tc .vmem S17x1024x128 .f32}
    {f : BufTy.Contents (Elt F) M.view.ty} {L : List (View.Piece (Elt F) S17x1024x128 .f32)}
    (hX : Fill T n (M.view.read (Elt F) (M.view.writes (Elt F) f L)))
    (off : Fin 3 → ℕ) (h) (P : Vec F S1x1024x128 .f32) (ho : off = ![n, 0, 0]) (hP : P = T n) :
    Fill T (n + 1) (M.view.read (Elt F) (M.view.writes (Elt F) f (⟨rslot off h, P⟩ :: L))) := by
  subst ho hP
  intro y z hy h1 h2
  by_cases h0 : (y 0).val = n
  · rw [h0]
    refine View.read_writes_cons_hit_of_coords M.view f (rslot ![n, 0, 0] h) (T n) L z y fun a => ?_
    have hz : (z 0).val < 1 := (z 0).isLt
    match a with
    | ⟨0, _⟩ => show (y 0).val = n + 1 * (z 0).val; omega
    | ⟨1, _⟩ => show (y 1).val = 0 + 1 * (z 1).val; omega
    | ⟨2, _⟩ => show (y 2).val = 0 + 1 * (z 2).val; omega
  · rw [View.read_writes_cons_miss_of_axis M.view f ⟨rslot ![n, 0, 0] h, T n⟩ L y 0 n 1 rfl rfl rfl (by omega)]
    exact hX y z (by omega) h1 h2

/-! ### The values the loops compute -/

/-- The query tile's number as the word the body computes with. -/
abbrev wq : BitVec 32 := BitVec.ofNat 32 (i 1).val

/-- The first key tile of the second pass, as the word the body computes with. -/
abbrev wbase : BitVec 32 :=
  let arg1 : BitVec 32 := BitVec.ofNat 32 (i 1).val
  let v11 : BitVec 32 := Scalar.divsi arg1 2#32
  let v12 : BitVec 1 := Scalar.cmpi .sgt arg1 0#32
  let v13 : BitVec 32 := Scalar.extui v12
  let v14 : BitVec 1 := Scalar.cmpi .slt arg1 0#32
  let v15 : BitVec 32 := Scalar.extui v14
  let v16 : BitVec 32 := Scalar.subi v13 v15
  let v17 : BitVec 1 := Scalar.cmpi .sgt 2#32 0#32
  let v18 : BitVec 32 := Scalar.extui v17
  let v19 : BitVec 1 := Scalar.cmpi .slt 2#32 0#32
  let v20 : BitVec 32 := Scalar.extui v19
  let v21 : BitVec 32 := Scalar.subi v18 v20
  let v22 : BitVec 1 := Scalar.cmpi .ne v16 v21
  let v23 : BitVec 32 := Scalar.remsi arg1 2#32
  let v24 : BitVec 1 := Scalar.cmpi .ne v23 0#32
  let v25 : BitVec 1 := Scalar.andi v22 v24
  let v26 : BitVec 32 := Scalar.subi v11 1#32
  let v27 : BitVec 32 := Scalar.select v25 v26 v11
  Scalar.muli 2#32 v27

abbrev kcol : IVec S1024x128 32 := iota .tc S1024x128 32 [1] iota_S1024x128_d1_w32

variable (x0 : Vec F S1x8x128x256 .bf16) (x1 : Vec F S1x2176x256 .bf16) (x2 : Vec F S8x128x64 .bf16)

/-- 256 rows of the keys, trip `k` of the first loop. -/
abbrev row1 (k : Fin (k0_t1_loop i).trips) : Vec F S1x256x256 .bf16 :=
  ld x1 (Rect.unit (s := S1x2176x256) (k0_off1 i k) S1x256x256.size (k0_off1_inb i k))

/-- 128 rows of the keys, trip `k` of the second loop. -/
abbrev row3 (k : Fin (k0_t3_loop i).trips) : Vec F S1x128x256 .bf16 :=
  ld x1 (Rect.unit (s := S1x2176x256) (k0_off7 i k) S1x128x256.size (k0_off7_inb i k))

abbrev row5 (k : Fin (k0_t5_loop i).trips) : Vec F S1x256x256 .bf16 :=
  ld x1 (Rect.unit (s := S1x2176x256) (k0_off11 i k) S1x256x256.size (k0_off11_inb i k))

abbrev row7 (k : Fin (k0_t7_loop i).trips) : Vec F S1x128x256 .bf16 :=
  ld x1 (Rect.unit (s := S1x2176x256) (k0_off17 i k) S1x128x256.size (k0_off17_inb i k))

/-- The tile of logits against key tile `j`. -/
def tile (j : ℕ) : Vec F S1x1024x128 .f32 :=
  if h : j / 2 < (k0_t1_loop i).trips then
    if j % 2 = 0 then k0_pay6 x0 (row1 i x1 ⟨j / 2, h⟩) else k0_pay7 x0 (row1 i x1 ⟨j / 2, h⟩)
  else if h : j - 2 * (qt i / 2) < (k0_t3_loop i).trips then
    k0_pay14 i (wq i) k0_pay2 kcol (k0_pay3 x0) (wbase i) ⟨_, h⟩ (row3 i x1 ⟨_, h⟩)
  else fun _ => Scalar.ofBits .f32 0#32

/-- The running maximum before trip `n` of the first loop. -/
def mx1 : ℕ → Vec F S1024x128 .f32
  | 0 => k0_pay4
  | n + 1 => if h : n < (k0_t1_loop i).trips then k0_pay8 x0 (row1 i x1 ⟨n, h⟩) (mx1 n) else mx1 n

/-- The running maximum before trip `n` of the second loop. -/
def mx3 : ℕ → Vec F S1024x128 .f32
  | 0 => mx1 i x0 x1 (k0_t1_loop i).trips
  | n + 1 => if h : n < (k0_t3_loop i).trips then
      k0_pay15 i (wq i) k0_pay2 kcol (k0_pay3 x0) (wbase i) ⟨n, h⟩ (row3 i x1 ⟨n, h⟩) (mx3 n) else mx3 n

/-- The maximum over every key tile. -/
def mxF : Vec F S1024x128 .f32 := mx3 i x0 x1 (k0_t3_loop i).trips

/-- The sums of weights and of weighted values before trip `n` of the third loop. -/
def ls5 : ℕ → Vec F S1024x128 .f32
  | 0 => k0_pay21
  | n + 1 => if h : n < (k0_t5_loop i).trips then
      k0_pay24 (mxF i x0 x1) (tile i x0 x1 (2 * n)) (tile i x0 x1 (2 * n + 1)) (ls5 n) else ls5 n

def ac5 : ℕ → Vec F S1024x128 .f32
  | 0 => k0_pay20
  | n + 1 => if h : n < (k0_t5_loop i).trips then
      k0_pay25 (mxF i x0 x1) (row5 i x1 ⟨n, h⟩) (tile i x0 x1 (2 * n)) (tile i x0 x1 (2 * n + 1)) (ac5 n) else ac5 n

/-- The row maximum, as the last loop takes it. -/
def mrow : Vec F S1024x128 .f32 := k0_pay19 (mxF i x0 x1)

/-- The same sums before trip `n` of the last loop. -/
def ls7 : ℕ → Vec F S1024x128 .f32
  | 0 => ls5 i x0 x1 (k0_t5_loop i).trips
  | n + 1 => if h : n < (k0_t7_loop i).trips then
      k0_pay31 (mrow i x0 x1) (tile i x0 x1 (2 * (qt i / 2) + n)) (ls7 n) else ls7 n

def ac7 : ℕ → Vec F S1024x128 .f32
  | 0 => ac5 i x0 x1 (k0_t5_loop i).trips
  | n + 1 => if h : n < (k0_t7_loop i).trips then
      k0_pay32 (mrow i x0 x1) (row7 i x1 ⟨n, h⟩) (tile i x0 x1 (2 * (qt i / 2) + n)) (ac7 n) else ac7 n

def lsF : Vec F S1024x128 .f32 := ls7 i x0 x1 (k0_t7_loop i).trips
def acF : Vec F S1024x128 .f32 := ac7 i x0 x1 (k0_t7_loop i).trips

/-- Head `n`'s block of the last weights. -/
abbrev head (off : Fin 3 → ℕ) (h : ∀ a, off a + S1x128x64.size a ≤ S8x128x64.size a) : Vec F S1x128x64 .bf16 := ld x2 (Rect.unit (s := S8x128x64) off S1x128x64.size h)

/-- The block a grid point stores. -/
def outv : Vec F S1x128x512 .f32 :=
  k0_pay1 (k0_pay36 (acF i x0 x1) (lsF i x0 x1))
    (k0_pay37 (acF i x0 x1) (lsF i x0 x1) (head x2 ![0, 0, 0] inb_S8x128x64_S1x128x64_0_0_0))
    (k0_pay38 (acF i x0 x1) (lsF i x0 x1) (head x2 ![1, 0, 0] inb_S8x128x64_S1x128x64_1_0_0))
    (k0_pay39 (acF i x0 x1) (lsF i x0 x1) (head x2 ![2, 0, 0] inb_S8x128x64_S1x128x64_2_0_0))
    (k0_pay40 (acF i x0 x1) (lsF i x0 x1) (head x2 ![3, 0, 0] inb_S8x128x64_S1x128x64_3_0_0))
    (k0_pay41 (acF i x0 x1) (lsF i x0 x1) (head x2 ![4, 0, 0] inb_S8x128x64_S1x128x64_4_0_0))
    (k0_pay42 (acF i x0 x1) (lsF i x0 x1))
    (head x2 ![5, 0, 0] inb_S8x128x64_S1x128x64_5_0_0) (head x2 ![6, 0, 0] inb_S8x128x64_S1x128x64_6_0_0)
    (head x2 ![7, 0, 0] inb_S8x128x64_S1x128x64_7_0_0)

theorem tile_even (k : Fin (k0_t1_loop i).trips) : tile i x0 x1 (2 * k.val) = k0_pay6 x0 (row1 i x1 k) := by
  have e : 2 * k.val / 2 = k.val := by omega
  unfold tile
  rw [dif_pos (by rw [e]; exact k.isLt), if_pos (by omega)]
  congr 2
  exact Fin.ext e

theorem tile_odd (k : Fin (k0_t1_loop i).trips) : tile i x0 x1 (2 * k.val + 1) = k0_pay7 x0 (row1 i x1 k) := by
  have e : (2 * k.val + 1) / 2 = k.val := by omega
  unfold tile
  rw [dif_pos (by rw [e]; exact k.isLt), if_neg (by omega)]
  congr 2
  exact Fin.ext e

theorem tile_last (k : Fin (k0_t3_loop i).trips) : tile i x0 x1 (2 * (qt i / 2) + k.val)
    = k0_pay14 i (wq i) k0_pay2 kcol (k0_pay3 x0) (wbase i) k (row3 i x1 k) := by
  have hk := k.isLt
  have h3 := trips3 i
  have e : 2 * (qt i / 2) + k.val - 2 * (qt i / 2) = k.val := by omega
  have he : (⟨2 * (qt i / 2) + k.val - 2 * (qt i / 2), by rw [e]; exact hk⟩ : Fin (k0_t3_loop i).trips) = k := Fin.ext e
  unfold tile
  rw [dif_neg (by rw [trips1]; omega), dif_pos (by rw [e]; exact hk), he]

/-! ### The loops' invariants and their trips -/

def I1 (n : ℕ) (_ : Unit) : sProp 𝕄 :=
  iprop(pt c arg3 (harg3.unread x1) ∗ (∃ X, pt c arg6 (harg6.unread X) ∗ ⌜Fill (tile i x0 x1) (2 * n) X⌝) ∗ pt c arg7 (harg7.unread (mx1 i x0 x1 n)))

def I3 (n : ℕ) (_ : Unit) : sProp 𝕄 :=
  iprop(pt c arg3 (harg3.unread x1) ∗ (∃ X, pt c arg6 (harg6.unread X) ∗ ⌜Fill (tile i x0 x1) (2 * (qt i / 2) + n) X⌝) ∗ pt c arg7 (harg7.unread (mx3 i x0 x1 n)))

def I5 (X : Vec F S17x1024x128 .f32) (n : ℕ) (_ : Unit) : sProp 𝕄 :=
  iprop(pt c arg3 (harg3.unread x1) ∗ pt c arg6 (harg6.unread X) ∗ pt c arg8 (harg8.unread (ac5 i x0 x1 n)) ∗ pt c arg9 (harg9.unread (ls5 i x0 x1 n)))

def I7 (X : Vec F S17x1024x128 .f32) (n : ℕ) (_ : Unit) : sProp 𝕄 :=
  iprop(pt c arg3 (harg3.unread x1) ∗ pt c arg6 (harg6.unread X) ∗ pt c arg8 (harg8.unread (ac7 i x0 x1 n)) ∗ pt c arg9 (harg9.unread (ls7 i x0 x1 n)))

theorem trip1 (E : Set ℕ) (k : Fin (k0_t1_loop i).trips) (u : Unit) :
    I1 c i arg3 harg3 arg6 harg6 arg7 harg7 x0 x1 k.val u
      ⊢ wp frame (wpE (defs₀ (F := F)) 𝒱₀ (c : Thread nD τ) none) E
          (k0_t1_body (F := F) i arg2 harg2 arg3 harg3 arg4 harg4 arg5 harg5 arg6 harg6 arg7 harg7 arg8 harg8 arg9 harg9 x0 k u)
          (I1 c i arg3 harg3 arg6 harg6 arg7 harg7 x0 x1 (k.val + 1)) := by
  unfold I1 k0_t1_body
  iintro ⟨H3, ⟨%X, H6, %hX⟩, H7⟩
  sl_exec
  sl_step
  rw [readAt_ld harg3 x1, writes_unread harg6 X, read_sq harg7, write_sq harg7]
  isplitl [H3]
  · iexact H3
  isplitl [H6]
  · iexists _
    isplitl [H6]
    · iexact H6
    ipureintro
    have e1 : 2 * (k.val + 1) = 2 * k.val + 1 + 1 := by omega
    rw [e1]
    refine Fill.store (Fill.store (L := []) ?_ _ _ _ (off2_eq i k) (tile_even i x0 x1 k).symm) _ _ _ (off3_eq i k)
      (tile_odd i x0 x1 k).symm
    rw [View.writes_nil, harg6.read_unread]
    exact hX
  · have e : mx1 i x0 x1 (k.val + 1) = k0_pay8 x0 (row1 i x1 k) (mx1 i x0 x1 k.val) := by
      rw [mx1, dif_pos k.isLt]
    rw [e]
    iexact H7

theorem trip3 (E : Set ℕ) (v27 : BitVec 32) (k : Fin (k0_t3_loop i).trips) (u : Unit) :
    I3 c i arg3 harg3 arg6 harg6 arg7 harg7 x0 x1 k.val u
      ⊢ wp frame (wpE (defs₀ (F := F)) 𝒱₀ (c : Thread nD τ) none) E
          (k0_t3_body (F := F) i arg2 harg2 arg3 harg3 arg4 harg4 arg5 harg5 arg6 harg6 arg7 harg7 arg8 harg8 arg9 harg9 (wq i) k0_pay2 kcol (k0_pay3 x0) v27 (wbase i) k u)
          (I3 c i arg3 harg3 arg6 harg6 arg7 harg7 x0 x1 (k.val + 1)) := by
  unfold I3 k0_t3_body
  iintro ⟨H3, ⟨%X, H6, %hX⟩, H7⟩
  sl_exec
  sl_step
  rw [readAt_ld harg3 x1, writes_unread harg6 X, read_sq harg7, write_sq harg7]
  isplitl [H3]
  · iexact H3
  isplitl [H6]
  · iexists _
    isplitl [H6]
    · iexact H6
    ipureintro
    refine Fill.store (L := []) ?_ _ _ _ (off8_eq i k) (tile_last i x0 x1 k).symm
    rw [View.writes_nil, harg6.read_unread]
    exact hX
  · have e : mx3 i x0 x1 (k.val + 1)
        = k0_pay15 i (wq i) k0_pay2 kcol (k0_pay3 x0) (wbase i) k (row3 i x1 k) (mx3 i x0 x1 k.val) := by
      rw [mx3, dif_pos k.isLt]
    rw [e]
    iexact H7

theorem trip5 (E : Set ℕ) (X : Vec F S17x1024x128 .f32) (hX : Fill (tile i x0 x1) (qt i + 1) X) (a1 : BitVec 32) (v2 v3 : IVec S1024x128 32)
    (v6 : FVec F S1024x256 .bf16) (v27 v33 : BitVec 32) (k : Fin (k0_t5_loop i).trips) (u : Unit) :
    I5 c i arg3 harg3 arg6 harg6 arg8 harg8 arg9 harg9 x0 x1 X k.val u
      ⊢ wp frame (wpE (defs₀ (F := F)) 𝒱₀ (c : Thread nD τ) none) E
          (k0_t5_body (F := F) i arg2 harg2 arg3 harg3 arg4 harg4 arg5 harg5 arg6 harg6 arg7 harg7 arg8 harg8 arg9 harg9 a1 v2 v3 v6 v27 v33 (mxF i x0 x1) k u)
          (I5 c i arg3 harg3 arg6 harg6 arg8 harg8 arg9 harg9 x0 x1 X (k.val + 1)) := by
  have hk : k.val < qt i / 2 := (trips5 i) ▸ k.isLt
  unfold I5 k0_t5_body
  iintro ⟨H3, H6, H8, H9⟩
  sl_exec
  sl_step
  rw [readAt_ld harg3 x1, readAt_ld harg6 X, readAt_ld harg6 X, read_sq harg8, read_sq harg9, write_sq harg8, write_sq harg9,
    hX.ld_slot _ _ _ (off12_eq i k) (by omega), hX.ld_slot _ _ _ (off13_eq i k) (by omega)]
  isplitl [H3]
  · iexact H3
  isplitl [H6]
  · iexact H6
  isplitl [H8]
  · have e : ac5 i x0 x1 (k.val + 1)
        = k0_pay25 (mxF i x0 x1) (row5 i x1 k) (tile i x0 x1 (2 * k.val)) (tile i x0 x1 (2 * k.val + 1)) (ac5 i x0 x1 k.val) := by
      rw [ac5, dif_pos k.isLt]
    rw [e]
    iexact H8
  · have e : ls5 i x0 x1 (k.val + 1)
        = k0_pay24 (mxF i x0 x1) (tile i x0 x1 (2 * k.val)) (tile i x0 x1 (2 * k.val + 1)) (ls5 i x0 x1 k.val) := by
      rw [ls5, dif_pos k.isLt]
    rw [e]
    iexact H9

theorem trip7 (E : Set ℕ) (X : Vec F S17x1024x128 .f32) (hX : Fill (tile i x0 x1) (qt i + 1) X)
    (v58 v64 : BitVec 32) (k : Fin (k0_t7_loop i).trips) (u : Unit) :
    I7 c i arg3 harg3 arg6 harg6 arg8 harg8 arg9 harg9 x0 x1 X k.val u
      ⊢ wp frame (wpE (defs₀ (F := F)) 𝒱₀ (c : Thread nD τ) none) E
          (k0_t7_body (F := F) i arg2 harg2 arg3 harg3 arg4 harg4 arg5 harg5 arg6 harg6 arg7 harg7 arg8 harg8 arg9 harg9 (mrow i x0 x1) v58 v64 k u)
          (I7 c i arg3 harg3 arg6 harg6 arg8 harg8 arg9 harg9 x0 x1 X (k.val + 1)) := by
  have hk : k.val < qt i + 1 - 2 * (qt i / 2) := (trips7 i) ▸ k.isLt
  unfold I7 k0_t7_body
  iintro ⟨H3, H6, H8, H9⟩
  sl_exec
  sl_step
  rw [readAt_ld harg3 x1, readAt_ld harg6 X, read_sq harg8, read_sq harg9, write_sq harg8, write_sq harg9,
    hX.ld_slot _ _ _ (off18_eq i k) (by omega)]
  isplitl [H3]
  · iexact H3
  isplitl [H6]
  · iexact H6
  isplitl [H8]
  · have e : ac7 i x0 x1 (k.val + 1)
        = k0_pay32 (mrow i x0 x1) (row7 i x1 k) (tile i x0 x1 (2 * (qt i / 2) + k.val)) (ac7 i x0 x1 k.val) := by
      rw [ac7, dif_pos k.isLt]
    rw [e]
    iexact H8
  · have e : ls7 i x0 x1 (k.val + 1)
        = k0_pay31 (mrow i x0 x1) (tile i x0 x1 (2 * (qt i / 2) + k.val)) (ls7 i x0 x1 k.val) := by
      rw [ls7, dif_pos k.isLt]
    rw [e]
    iexact H9

end Cert.KernelIdeal.Att

end
-- ==== Proof.KI.Run.lean ====
/-
  The body of the attention kernel on whole staging buffers, the launch, and the run of the program.
-/
module

public import proofs.«01_k».proof.Proof.KI.Trips

@[expose] public section

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

/-- The whole of a query block, and of an output block. -/
theorem ld_q (X : Vec F S1x8x128x256 .bf16) :
    ld X (Rect.unit (s := S1x8x128x256) ![0, 0, 0, 0] S1x8x128x256.size inb_S1x8x128x256_S1x8x128x256_0_0_0_0) = X := by
  funext y
  unfold ld
  congr 1
  funext a
  apply Fin.ext
  have : ∀ a : Fin S1x8x128x256.rank, (![0, 0, 0, 0] : Fin 4 → ℕ) a = 0 := by decide
  show (![0, 0, 0, 0] : Fin 4 → ℕ) a + 1 * (y a).val = (y a).val
  rw [this]; omega

abbrev rout : Rect S1x128x512 := Rect.unit ![0, 0, 0] S1x128x512.size inb_S1x128x512_S1x128x512_0_0_0

theorem write_out {M : Memref sig .tc .vmem S1x128x512 .f32} (h : M.IsWhole) (f : BufTy.Contents (Elt F) M.view.ty)
    (P : Vec F S1x128x512 .f32) : M.view.writes (Elt F) f [⟨rout, P⟩] = h.unread P := by
  refine h.eq_unread (funext fun y => ?_)
  refine View.read_writes_cons_hit_of_coords M.view f rout P [] y y fun a => ?_
  have : ∀ a : Fin S1x128x512.rank, (![0, 0, 0] : Fin 3 → ℕ) a = 0 := by decide
  show (y a).val = (![0, 0, 0] : Fin 3 → ℕ) a + 1 * (y a).val
  rw [this]; omega

variable (c : Dev nD) (i : grid0.Coords)
  (arg2 : Memref sig .tc .vmem S1x8x128x256 .bf16) (harg2 : arg2.IsWhole)
  (arg3 : Memref sig .tc .vmem S1x2176x256 .bf16) (harg3 : arg3.IsWhole)
  (arg4 : Memref sig .tc .vmem S8x128x64 .bf16) (harg4 : arg4.IsWhole)
  (arg5 : Memref sig .tc .vmem S1x128x512 .f32) (harg5 : arg5.IsWhole)
  (arg6 : Memref sig .tc .vmem S17x1024x128 .f32) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1024x128 .f32) (harg9 : arg9.IsWhole)
  (x0 : Vec F S1x8x128x256 .bf16) (x1 : Vec F S1x2176x256 .bf16) (x2 : Vec F S8x128x64 .bf16)

/-- The first part: the logits of the whole tiles, two at a time, and their maximum. -/
theorem part1_run (E : Set ℕ) (K : _ → sProp 𝕄) :
    iprop(pt c arg2 (harg2.unread x0) ∗ pt c arg3 (harg3.unread x1) ∗ (∃ X, pt c arg6 (harg6.unread X)) ∗ (∃ X, pt c arg7 (harg7.unread X))
        ∗ (iprop(pt c arg2 (harg2.unread x0) ∗ I3 c i arg3 harg3 arg6 harg6 arg7 harg7 x0 x1 0 ())
            -∗ ∀ v27, K ⟨wq i, k0_pay2, kcol, k0_pay3 x0, v27, wbase i⟩))
      ⊢ wp frame (wpE (defs₀ (F := F)) 𝒱₀ (c : Thread nD τ) none) E
          (k0_part1 (F := F) i arg2 harg2 arg3 harg3 arg4 harg4 arg5 harg5 arg6 harg6 arg7 harg7 arg8 harg8 arg9 harg9) K := by
  rw [k0_part1_eq_skeleton]
  iintro ⟨H2, H3, ⟨%X6, H6⟩, ⟨%X7, H7⟩, Hk⟩
  sl_unfold [k0_part1_skel]
  sl_exec
  unfold part1_run.sl.H7_1
  rw [readAt_ld harg2 x0, ld_q, write_sq harg7]
  sl_for (I1 c i arg3 harg3 arg6 harg6 arg7 harg7 x0 x1) $$ [H3 H6 H7]
  case region =>
    intro k u
    exact trip1 c i arg2 harg2 arg3 harg3 arg4 harg4 arg5 harg5 arg6 harg6 arg7 harg7 arg8 harg8 arg9 harg9 x0 x1 E k u
  · unfold I1
    isplitl [H3]
    · iexact H3
    isplitl [H6]
    · iexists _
      isplitl [H6]
      · iexact H6
      ipureintro
      intro y z hy
      omega
    · iexact H7
  iintro %u HI
  sl_for0 (trips2 i)
  sl_exec
  sl_step
  ispecialize Hk $$ [H2 HI]
  · isplitl [H2]
    · iexact H2
    unfold I1 I3
    icases HI with ⟨H3, ⟨%X, H6, %hX⟩, H7⟩
    isplitl [H3]
    · iexact H3
    isplitl [H6]
    · iexists X
      isplitl [H6]
      · iexact H6
      ipureintro
      have e : 2 * (k0_t1_loop i).trips = 2 * (qt i / 2) + 0 := by rw [trips1]; omega
      rw [← e]
      exact hX
    · iexact H7
  ispecialize Hk $$ %(part1_run.sl.v27 i)
  rw [show part1_run.sl.v33 i = wbase i from rfl, show part1_run.sl.v3 = kcol from rfl]
  iexact Hk

/-- The second part: the last tiles, and the sums over the whole ones. -/
theorem part2_run (E : Set ℕ) (v27 : BitVec 32) (K : _ → sProp 𝕄) :
    iprop(I3 c i arg3 harg3 arg6 harg6 arg7 harg7 x0 x1 0 () ∗ (∃ X, pt c arg8 (harg8.unread X)) ∗ (∃ X, pt c arg9 (harg9.unread X))
        ∗ (iprop((∃ X, pt c arg7 (harg7.unread X)) ∗ (∃ X, ⌜Fill (tile i x0 x1) (qt i + 1) X⌝ ∗ I7 c i arg3 harg3 arg6 harg6 arg8 harg8 arg9 harg9 x0 x1 X 0 ()))
            -∗ ∀ v58, ∀ v64, K ⟨mrow i x0 x1, v58, v64⟩))
      ⊢ wp frame (wpE (defs₀ (F := F)) 𝒱₀ (c : Thread nD τ) none) E
          (k0_part2 (F := F) i arg2 harg2 arg3 harg3 arg4 harg4 arg5 harg5 arg6 harg6 arg7 harg7 arg8 harg8 arg9 harg9
            (wq i) k0_pay2 kcol (k0_pay3 x0) v27 (wbase i)) K := by
  rw [k0_part2_eq_skeleton]
  iintro ⟨HI, ⟨%X8, H8⟩, ⟨%X9, H9⟩, Hk⟩
  sl_unfold [k0_part2_skel]
  sl_for (I3 c i arg3 harg3 arg6 harg6 arg7 harg7 x0 x1) $$ [HI]
  case region =>
    intro k u
    exact trip3 c i arg2 harg2 arg3 harg3 arg4 harg4 arg5 harg5 arg6 harg6 arg7 harg7 arg8 harg8 arg9 harg9 x0 x1 E v27 k u
  · iexact HI
  iintro %u HI
  sl_for0 (trips4 i)
  unfold I3
  rw [show mx3 i x0 x1 (Scf.trips (k0_t3_loop i).lb (k0_t3_loop i).ub (k0_t3_loop i).st) = mxF i x0 x1 from rfl]
  icases HI with ⟨H3, ⟨%X, H6, %hX⟩, H7⟩
  sl_exec
  unfold part2_run.sl.H8_1 part2_run.sl.H9_1
  rw [read_sq harg7, write_sq harg8, write_sq harg9]
  have hX' : Fill (tile i x0 x1) (qt i + 1) X := by
    have e : 2 * (qt i / 2) + (k0_t3_loop i).trips = qt i + 1 := by rw [trips3]; omega
    rw [← e]
    exact hX
  sl_for (I5 c i arg3 harg3 arg6 harg6 arg8 harg8 arg9 harg9 x0 x1 X) $$ [H3 H6 H8 H9]
  case region =>
    intro k u
    exact trip5 c i arg2 harg2 arg3 harg3 arg4 harg4 arg5 harg5 arg6 harg6 arg7 harg7 arg8 harg8 arg9 harg9 x0 x1 E X hX' _ _ _ _ _ _ k u
  · unfold I5
    isplitl [H3]
    · iexact H3
    isplitl [H6]
    · iexact H6
    isplitl [H8]
    · iexact H8
    · iexact H9
  iintro %u' HI
  sl_for0 (trips6 i)
  sl_exec
  sl_step
  ispecialize Hk $$ [H7 HI]
  · isplitl [H7]
    · iexists _
      iexact H7
    iexists X
    isplitr
    · ipureintro
      exact hX'
    unfold I5 I7
    icases HI with ⟨H3, H6, H8, H9⟩
    isplitl [H3]
    · iexact H3
    isplitl [H6]
    · iexact H6
    isplitl [H8]
    · iexact H8
    · iexact H9
  ispecialize Hk $$ %(part2_run.sl.v58 v27)
  ispecialize Hk $$ %(part2_run.sl.v64 i v27)
  unfold mrow
  iexact Hk

/-- The third part: the sums over the last tiles, and the first heads' products. -/
theorem part3_run (E : Set ℕ) (v58 v64 : BitVec 32) (X : Vec F S17x1024x128 .f32) (hX : Fill (tile i x0 x1) (qt i + 1) X) (K : _ → sProp 𝕄) :
    iprop(I7 c i arg3 harg3 arg6 harg6 arg8 harg8 arg9 harg9 x0 x1 X 0 () ∗ pt c arg4 (harg4.unread x2)
        ∗ (iprop(pt c arg3 (harg3.unread x1) ∗ pt c arg4 (harg4.unread x2) ∗ pt c arg6 (harg6.unread X)
              ∗ (∃ Y, pt c arg8 (harg8.unread Y)) ∗ (∃ Y, pt c arg9 (harg9.unread Y)))
            -∗ K ⟨k0_pay36 (acF i x0 x1) (lsF i x0 x1),
              k0_pay37 (acF i x0 x1) (lsF i x0 x1) (head x2 ![0, 0, 0] inb_S8x128x64_S1x128x64_0_0_0),
              k0_pay38 (acF i x0 x1) (lsF i x0 x1) (head x2 ![1, 0, 0] inb_S8x128x64_S1x128x64_1_0_0),
              k0_pay39 (acF i x0 x1) (lsF i x0 x1) (head x2 ![2, 0, 0] inb_S8x128x64_S1x128x64_2_0_0),
              k0_pay40 (acF i x0 x1) (lsF i x0 x1) (head x2 ![3, 0, 0] inb_S8x128x64_S1x128x64_3_0_0),
              k0_pay41 (acF i x0 x1) (lsF i x0 x1) (head x2 ![4, 0, 0] inb_S8x128x64_S1x128x64_4_0_0),
              k0_pay42 (acF i x0 x1) (lsF i x0 x1)⟩))
      ⊢ wp frame (wpE (defs₀ (F := F)) 𝒱₀ (c : Thread nD τ) none) E
          (k0_part3 (F := F) i arg2 harg2 arg3 harg3 arg4 harg4 arg5 harg5 arg6 harg6 arg7 harg7 arg8 harg8 arg9 harg9
            (mrow i x0 x1) v58 v64) K := by
  rw [k0_part3_eq_skeleton]
  iintro ⟨HI, H4, Hk⟩
  sl_unfold [k0_part3_skel]
  sl_for (I7 c i arg3 harg3 arg6 harg6 arg8 harg8 arg9 harg9 x0 x1 X) $$ [HI]
  case region =>
    intro k u
    exact trip7 c i arg2 harg2 arg3 harg3 arg4 harg4 arg5 harg5 arg6 harg6 arg7 harg7 arg8 harg8 arg9 harg9 x0 x1 E X hX v58 v64 k u
  · iexact HI
  iintro %u HI
  sl_for0 (trips8 i)
  unfold I7
  rw [show ac7 i x0 x1 (Scf.trips (k0_t7_loop i).lb (k0_t7_loop i).ub (k0_t7_loop i).st) = acF i x0 x1 from rfl,
    show ls7 i x0 x1 (Scf.trips (k0_t7_loop i).lb (k0_t7_loop i).ub (k0_t7_loop i).st) = lsF i x0 x1 from rfl]
  icases HI with ⟨H3, H6, H8, H9⟩
  sl_exec
  sl_step
  rw [read_sq harg8, read_sq harg9]
  simp only [readAt_ld harg4 x2]
  iapply Hk
  isplitl [H3]
  · iexact H3
  isplitl [H4]
  · iexact H4
  isplitl [H6]
  · iexact H6
  isplitl [H8]
  · iexists _
    iexact H8
  · iexists _
    iexact H9

/-- The whole body: the input blocks are read, the output block stored, the scratch left at something. -/
theorem body_run (E : Set ℕ) (K : PUnit → sProp 𝕄) :
    iprop(pt c arg2 (harg2.unread x0) ∗ pt c arg3 (harg3.unread x1) ∗ pt c arg4 (harg4.unread x2) ∗ (∃ X, pt c arg5 (harg5.unread X))
        ∗ (∃ X, pt c arg6 (harg6.unread X)) ∗ (∃ X, pt c arg7 (harg7.unread X)) ∗ (∃ X, pt c arg8 (harg8.unread X)) ∗ (∃ X, pt c arg9 (harg9.unread X))
        ∗ (iprop(pt c arg2 (harg2.unread x0) ∗ pt c arg3 (harg3.unread x1) ∗ pt c arg4 (harg4.unread x2) ∗ pt c arg5 (harg5.unread (outv i x0 x1 x2))
          ∗ (∃ X, pt c arg6 (harg6.unread X)) ∗ (∃ X, pt c arg7 (harg7.unread X)) ∗ (∃ X, pt c arg8 (harg8.unread X)) ∗ (∃ X, pt c arg9 (harg9.unread X)))
            -∗ K ⟨⟩))
      ⊢ wp frame (wpE (defs₀ (F := F)) 𝒱₀ (c : Thread nD τ) none) E
          (cc0_attn_c_prompt (F := F) i arg2 harg2 arg3 harg3 arg4 harg4 arg5 harg5 arg6 harg6 arg7 harg7 arg8 harg8 arg9 harg9) K := by
  rw [cc0_attn_c_prompt_eq_skeleton]
  iintro ⟨H2, H3, H4, ⟨%X5, H5⟩, H6, H7, H8, H9, Hk⟩
  unfold cc0_attn_c_prompt_skel
  rw [wp_bind]
  iapply (part1_run c i arg2 harg2 arg3 harg3 arg4 harg4 arg5 harg5 arg6 harg6 arg7 harg7 arg8 harg8 arg9 harg9 x0 x1 E _)
  isplitl [H2]
  · iexact H2
  isplitl [H3]
  · iexact H3
  isplitl [H6]
  · iexact H6
  isplitl [H7]
  · iexact H7
  iintro ⟨H2, HI⟩ %v27
  dsimp only
  rw [wp_bind]
  iapply (part2_run c i arg2 harg2 arg3 harg3 arg4 harg4 arg5 harg5 arg6 harg6 arg7 harg7 arg8 harg8 arg9 harg9 x0 x1 E v27 _)
  isplitl [HI]
  · iexact HI
  isplitl [H8]
  · iexact H8
  isplitl [H9]
  · iexact H9
  iintro ⟨H7, ⟨%X, %hX, HI⟩⟩ %v58 %v64
  dsimp only
  rw [wp_bind]
  iapply (part3_run c i arg2 harg2 arg3 harg3 arg4 harg4 arg5 harg5 arg6 harg6 arg7 harg7 arg8 harg8 arg9 harg9 x0 x1 x2 E v58 v64 X hX _)
  isplitl [HI]
  · iexact HI
  isplitl [H4]
  · iexact H4
  iintro ⟨H3, H4, H6, H8, H9⟩
  dsimp only
  sl_exec
  sl_step
  simp only [readAt_ld harg4 x2]
  rw [write_out harg5]
  iapply Hk
  isplitl [H2]
  · iexact H2
  isplitl [H3]
  · iexact H3
  isplitl [H4]
  · iexact H4
  isplitl [H5]
  · iexact H5
  isplitl [H6]
  · iexists _
    iexact H6
  isplitl [H7]
  · iexact H7
  isplitl [H8]
  · iexact H8
  · iexact H9

end Cert.KernelIdeal.Att

end
-- ==== Proof.KI.Main.lean ====
/-
  The launch of the attention kernel: the proof data of its pipeline and the run of the program.
-/
module

public import proofs.«01_k».proof.Proof.KI.Run

@[expose] public section

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

section owned
variable (c : Dev nD) {S : Shape} {e : EltTy} {M : Memref sig .tc .vmem S e} (h : M.IsWhole)

theorem pt_of_owns (x : Vec F S e) : (owns (c : Thread nD τ) M fullShare x : sProp 𝕄) ⊢ pt c M (h.unread x) := by
  unfold owns
  iintro ⟨%f, %hf, H⟩
  obtain rfl := h.eq_unread hf
  iexact H

theorem owns_of_pt (x : Vec F S e) : (pt c M (h.unread x) : sProp 𝕄) ⊢ owns (c : Thread nD τ) M fullShare x := by
  unfold owns
  iintro H
  iexists _
  isplitr
  · ipureintro
    exact h.read_unread x
  · iexact H

end owned

section scratch
variable (c : Dev nD) (b : Ref sig .tc)

theorem pt_of_scratch {S : Shape} {e : EltTy} {M : Memref sig .tc .vmem S e} (h : M.IsWhole) :
    (iprop(∃ f, M.view.loc (c : Thread nD τ) ↦[M.view.set]{fullShare} f) : sProp 𝕄) ⊢ iprop(∃ X, pt c M (h.unread X)) := by
  iintro ⟨%f, H⟩
  iexists (M.view.read (Elt F) f)
  rw [h.unread_read]
  iexact H

theorem scratch_of_pt {S : Shape} {e : EltTy} {M : Memref sig .tc .vmem S e} (h : M.IsWhole) :
    (iprop(∃ X, pt c M (h.unread X)) : sProp 𝕄) ⊢ iprop(∃ f, M.view.loc (c : Thread nD τ) ↦[M.view.set]{fullShare} f) := by
  iintro ⟨%X, H⟩
  iexists _
  iexact H

end scratch

theorem rest_eq (c : Dev nD) : (Pipeline.scopedRest (Ix := Unit) (Name := ℕ) (U := UR sig nD τ) (Lvl := ℕ) (Val := Elt F) spec0 c : sProp 𝕄)
    = iprop((∃ f, (Memref.whole cc0_scratch0).view.loc (c : Thread nD τ) ↦[(Memref.whole cc0_scratch0).view.set]{fullShare} f)
      ∗ (∃ f, (Memref.whole cc0_scratch1).view.loc (c : Thread nD τ) ↦[(Memref.whole cc0_scratch1).view.set]{fullShare} f)
      ∗ (∃ f, (Memref.whole cc0_scratch2).view.loc (c : Thread nD τ) ↦[(Memref.whole cc0_scratch2).view.set]{fullShare} f)
      ∗ (∃ f, (Memref.whole cc0_scratch3).view.loc (c : Thread nD τ) ↦[(Memref.whole cc0_scratch3).view.set]{fullShare} f)) := by
  rw [scopedRest0_eq]
  simp only [View.set_whole, Memref.view_whole]

/-- The body on owned buffers. -/
theorem body_owned (c : Dev nD) (i : grid0.Coords)
    (arg2 : Memref sig .tc .vmem S1x8x128x256 .bf16) (harg2 : arg2.IsWhole)
    (arg3 : Memref sig .tc .vmem S1x2176x256 .bf16) (harg3 : arg3.IsWhole)
    (arg4 : Memref sig .tc .vmem S8x128x64 .bf16) (harg4 : arg4.IsWhole)
    (arg5 : Memref sig .tc .vmem S1x128x512 .f32) (harg5 : arg5.IsWhole)
    (x0 : Vec F S1x8x128x256 .bf16) (x1 : Vec F S1x2176x256 .bf16) (x2 : Vec F S8x128x64 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ Pipeline.ΦA spec0 c
        ∗ (iprop(owns (c : Thread nD τ) arg2 fullShare x0 ∗ owns (c : Thread nD τ) arg3 fullShare x1 ∗ owns (c : Thread nD τ) arg4 fullShare x2
          ∗ owns (c : Thread nD τ) arg5 fullShare (outv i x0 x1 x2) ∗ Pipeline.ΦA spec0 c) -∗ K ⟨⟩))
      ⊢ wp frame (wpE (defs₀ (F := F)) 𝒱₀ (c : Thread nD τ) none) E
          (cc0_attn_c_prompt (F := F) i arg2 harg2 arg3 harg3 arg4 harg4 arg5 harg5
            (Memref.whole cc0_scratch0) (Memref.isWhole_whole _) (Memref.whole cc0_scratch1) (Memref.isWhole_whole _)
            (Memref.whole cc0_scratch2) (Memref.isWhole_whole _) (Memref.whole cc0_scratch3) (Memref.isWhole_whole _)) K := by
  unfold Pipeline.ΦA
  rw [rest_eq]
  iintro ⟨H2, H3, H4, ⟨%d, H5⟩, ⟨⟨S0, S1, S2, S3⟩, Hr⟩, Hk⟩
  iapply (body_run c i arg2 harg2 arg3 harg3 arg4 harg4 arg5 harg5 _ (Memref.isWhole_whole _) _ (Memref.isWhole_whole _)
    _ (Memref.isWhole_whole _) _ (Memref.isWhole_whole _) x0 x1 x2 E K)
  isplitl [H2]
  · iapply (pt_of_owns c harg2 x0)
    iexact H2
  isplitl [H3]
  · iapply (pt_of_owns c harg3 x1)
    iexact H3
  isplitl [H4]
  · iapply (pt_of_owns c harg4 x2)
    iexact H4
  isplitl [H5]
  · iexists d
    iapply (pt_of_owns c harg5 d)
    iexact H5
  isplitl [S0]
  · iapply (pt_of_scratch c (Memref.isWhole_whole _))
    iexact S0
  isplitl [S1]
  · iapply (pt_of_scratch c (Memref.isWhole_whole _))
    iexact S1
  isplitl [S2]
  · iapply (pt_of_scratch c (Memref.isWhole_whole _))
    iexact S2
  isplitl [S3]
  · iapply (pt_of_scratch c (Memref.isWhole_whole _))
    iexact S3
  iintro ⟨H2, H3, H4, H5, S0, S1, S2, S3⟩
  iapply Hk
  isplitl [H2]
  · iapply (owns_of_pt c harg2 x0)
    iexact H2
  isplitl [H3]
  · iapply (owns_of_pt c harg3 x1)
    iexact H3
  isplitl [H4]
  · iapply (owns_of_pt c harg4 x2)
    iexact H4
  isplitl [H5]
  · iapply (owns_of_pt c harg5 _)
    iexact H5
  isplitr [Hr]
  · isplitl [S0]
    · iapply (scratch_of_pt c (Memref.isWhole_whole _))
      iexact S0
    isplitl [S1]
    · iapply (scratch_of_pt c (Memref.isWhole_whole _))
      iexact S1
    isplitl [S2]
    · iapply (scratch_of_pt c (Memref.isWhole_whole _))
      iexact S2
    · iapply (scratch_of_pt c (Memref.isWhole_whole _))
      iexact S3
  · iexact Hr

variable (m : (ℓ : Loc nD τ sig) → Buf (Elt F) ℓ) (ρ : Dev nD → PrngReg)

/-- The block point `t` stores. -/
def outsAt (c : Dev nD) (t : Fin cfg0.N) : Vec F S1x128x512 .f32 :=
  outv (grid0.coords t) (iblk m c 0 t) (iblk m c 1 t) (iblk m c 2 t)

/-- The arrays as the region finds them; after the body each input's buffer at its block and the result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body at every point of the grid. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3]
  unfold outsAt
  iintro ⟨HΦ, Ho, ⟨%d0, H0⟩, ⟨%d1, H1⟩, ⟨%d2, H2⟩, ⟨%d3, H3⟩⟩
  iapply (body_owned c (grid0.coords t) _ _ _ _ _ _ _ _ (iblk m c 0 t) (iblk m c 1 t) (iblk m c 2 t) Set.univ _)
  isplitl [H0]
  · iexact H0
  isplitl [H1]
  · iexact H1
  isplitl [H2]
  · iexact H2
  isplitl [H3]
  · iexists _
    iexact H3
  isplitl [HΦ]
  · iexact HΦ
  iintro ⟨H0, H1, H2, H3, HΦ⟩
  isplitl [HΦ]
  · iexact HΦ
  isplitl [Ho]
  · iexact Ho
  isplitl [H0]
  · iexact H0
  isplitl [H1]
  · iexact H1
  isplitl [H2]
  · iexact H2
  · iexact H3

set_option backward.isDefEq.respectTransparency.types false in
/-- Every fair run of the program ends, with each array of the pipeline at what the proof data computes. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The program ends with its arguments as they were and its counters at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main (F := F) m ρ)

end Cert.KernelIdeal.Att

end
-- ==== Proof.Frames.lean ====
module

public import proofs.«01_k».proof.Defs
public import proofs.«01_k».proof.Proof.KB.Main
public import proofs.«01_k».proof.Proof.KI.Main
public import proofs.«01_k».proof.Proof.Gen.ReferenceIdeal
public import proofs.«01_k».proof.Proof.Gen.ReferenceIdeal.Run
public import Idealize.ShloMosaic.Lib.Quiescent

/-! The runs of the three programs, and the naming of the mask constant. -/

@[expose] public section

noncomputable section

namespace Cert.Proof

open Idealize.ShloMosaic Idealize.SL.Sem

attribute [local instance] Cert.Kernel.Gen.facts Cert.KernelIdeal.Gen.facts Cert.ReferenceIdeal.Gen.facts

/-- The kernel runs, keeps its arguments and leaves every counter at zero. -/
theorem runs_Kernel : Cert.quiescent_Kernel :=
  fun m g _ => Cert.Kernel.Att.frame_run m g

/-- The same of the kernel over the extended reals. -/
theorem runs_KernelIdeal : Cert.quiescent_KernelIdeal :=
  fun m g _ => Cert.KernelIdeal.Att.frame_run m g

/-- The reference runs over the extended reals; it declares no counter. -/
theorem runs_ReferenceIdeal : Cert.quiescent_ReferenceIdeal :=
  fun m g _ => (θ_run Cert.ReferenceIdeal.defs _ _).mono
    (fun r h => ⟨fun c => (h c).2, sem_eq_zero_of_no_sems (by decide) r.2⟩)
    (Cert.ReferenceIdeal.Value.run (F := Ideal) m g)

/-- The mask constant, a large negative number, is named as minus infinity. -/
theorem mask_named : Cert.preserves_Kernel_KernelIdeal :=
  IdealRules.named_const.statement Cert.KernelIdeal.κ "mask" .f32 0xF149F2CA#32 ⊥ rfl

end Cert.Proof

end
-- ==== Proof.Val.Row.lean ====
module

public import Idealize.ShloMosaic.PureOps.Ideal
public import Idealize.ShloMosaic.Lib.Pointwise

/-!
One row of causal attention, in real numbers: the logits `L p` of the keys `p`, of which the row at position `t` sees
those up to `t`.
-/

@[expose] public section

noncomputable section

namespace Cert.Row

open Idealize.ShloMosaic

/-- Words that hold small numbers compare as the numbers do. -/
theorem le_words (a b : ℕ) (ha : a < 2 ^ 31) (hb : b < 2 ^ 31) :
    IntOp.cmpi .sle (BitVec.ofNat 32 a) (BitVec.ofNat 32 b) = BitVec.ofBool (decide (a ≤ b)) := by
  have h : ∀ n < 2 ^ 31, (BitVec.ofNat 32 n).toInt = (n : ℤ) := fun n hn => by
    rw [BitVec.toInt_eq_toNat_of_lt (by rw [BitVec.toNat_ofNat]; omega), BitVec.toNat_ofNat, Nat.mod_eq_of_lt (by omega)]
  show BitVec.ofBool (BitVec.sle _ _) = _
  rw [BitVec.sle_eq_decide, h a ha, h b hb]
  simp

/-- The bit pattern of minus infinity. -/
theorem neg_inf : Ideal.ofBits .f32 0xFF800000#32 = (⊥ : EReal) := by
  simp [Ideal.ofBits, Ideal.ieee]

theorem fold_max {ι : Type} (s : Finset ι) (f : ι → EReal) : s.fold max ⊥ f = s.sup f := rfl

variable (L : ℕ → ℝ) (t : ℕ)

/-- The masked logit of key `p`. -/
def T (p : ℕ) : EReal := if p ≤ t then (L p : EReal) else ⊥

/-- The row's maximum. -/
def M : EReal := (Finset.range (t + 1)).sup (T L t)

theorem T_le_M (p : ℕ) : T L t p ≤ M L t := by
  by_cases h : p ≤ t
  · exact Finset.le_sup (f := T L t) (Finset.mem_range.2 (Nat.lt_succ_of_le h))
  · rw [T, if_neg h]; exact bot_le

theorem T_lt_top (p : ℕ) : T L t p < ⊤ := by
  unfold T
  split
  · exact EReal.coe_lt_top _
  · exact bot_lt_top

theorem M_real : ((M L t).toReal : EReal) = M L t := by
  refine EReal.coe_toReal (ne_of_lt ?_) (ne_of_gt ?_)
  · exact (Finset.sup_lt_iff bot_lt_top).2 fun p _ => T_lt_top L t p
  · refine lt_of_lt_of_le ?_ (T_le_M L t t)
    rw [T, if_pos le_rfl]; exact EReal.bot_lt_coe _

/-- Any family of keys that takes in every key up to `t` has the row's maximum. -/
theorem sup_eq_M {ι : Type} (s : Finset ι) (f : ι → ℕ) (h : ∀ p ≤ t, ∃ a ∈ s, f a = p) :
    s.sup (fun a => T L t (f a)) = M L t := by
  refine le_antisymm (Finset.sup_le fun a _ => T_le_M L t _) (Finset.sup_le fun p hp => ?_)
  obtain ⟨a, ha, e⟩ := h p (Nat.lt_succ_iff.1 (Finset.mem_range.1 hp))
  rw [← e]
  exact Finset.le_sup (f := fun a => T L t (f a)) ha

/-- The maximum lane by lane, then over the lanes. -/
theorem sup_lanes (n : ℕ) (h : t < 128 * n) :
    (Finset.univ : Finset (Fin 128)).sup (fun s => (Finset.range n).sup fun j => T L t (128 * j + s.val)) = M L t := by
  refine le_antisymm (Finset.sup_le fun s _ => Finset.sup_le fun j _ => T_le_M L t _) (Finset.sup_le fun p hp => ?_)
  have hp' := Finset.mem_range.1 hp
  have e : 128 * (p / 128) + (⟨p % 128, Nat.mod_lt _ (by norm_num)⟩ : Fin 128).val = p := Nat.div_add_mod p 128
  have h1 := Finset.le_sup (f := fun s : Fin 128 => (Finset.range n).sup fun j => T L t (128 * j + s.val))
    (Finset.mem_univ ⟨p % 128, Nat.mod_lt _ (by norm_num)⟩)
  refine le_trans ?_ h1
  have h2 := Finset.le_sup (f := fun j => T L t (128 * j + (⟨p % 128, Nat.mod_lt _ (by norm_num)⟩ : Fin 128).val))
    (Finset.mem_range.2 (show p / 128 < n by omega))
  exact le_trans (le_of_eq (congrArg (T L t) e.symm)) h2

/-- The weight of key `p`. -/
def E (p : ℕ) : ℝ := if p ≤ t then Real.exp (L p - (M L t).toReal) else 0

theorem exp_T (p : ℕ) : Ideal.exp (T L t p - M L t) = (E L t p : EReal) := by
  rw [← M_real L t]
  unfold T E
  split
  · rw [← EReal.coe_sub]; rfl
  · rw [EReal.bot_sub]; rfl

/-- The sum of the weights. -/
def den : ℝ := ∑ p ∈ Finset.range (t + 1), E L t p

theorem den_pos : 0 < den L t := by
  refine Finset.sum_pos (fun p hp => ?_) ⟨t, Finset.mem_range.2 (Nat.lt_succ_self t)⟩
  rw [E, if_pos (Nat.lt_succ_iff.1 (Finset.mem_range.1 hp))]
  exact Real.exp_pos _

/-- The weighted sum of `g`. -/
def num (g : ℕ → ℝ) : ℝ := ∑ p ∈ Finset.range (t + 1), E L t p * g p

theorem num_of_lt (g : ℕ → ℝ) (n : ℕ) (h : t < n) : ∑ p ∈ Finset.range n, E L t p * g p = num L t g := by
  refine (Finset.sum_subset (Finset.range_subset_range.2 h) fun p _ hp => ?_).symm
  rw [E, if_neg (fun hle => hp (Finset.mem_range.2 (Nat.lt_succ_of_le hle))), zero_mul]

theorem den_of_lt (n : ℕ) (h : t < n) : ∑ p ∈ Finset.range n, E L t p = den L t := by
  refine (Finset.sum_subset (Finset.range_subset_range.2 h) fun p _ hp => ?_).symm
  rw [E, if_neg (fun hle => hp (Finset.mem_range.2 (Nat.lt_succ_of_le hle)))]

/-- A sum over the first `n` tiles of 128. -/
theorem sum_tiles (f : ℕ → ℝ) (n : ℕ) :
    ∑ j ∈ Finset.range n, ∑ s : Fin 128, f (128 * j + s.val) = ∑ p ∈ Finset.range (128 * n), f p := by
  induction n with
  | zero => rfl
  | succ n ih =>
    rw [Finset.sum_range_succ, ih, Nat.mul_succ, Finset.sum_range_add, Finset.sum_range (fun s => f (128 * n + s))]

theorem coe_sum {ι : Type} (s : Finset ι) (f : ι → ℝ) : ((∑ a ∈ s, f a : ℝ) : EReal) = ∑ a ∈ s, (f a : EReal) := by
  classical
  induction s using Finset.induction_on with
  | empty => rfl
  | insert a s ha ih => rw [Finset.sum_insert ha, Finset.sum_insert ha, EReal.coe_add, ih]

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- A weighted sum with the weights already divided. -/
theorem num_div (g : ℕ → ℝ) (n : ℕ) (h : t < n) :
    ∑ p ∈ Finset.range n, g p * (E L t p / den L t) = num L t g / den L t := by
  rw [← num_of_lt L t g n h, Finset.sum_div]
  exact Finset.sum_congr rfl fun p _ => by ring

end Cert.Row

end
-- ==== Proof.KI.Pay.lean ====
/-
  What the attention kernel's operations compute over the extended reals, entry by entry.
-/
module

public import proofs.«01_k».proof.Proof.Val.Row
public import proofs.«01_k».proof.Proof.KI.Trips
public import Idealize.ShloMosaic.Lib.Pointwise
public import Idealize.ShloMosaic.PureOps.IdealRules

@[expose] public section

set_option maxRecDepth 16384

noncomputable section

namespace Cert.KernelIdeal.Att

open Cert.KernelIdeal Cert.KernelIdeal.Gen
open Idealize.ShloMosaic
open Cert.Row (le_words neg_inf)

/-! ### Words -/

theorem low_bits (n : ℕ) (h : n < 2 ^ 32) : IntOp.andi (BitVec.ofNat 32 n) 127#32 = BitVec.ofNat 32 (n % 128) := by
  show BitVec.ofNat 32 n &&& 127#32 = _
  apply BitVec.eq_of_toNat_eq
  rw [BitVec.toNat_and, BitVec.toNat_ofNat, BitVec.toNat_ofNat, Nat.mod_eq_of_lt h]
  rw [BitVec.toNat_ofNat, Nat.mod_eq_of_lt (by omega : n % 128 < 2 ^ 32)]
  exact Nat.and_two_pow_sub_one_eq_mod n 7

/-- A key tile of the second pass lies before the query's own tile, or is it. -/
theorem tile_before (i : grid0.Coords) (k : Fin (k0_t3_loop i).trips) :
    Scalar.cmpi .slt (Scf.iv (wbase i) 1#32 k.val) (wq i) = BitVec.ofBool (decide (2 * (qt i / 2) + k.val < qt i)) := by
  have hk : k.val < qt i + 1 - 2 * (qt i / 2) := (trips3 i) ▸ k.isLt
  have hq := qt_lt i
  unfold wbase wq
  dsimp only
  generalize k.val = n at hk ⊢
  unfold qt at hk hq ⊢
  generalize (i 1).val = m at hk hq ⊢
  have hn : n < 2 := by omega
  interval_cases m <;> interval_cases n <;> first | omega | decide

/-! ### The operations -/

section
variable (x0 : FVec Ideal S1x8x128x256 .bf16) (R : Fin 1024) (s : Fin 128)

/-- Row `R` of the query tile (its heads one under another) against key row `y` of `x`. -/
def dotRow {n : ℕ} (x : FVec Ideal ⟨3, ![1, n, 256]⟩ .bf16) (y : Fin n) : EReal :=
  ∑ k : Fin 256, x0 (ix4 0 ⟨R.val / 128, by omega⟩ ⟨R.val % 128, by omega⟩ k) * x (ix3 0 y k)

theorem pay6_at (x : FVec Ideal S1x256x256 .bf16) :
    k0_pay6 (F := Ideal) x0 x (ix3 0 R s) = dotRow x0 R (n := 256) x ⟨s.val, by omega⟩ := by
  unfold dotRow
  pointwise [k0_pay6, k0_pay5, k0_pay3]

theorem pay7_at (x : FVec Ideal S1x256x256 .bf16) :
    k0_pay7 (F := Ideal) x0 x (ix3 0 R s) = dotRow x0 R (n := 256) x ⟨128 + s.val, by omega⟩ := by
  unfold dotRow
  pointwise [k0_pay7, k0_pay5, k0_pay3]

theorem pay8_at (x : FVec Ideal S1x256x256 .bf16) (v : FVec Ideal S1024x128 .f32) :
    k0_pay8 (F := Ideal) x0 x v (ix2 R s)
      = max (v (ix2 R s)) (max (k0_pay6 (F := Ideal) x0 x (ix3 0 R s)) (k0_pay7 (F := Ideal) x0 x (ix3 0 R s))) := by
  rw [pay6_at, pay7_at]
  unfold dotRow
  pointwise [k0_pay8, k0_pay5, k0_pay3]

theorem mask_bot : (Named.named κ "mask" 0xF149F2CA#32 : Ideal .f32) = (⊥ : EReal) :=
  IdealRules.named_const.ideal_named_scalar _ _ _ _ rfl

theorem pay4_at : k0_pay4 (F := Ideal) (ix2 R s) = (⊥ : EReal) := by
  pointwise [k0_pay4]
  exact mask_bot

theorem pay14_at (i : grid0.Coords) (k : Fin (k0_t3_loop i).trips) (x : FVec Ideal S1x128x256 .bf16) :
    k0_pay14 (F := Ideal) i (wq i) k0_pay2 kcol (k0_pay3 x0) (wbase i) k x (ix3 0 R s)
      = if s.val ≤ R.val % 128 ∨ 2 * (qt i / 2) + k.val < qt i then dotRow x0 R (n := 128) x s else (⊥ : EReal) := by
  have h := tile_before i k
  unfold dotRow
  pointwise [k0_pay14, k0_pay13, k0_pay2, kcol, k0_pay3]
  rw [h, low_bits _ (by omega), le_words _ _ (by omega) (by omega), mask_bot]
  by_cases h1 : s.val ≤ R.val % 128 <;> by_cases h2 : 2 * (qt i / 2) + k.val < qt i <;> simp only [h1, h2] <;> rfl

theorem pay15_at (i : grid0.Coords) (k : Fin (k0_t3_loop i).trips) (x : FVec Ideal S1x128x256 .bf16) (v : FVec Ideal S1024x128 .f32) :
    k0_pay15 (F := Ideal) i (wq i) k0_pay2 kcol (k0_pay3 x0) (wbase i) k x v (ix2 R s)
      = max (v (ix2 R s)) (k0_pay14 (F := Ideal) i (wq i) k0_pay2 kcol (k0_pay3 x0) (wbase i) k x (ix3 0 R s)) := by
  pointwise [k0_pay15, k0_pay14]

theorem pay19_at (v : FVec Ideal S1024x128 .f32) :
    k0_pay19 (F := Ideal) v (ix2 R s) = (Finset.univ : Finset (Fin 128)).sup fun a => (v (ix2 R a) : EReal) := by
  pointwise [k0_pay19]
  rw [neg_inf]
  rfl

theorem pay20_at : k0_pay20 (F := Ideal) (ix2 R s) = (0 : EReal) := by
  pointwise [k0_pay20]

theorem pay21_at : k0_pay21 (F := Ideal) (ix2 R s) = (0 : EReal) := by
  pointwise [k0_pay21]

theorem pay24_at (v v' : FVec Ideal S1024x128 .f32) (t1 t2 : FVec Ideal S1x1024x128 .f32) :
    k0_pay24 (F := Ideal) v t1 t2 v' (ix2 R s)
      = v' (ix2 R s) + (Ideal.exp (t1 (ix3 0 R s) - k0_pay19 (F := Ideal) v (ix2 R s))
          + Ideal.exp (t2 (ix3 0 R s) - k0_pay19 (F := Ideal) v (ix2 R s))) := by
  pointwise [k0_pay24, k0_pay22, k0_pay23]

theorem pay25_at (v v' : FVec Ideal S1024x128 .f32) (x : FVec Ideal S1x256x256 .bf16) (t1 t2 : FVec Ideal S1x1024x128 .f32) :
    k0_pay25 (F := Ideal) v x t1 t2 v' (ix2 R s)
      = v' (ix2 R s)
        + (∑ a : Fin 128, Ideal.exp (t1 (ix3 0 R a) - k0_pay19 (F := Ideal) v (ix2 R a)) * x (ix3 0 ⟨a.val, by omega⟩ ⟨s.val, by omega⟩)
          + ∑ a : Fin 128, Ideal.exp (t2 (ix3 0 R a) - k0_pay19 (F := Ideal) v (ix2 R a)) * x (ix3 0 ⟨128 + a.val, by omega⟩ ⟨s.val, by omega⟩)) := by
  pointwise [k0_pay25, k0_pay22, k0_pay23]

theorem pay31_at (v v' : FVec Ideal S1024x128 .f32) (t1 : FVec Ideal S1x1024x128 .f32) :
    k0_pay31 (F := Ideal) v t1 v' (ix2 R s) = v' (ix2 R s) + Ideal.exp (t1 (ix3 0 R s) - v (ix2 R s)) := by
  pointwise [k0_pay31, k0_pay30]

theorem pay32_at (v v' : FVec Ideal S1024x128 .f32) (x : FVec Ideal S1x128x256 .bf16) (t1 : FVec Ideal S1x1024x128 .f32) :
    k0_pay32 (F := Ideal) v x t1 v' (ix2 R s)
      = v' (ix2 R s) + ∑ a : Fin 128, Ideal.exp (t1 (ix3 0 R a) - v (ix2 R a)) * x (ix3 0 a ⟨s.val, by omega⟩) := by
  pointwise [k0_pay32, k0_pay30]

theorem pay36_at (v v' : FVec Ideal S1024x128 .f32) :
    k0_pay36 (F := Ideal) v v' (ix2 R s) = Ideal.div (v (ix2 R s)) (∑ a : Fin 128, (v' (ix2 R a) : EReal)) := by
  pointwise [k0_pay36]

end

/-- The block a grid point stores: its columns are the heads' 64 columns one after another. -/
theorem out_at (i : grid0.Coords) (x0 : FVec Ideal S1x8x128x256 .bf16) (x1 : FVec Ideal S1x2176x256 .bf16)
    (x2 : FVec Ideal S8x128x64 .bf16) (r : Fin 128) (h : Fin 8) (e : Fin 64) :
    outv (F := Ideal) i x0 x1 x2 (ix3 0 r ⟨64 * h.val + e.val, by omega⟩)
      = ∑ k : Fin 128, k0_pay36 (F := Ideal) (acF (F := Ideal) i x0 x1) (lsF (F := Ideal) i x0 x1)
          (ix2 ⟨128 * h.val + r.val, by omega⟩ k) * x2 (ix3 h k e) := by
  unfold outv
  generalize acF (F := Ideal) i x0 x1 = A
  generalize lsF (F := Ideal) i x0 x1 = B
  obtain ⟨h, hh⟩ := h
  dsimp only
  interval_cases h <;> pointwise [k0_pay1, k0_pay37, k0_pay38, k0_pay39, k0_pay40, k0_pay41, k0_pay42, head, ld] <;>
    (repeat first | rw [dif_pos (by omega)] | rw [dif_neg (by omega)]) <;>
    (refine Finset.sum_congr rfl fun k _ => ?_) <;>
    (refine Ideal.mul_congr (congrArg _ ?_) (congrArg _ ?_)) <;>
    (first | rfl | refine (ix2_inj ..).2 ⟨Fin.ext ?_, rfl⟩ | refine (ix3_inj ..).2 ⟨rfl, rfl, Fin.ext ?_⟩) <;>
    (try dsimp only) <;> omega

end Cert.KernelIdeal.Att

end
-- ==== Proof.KI.Sums.lean ====
/-
  What the loops of the attention kernel leave, in real numbers.
-/
module

public import proofs.«01_k».proof.Proof.KI.Pay

@[expose] public section

set_option maxRecDepth 16384

noncomputable section

namespace Cert.KernelIdeal.Att

open Cert.KernelIdeal Cert.KernelIdeal.Gen
open Idealize.ShloMosaic Cert.Row

/-- Rows `o, o + 1, …` of the keys. -/
theorem rows_at (x1 : FVec Ideal S1x2176x256 .bf16) {n : ℕ} (off : Fin 3 → ℕ)
    (h : ∀ a, off a + (![1, n, 256] : Fin 3 → ℕ) a ≤ S1x2176x256.size a) (o : ℕ) (ho : off = ![0, o, 0])
    (a : Fin n) (b : Fin 256) (hb : o + a.val < 2176) :
    ld (F := Ideal) (e := .bf16) x1 (Rect.unit (s := S1x2176x256) off ![1, n, 256] h) (ix3 0 a b) = x1 (ix3 0 ⟨o + a.val, hb⟩ b) := by
  subst ho
  unfold ld
  congr 1
  funext c
  apply Fin.ext
  match c with
  | ⟨0, _⟩ => rfl
  | ⟨1, _⟩ => show o + 1 * a.val = o + a.val; omega
  | ⟨2, _⟩ => show 0 + 1 * b.val = b.val; omega

section
variable (i : grid0.Coords) (x0 : FVec Ideal S1x8x128x256 .bf16) (x1 : FVec Ideal S1x2176x256 .bf16)

theorem head_lt (R : Fin 1024) : R.val / 128 < 8 := by omega

theorem row_lt (R : Fin 1024) : R.val % 128 < 128 := by omega

/-- The position of row `R` of the query tile. -/
def pos (R : Fin 1024) : ℕ := 128 * qt i + R.val % 128

/-- The logits of a query row against every key. -/
def lgt (q : Fin 1024 → Fin 256 → ℝ) (cc : ℕ → Fin 256 → ℝ) (R : Fin 1024) (p : ℕ) : ℝ := ∑ k : Fin 256, q R k * cc p k

variable (q : Fin 1024 → Fin 256 → ℝ) (cc : ℕ → Fin 256 → ℝ)
  (hq : ∀ (R : Fin 1024) (k : Fin 256), x0 (ix4 0 ⟨R.val / 128, head_lt R⟩ ⟨R.val % 128, row_lt R⟩ k) = (q R k : EReal))
  (hc : ∀ (s : Fin 2176) (k : Fin 256), x1 (ix3 0 s k) = (cc s.val k : EReal))

include hq hc in
theorem dotRow_eq {n : ℕ} (R : Fin 1024) (off : Fin 3 → ℕ)
    (h : ∀ a, off a + (![1, n, 256] : Fin 3 → ℕ) a ≤ S1x2176x256.size a) (o : ℕ) (ho : off = ![0, o, 0])
    (a : Fin n) (hb : o + a.val < 2176) :
    dotRow x0 R (n := n) (ld (F := Ideal) (e := .bf16) x1 (Rect.unit (s := S1x2176x256) off ![1, n, 256] h)) a
      = (lgt q cc R (o + a.val) : EReal) := by
  unfold dotRow lgt
  rw [coe_sum]
  refine Finset.sum_congr rfl fun k _ => ?_
  rw [rows_at x1 off h o ho a k hb, hq, hc, ← EReal.coe_mul]

include hq hc in
/-- Every tile of logits up to the query's own. -/
theorem tile_at (j : ℕ) (hj : j < qt i + 1) (R : Fin 1024) (s : Fin 128) :
    tile (F := Ideal) i x0 x1 j (ix3 0 R s) = T (lgt q cc R) (pos i R) (128 * j + s.val) := by
  have hqt := qt_lt i
  have h1 := trips1 i
  have h3 := trips3 i
  have hs := s.isLt
  by_cases hlt : j / 2 < qt i / 2
  · obtain ⟨k, hk⟩ : ∃ k : Fin (k0_t1_loop i).trips, k.val = j / 2 := ⟨⟨j / 2, by omega⟩, rfl⟩
    have hT : T (lgt q cc R) (pos i R) (128 * j + s.val) = (lgt q cc R (128 * j + s.val) : EReal) :=
      if_pos (by unfold pos; omega)
    rw [hT]
    rcases Nat.mod_two_eq_zero_or_one j with h0 | h0
    · have e : j = 2 * k.val := by omega
      rw [e, tile_even, pay6_at, dotRow_eq x0 x1 q cc hq hc R _ _ _ (off1_eq i k) _ (by dsimp only; omega)]
      congr 2; dsimp only; omega
    · have e : j = 2 * k.val + 1 := by omega
      rw [e, tile_odd, pay7_at, dotRow_eq x0 x1 q cc hq hc R _ _ _ (off1_eq i k) _ (by dsimp only; omega)]
      congr 2; dsimp only; omega
  · obtain ⟨k, hk⟩ : ∃ k : Fin (k0_t3_loop i).trips, k.val = j - 2 * (qt i / 2) := ⟨⟨j - 2 * (qt i / 2), by omega⟩, rfl⟩
    have e : j = 2 * (qt i / 2) + k.val := by omega
    rw [e, tile_last, pay14_at]
    unfold Row.T pos
    refine if_congr ?_ ?_ rfl
    · omega
    · rw [dotRow_eq x0 x1 q cc hq hc R _ _ _ (off7_eq i k) _ (by omega)]

/-! ### The maxima -/

include hq hc in
theorem mx1_at (n : ℕ) (hn : n ≤ qt i / 2) (R : Fin 1024) (s : Fin 128) :
    mx1 (F := Ideal) i x0 x1 n (ix2 R s)
      = (Finset.range (2 * n)).sup fun j => T (lgt q cc R) (pos i R) (128 * j + s.val) := by
  induction n with
  | zero => exact pay4_at R s
  | succ n ih =>
    have h : n < (k0_t1_loop i).trips := by rw [trips1]; omega
    have e := tile_even (F := Ideal) i x0 x1 ⟨n, h⟩
    have o := tile_odd (F := Ideal) i x0 x1 ⟨n, h⟩
    dsimp only at e o
    unfold mx1
    rw [dif_pos h, pay8_at, ih (by omega), ← e, ← o, tile_at i x0 x1 q cc hq hc _ (by omega),
      tile_at i x0 x1 q cc hq hc _ (by omega), show 2 * (n + 1) = 2 * n + 1 + 1 from by omega,
      Finset.range_add_one, Finset.sup_insert, Finset.range_add_one, Finset.sup_insert]
    rw [← max_assoc, max_comm, max_comm (Finset.sup _ _)]

include hq hc in
theorem mx3_at (n : ℕ) (hn : n ≤ qt i + 1 - 2 * (qt i / 2)) (R : Fin 1024) (s : Fin 128) :
    mx3 (F := Ideal) i x0 x1 n (ix2 R s)
      = (Finset.range (2 * (qt i / 2) + n)).sup fun j => T (lgt q cc R) (pos i R) (128 * j + s.val) := by
  induction n with
  | zero =>
    unfold mx3
    rw [trips1]
    exact mx1_at i x0 x1 q cc hq hc _ le_rfl R s
  | succ n ih =>
    have h : n < (k0_t3_loop i).trips := by rw [trips3]; omega
    have e := tile_last (F := Ideal) i x0 x1 ⟨n, h⟩
    dsimp only at e
    unfold mx3
    rw [dif_pos h, pay15_at, ih (by omega), ← e, tile_at i x0 x1 q cc hq hc _ (by omega), ← Nat.add_assoc,
      Finset.range_add_one, Finset.sup_insert, max_comm]

include hq hc in
theorem mrow_at (R : Fin 1024) (s : Fin 128) : mrow (F := Ideal) i x0 x1 (ix2 R s) = M (lgt q cc R) (pos i R) := by
  unfold mrow
  rw [pay19_at, ← sup_lanes (lgt q cc R) (pos i R) (qt i + 1) (by unfold pos; omega)]
  congr 1
  funext a
  unfold mxF
  rw [trips3, mx3_at i x0 x1 q cc hq hc _ le_rfl, show 2 * (qt i / 2) + (qt i + 1 - 2 * (qt i / 2)) = qt i + 1 from by omega]

include hq hc in
theorem weight_at (j : ℕ) (hj : j < qt i + 1) (R : Fin 1024) (s a : Fin 128) :
    Ideal.exp (tile (F := Ideal) i x0 x1 j (ix3 0 R s) - mrow (F := Ideal) i x0 x1 (ix2 R a))
      = (E (lgt q cc R) (pos i R) (128 * j + s.val) : EReal) := by
  rw [tile_at i x0 x1 q cc hq hc j hj, mrow_at i x0 x1 q cc hq hc, exp_T]

/-! ### The sums -/

include hq hc in
theorem ls5_at (n : ℕ) (hn : n ≤ qt i / 2) (R : Fin 1024) (s : Fin 128) :
    ls5 (F := Ideal) i x0 x1 n (ix2 R s)
      = ((∑ j ∈ Finset.range (2 * n), E (lgt q cc R) (pos i R) (128 * j + s.val) : ℝ) : EReal) := by
  induction n with
  | zero => exact pay21_at R s
  | succ n ih =>
    have h : n < (k0_t5_loop i).trips := by rw [trips5]; omega
    unfold ls5
    rw [dif_pos h, pay24_at, ih (by omega)]
    rw [show k0_pay19 (F := Ideal) (mxF (F := Ideal) i x0 x1) = mrow (F := Ideal) i x0 x1 from rfl, weight_at i x0 x1 q cc hq hc _ (by omega),
      weight_at i x0 x1 q cc hq hc _ (by omega), show 2 * (n + 1) = 2 * n + 1 + 1 from by omega,
      Finset.sum_range_succ, Finset.sum_range_succ, ← EReal.coe_add, ← EReal.coe_add, add_assoc]

include hq hc in
theorem ls7_at (n : ℕ) (hn : n ≤ qt i + 1 - 2 * (qt i / 2)) (R : Fin 1024) (s : Fin 128) :
    ls7 (F := Ideal) i x0 x1 n (ix2 R s)
      = ((∑ j ∈ Finset.range (2 * (qt i / 2) + n), E (lgt q cc R) (pos i R) (128 * j + s.val) : ℝ) : EReal) := by
  induction n with
  | zero =>
    unfold ls7
    rw [trips5]
    exact ls5_at i x0 x1 q cc hq hc _ le_rfl R s
  | succ n ih =>
    have h : n < (k0_t7_loop i).trips := by rw [trips7]; omega
    unfold ls7
    rw [dif_pos h, pay31_at, ih (by omega), weight_at i x0 x1 q cc hq hc _ (by omega), ← Nat.add_assoc,
      Finset.sum_range_succ, ← EReal.coe_add]

/-- Key column `k`. -/
def col (cc : ℕ → Fin 256 → ℝ) (k : Fin 128) (p : ℕ) : ℝ := cc p ⟨k.val, by omega⟩

include hq hc in
/-- A tile's weights against one key column. -/
theorem part_at (j : ℕ) (hj : j < qt i + 1) (R : Fin 1024) (k : Fin 128) {n : ℕ} (x : FVec Ideal ⟨3, ![1, n, 256]⟩ .bf16)
    (f : Fin 128 → Fin n)
    (hx : ∀ a, x (ix3 0 (f a) ⟨k.val, by omega⟩) = (col cc k (128 * j + a.val) : EReal)) :
    ∑ a : Fin 128, Ideal.exp (tile (F := Ideal) i x0 x1 j (ix3 0 R a) - mrow (F := Ideal) i x0 x1 (ix2 R a)) * x (ix3 0 (f a) ⟨k.val, by omega⟩)
      = ((∑ a : Fin 128, E (lgt q cc R) (pos i R) (128 * j + a.val) * col cc k (128 * j + a.val) : ℝ) : EReal) := by
  rw [coe_sum]
  refine Finset.sum_congr rfl fun a _ => ?_
  rw [weight_at i x0 x1 q cc hq hc j hj, hx, ← EReal.coe_mul]

include hq hc in
theorem ac5_at (n : ℕ) (hn : n ≤ qt i / 2) (R : Fin 1024) (k : Fin 128) :
    ac5 (F := Ideal) i x0 x1 n (ix2 R k)
      = ((∑ j ∈ Finset.range (2 * n), ∑ a : Fin 128, E (lgt q cc R) (pos i R) (128 * j + a.val) * col cc k (128 * j + a.val) : ℝ) : EReal) := by
  have hqt := qt_lt i
  induction n with
  | zero => exact pay20_at R k
  | succ n ih =>
    have h : n < (k0_t5_loop i).trips := by rw [trips5]; omega
    unfold ac5
    rw [dif_pos h, pay25_at, ih (by omega)]
    rw [show k0_pay19 (F := Ideal) (mxF (F := Ideal) i x0 x1) = mrow (F := Ideal) i x0 x1 from rfl,
      part_at i x0 x1 q cc hq hc (2 * n) (by omega) R k (n := 256) (row5 (F := Ideal) i x1 ⟨n, h⟩) (fun a => ⟨a.val, by omega⟩) (fun a => by
        refine (rows_at (n := 256) x1 _ _ _ (off11_eq i ⟨n, h⟩) _ _ (by dsimp only; omega)).trans ?_
        rw [hc]; unfold col; congr 2; dsimp only; omega),
      part_at i x0 x1 q cc hq hc (2 * n + 1) (by omega) R k (n := 256) (row5 (F := Ideal) i x1 ⟨n, h⟩) (fun a => ⟨128 + a.val, by omega⟩) (fun a => by
        refine (rows_at (n := 256) x1 _ _ _ (off11_eq i ⟨n, h⟩) _ _ (by dsimp only; omega)).trans ?_
        rw [hc]; unfold col; congr 2; dsimp only; omega),
      show 2 * (n + 1) = 2 * n + 1 + 1 from by omega,
      Finset.sum_range_succ, Finset.sum_range_succ, ← EReal.coe_add, ← EReal.coe_add, add_assoc]

include hq hc in
theorem ac7_at (n : ℕ) (hn : n ≤ qt i + 1 - 2 * (qt i / 2)) (R : Fin 1024) (k : Fin 128) :
    ac7 (F := Ideal) i x0 x1 n (ix2 R k)
      = ((∑ j ∈ Finset.range (2 * (qt i / 2) + n), ∑ a : Fin 128, E (lgt q cc R) (pos i R) (128 * j + a.val) * col cc k (128 * j + a.val) : ℝ) : EReal) := by
  have hqt := qt_lt i
  induction n with
  | zero =>
    unfold ac7
    rw [trips5]
    exact ac5_at i x0 x1 q cc hq hc _ le_rfl R k
  | succ n ih =>
    have h : n < (k0_t7_loop i).trips := by rw [trips7]; omega
    unfold ac7
    rw [dif_pos h, pay32_at, ih (by omega),
      part_at i x0 x1 q cc hq hc (2 * (qt i / 2) + n) (by omega) R k (n := 128) (row7 (F := Ideal) i x1 ⟨n, h⟩) (fun a => a) (fun a => by
        refine (rows_at (n := 128) x1 _ _ _ (off17_eq i ⟨n, h⟩) _ _ (by dsimp only; omega)).trans ?_
        rw [hc]; rfl),
      ← Nat.add_assoc, Finset.sum_range_succ, ← EReal.coe_add]

include hq hc in
/-- The normalised row the heads' weights are applied to: weighted values over the sum of the weights. -/
theorem lat_at (R : Fin 1024) (k : Fin 128) :
    k0_pay36 (F := Ideal) (acF (F := Ideal) i x0 x1) (lsF (F := Ideal) i x0 x1) (ix2 R k)
      = ((num (lgt q cc R) (pos i R) (col cc k) / den (lgt q cc R) (pos i R) : ℝ) : EReal) := by
  have ht : pos i R < 128 * (qt i + 1) := by unfold pos; omega
  have e : 2 * (qt i / 2) + (qt i + 1 - 2 * (qt i / 2)) = qt i + 1 := by omega
  have hA : acF (F := Ideal) i x0 x1 (ix2 R k) = (num (lgt q cc R) (pos i R) (col cc k) : EReal) := by
    unfold acF
    rw [trips7, ac7_at i x0 x1 q cc hq hc _ le_rfl, e, sum_tiles (fun p => E (lgt q cc R) (pos i R) p * col cc k p), num_of_lt _ _ _ _ ht]
  have hL : ∑ a : Fin 128, (lsF (F := Ideal) i x0 x1 (ix2 R a) : EReal) = (den (lgt q cc R) (pos i R) : EReal) := by
    rw [← den_of_lt _ _ _ ht, ← sum_tiles, Finset.sum_comm, coe_sum]
    refine Finset.sum_congr rfl fun a _ => ?_
    unfold lsF
    rw [trips7, ls7_at i x0 x1 q cc hq hc _ le_rfl, e]
  rw [pay36_at, hA, hL, div_coe _ _ (den_pos _ _).ne']

end

end Cert.KernelIdeal.Att

end
-- ==== Proof.Val.Ref.lean ====
/-
  The reference's result, entry by entry: plain causal softmax attention, then the heads' weights.
-/
module

public import proofs.«01_k».proof.Proof.Val.Row
public import proofs.«01_k».proof.Proof.Gen.ReferenceIdeal.Run
public import Idealize.ShloMosaic.Lib.Pointwise

@[expose] public section

set_option maxRecDepth 16384

noncomputable section

namespace Cert.ReferenceIdeal.Att

open Cert.ReferenceIdeal Cert.ReferenceIdeal.Gen Cert.ReferenceIdeal.Value
open Idealize.ShloMosaic Idealize.ShloMosaic.TcCoe Idealize.SL.Sem
open Cert.Row (le_words neg_inf fold_max)

/-- The masked logits. -/
def logits (X0 : FVec Ideal S16x8x2176x256 .bf16) (X1 : FVec Ideal S16x2176x256 .bf16) : FVec Ideal S16x8x2176x2176 .f32 :=
  select (broadcastInDim S16x8x2176x2176 ![2, 3] bcast_S2176x2176_S16x8x2176x2176_2_3 (cmpi .sle (broadcastInDim S2176x2176 ![0, 1] bcast_S1x2176_S2176x2176_0_1 (broadcastInDim S1x2176 ![1] bcast_S2176_S1x2176_1 (iotaInDim S2176 32 0))) (broadcastInDim S2176x2176 ![0, 1] bcast_S2176x1_S2176x2176_0_1 (broadcastInDim S2176x1 ![0] bcast_S2176_S2176x1_0 (iotaInDim S2176 32 0))))) (addf (Host.dotGeneral dot_S16x8x2176x128_S16x2176x128_S16x8x2176x2176_3_2_12_1_0_0 none (extractStridedSlice S16x8x2176x128 ![0, 0, 0, 0] (extf .f32 X0 bitsLt_bf16_f32) slices_S16x8x2176x256_S16x8x2176x128_0_0_0_0) (extractStridedSlice S16x2176x128 ![0, 0, 0] (extf .f32 X1 bitsLt_bf16_f32) slices_S16x2176x256_S16x2176x128_0_0_0)) (Host.dotGeneral dot_S16x8x2176x128_S16x2176x128_S16x8x2176x2176_3_2_12_1_0_0 none (extractStridedSlice S16x8x2176x128 ![0, 0, 0, 128] (extf .f32 X0 bitsLt_bf16_f32) slices_S16x8x2176x256_S16x8x2176x128_0_0_0_128) (extractStridedSlice S16x2176x128 ![0, 0, 128] (extf .f32 X1 bitsLt_bf16_f32) slices_S16x2176x256_S16x2176x128_0_0_128))) (broadcastInDim S16x8x2176x2176 ![] bcast_S_S16x8x2176x2176 (id (constant S_ .f32 0xFF800000#32)))

/-- The maximum of each row. -/
def redmax (g : FVec Ideal S16x8x2176x2176 .f32) : FVec Ideal S16x8x2176 .f32 :=
  Host.reduce FloatOps.maximumf g (constant S_ .f32 0xFF800000#32) reducesTo_S16x8x2176x2176_S16x8x2176_d3 h_S_

/-- The maximum of each row, along the row. -/
def rowmax (g : FVec Ideal S16x8x2176x2176 .f32) : FVec Ideal S16x8x2176x2176 .f32 :=
  broadcastInDim S16x8x2176x2176 ![0, 1, 2, 3] bcast_S16x8x2176x1_S16x8x2176x2176_0_1_2_3 (broadcastInDim S16x8x2176x1 ![0, 1, 2] bcast_S16x8x2176_S16x8x2176x1_0_1_2 (maximumf (broadcastInDim S16x8x2176 ![] bcast_S_S16x8x2176 (constant S_ .f32 0xFF800000#32)) (redmax g)))

/-- The weights before they are normalised. -/
def expo (g : FVec Ideal S16x8x2176x2176 .f32) : FVec Ideal S16x8x2176x2176 .f32 := Host.exp (subf g (rowmax g))

/-- The softmax of each row. -/
def probs (g : FVec Ideal S16x8x2176x2176 .f32) : FVec Ideal S16x8x2176x2176 .f32 :=
  Host.divf (expo g) (broadcastInDim S16x8x2176x2176 ![0, 1, 2, 3] bcast_S16x8x2176x1_S16x8x2176x2176_0_1_2_3 (broadcastInDim S16x8x2176x1 ![0, 1, 2] bcast_S16x8x2176_S16x8x2176x1_0_1_2 (Host.reduceAdd (expo g) (constant S_ .f32 0x00000000#32) reducesTo_S16x8x2176x2176_S16x8x2176_d3 h_S_)))

/-- The result. -/
def result (X0 : FVec Ideal S16x8x2176x256 .bf16) (X1 : FVec Ideal S16x2176x256 .bf16) (X2 : FVec Ideal S128x8x64 .f32) :
    FVec Ideal S16x2176x512 .f32 :=
  shapeCast _ (transpose S16x2176x8x64 [2, 3, 0, 1] (Host.dotGeneral dot_S128x8x64_S16x2176x8x128_S8x64x16x2176_0_3_2_01_1_2 none X2 (transpose S16x2176x8x128 [0, 3, 2, 1] (Host.dotGeneral dot_S16x2176x128_S16x8x2176x2176_S16x128x8x2176_1_3_2_12_0_0 none (extractStridedSlice S16x2176x128 ![0, 0, 0] (extf .f32 X1 bitsLt_bf16_f32) slices_S16x2176x256_S16x2176x128_0_0_0) (probs (logits X0 X1))) transposes_S16x128x8x2176_S16x2176x8x128_0_3_2_1)) transposes_S8x64x16x2176_S16x2176x8x64_2_3_0_1) shapeCasts_S16x2176x8x64_S16x2176x512

theorem res_eq (m : (ℓ : Loc nD τ sig) → Buf (Elt Ideal) ℓ) (c : Dev nD) :
    res_main_v32 (F := Ideal) m c = result (m ((c.tc : Thread nD τ).loc main_arg0)) (m ((c.tc : Thread nD τ).loc main_arg1))
      (m ((c.tc : Thread nD τ).loc main_arg2)) := rfl

variable (X0 : FVec Ideal S16x8x2176x256 .bf16) (X1 : FVec Ideal S16x2176x256 .bf16) (X2 : FVec Ideal S128x8x64 .f32)
  (g : FVec Ideal S16x8x2176x2176 .f32) (b : Fin 16) (h : Fin 8) (t p : Fin 2176)

theorem logits_at : logits X0 X1 (ix4 b h t p)
    = if p.val ≤ t.val then
        ∑ k : Fin 128, X0 (ix4 b h t ⟨k.val, by omega⟩) * X1 (ix3 b p ⟨k.val, by omega⟩)
        + ∑ k : Fin 128, X0 (ix4 b h t ⟨128 + k.val, by omega⟩) * X1 (ix3 b p ⟨128 + k.val, by omega⟩)
      else (⊥ : EReal) := by
  pointwise [logits]
  rw [le_words _ _ (by omega) (by omega), show id (constant (F := Ideal) S_ .f32 0xFF800000#32) ix0 = (⊥ : EReal) from neg_inf]
  by_cases h1 : p.val ≤ t.val <;> simp only [h1] <;> rfl

theorem reduces_last : S16x8x2176x2176.Reduces [3] S16x8x2176 := by decide

theorem redmax_at : redmax g (ix3 b h t) = (Finset.univ : Finset (Fin 2176)).sup fun a => (g (ix4 b h t a) : EReal) := by
  unfold redmax
  refine (Host.reduce_eq_fold_single (α := EReal) max g _ _ reduces_last _ (ix3 b h t)).trans ?_
  rw [show (constant (F := Ideal) S_ .f32 0xFF800000#32) (Shape.Idx.first h_S_) = (⊥ : EReal) from neg_inf, fold_max]
  refine Finset.sup_congr rfl fun k _ => congrArg g ?_
  funext a
  apply Fin.ext
  rw [Shape.Reduces.lift_val]
  match a with
  | ⟨0, _⟩ => rfl
  | ⟨1, _⟩ => rfl
  | ⟨2, _⟩ => rfl
  | ⟨3, _⟩ => rfl

theorem bot_maximum (z : EReal) : FloatOps.maximumf (F := Ideal) (φ := .f32) (⊥ : EReal) z = z := max_eq_right bot_le

theorem spread_at (q : FVec Ideal S16x8x2176 .f32) : (broadcastInDim S16x8x2176x2176 ![0, 1, 2, 3] bcast_S16x8x2176x1_S16x8x2176x2176_0_1_2_3 (broadcastInDim S16x8x2176x1 ![0, 1, 2] bcast_S16x8x2176_S16x8x2176x1_0_1_2 q)) (ix4 b h t p) = q (ix3 b h t) := by
  pointwise []

theorem floor_at (q : FVec Ideal S16x8x2176 .f32) : maximumf (broadcastInDim S16x8x2176 ![] bcast_S_S16x8x2176 (constant S_ .f32 0xFF800000#32)) q (ix3 b h t) = q (ix3 b h t) := by
  show FloatOps.maximumf (F := Ideal) (φ := .f32) (Ideal.ofBits .f32 0xFF800000#32) (q (ix3 b h t)) = _
  rw [neg_inf]
  exact bot_maximum _

theorem rowmax_at : rowmax g (ix4 b h t p) = (Finset.univ : Finset (Fin 2176)).sup fun a => (g (ix4 b h t a) : EReal) := by
  unfold rowmax
  rw [spread_at, floor_at, redmax_at]

theorem expo_at : expo g (ix4 b h t p) = Ideal.exp (g (ix4 b h t p) - rowmax g (ix4 b h t p)) := by
  pointwise [expo]

theorem probs_at : probs g (ix4 b h t p) = Ideal.div (expo g (ix4 b h t p)) (∑ a : Fin 2176, (expo g (ix4 b h t a) : EReal)) := by
  pointwise [probs]

theorem result_at (e : Fin 64) : result X0 X1 X2 (ix3 b t ⟨64 * h.val + e.val, by omega⟩)
    = ∑ k : Fin 128, (∑ a : Fin 2176, (X1 (ix3 b a ⟨k.val, by omega⟩) : EReal) * probs (logits X0 X1) (ix4 b h t a)) * X2 (ix3 k h e) := by
  pointwise [result]
  exact Finset.sum_congr rfl fun k _ => mul_comm _ _

end Cert.ReferenceIdeal.Att

end
-- ==== Proof.Val.Real.lean ====
/-
  The reference's result where the queries and the keys are real numbers.
-/
module

public import proofs.«01_k».proof.Proof.Val.Ref

@[expose] public section

set_option maxRecDepth 16384

noncomputable section

namespace Cert.ReferenceIdeal.Att

open Cert.ReferenceIdeal Cert.ReferenceIdeal.Gen
open Idealize.ShloMosaic
open Cert.Row (M E den num)

/-- The logits of one query. -/
def lg (q : Fin 256 → ℝ) (cc : ℕ → Fin 256 → ℝ) (p : ℕ) : ℝ := ∑ k : Fin 256, q k * cc p k

variable (X0 : FVec Ideal S16x8x2176x256 .bf16) (X1 : FVec Ideal S16x2176x256 .bf16) (X2 : FVec Ideal S128x8x64 .f32)
  (b : Fin 16) (h : Fin 8) (t p : Fin 2176) (q : Fin 256 → ℝ) (cc : ℕ → Fin 256 → ℝ)

theorem lg_halves (p : ℕ) : lg q cc p
    = ∑ k : Fin 128, q ⟨k.val, by omega⟩ * cc p ⟨k.val, by omega⟩
      + ∑ k : Fin 128, q ⟨128 + k.val, by omega⟩ * cc p ⟨128 + k.val, by omega⟩ :=
  Fin.sum_univ_add (a := 128) (b := 128) fun k => q k * cc p k

/-- The terms of a dot product of reals add up to the reals' sum. -/
theorem coe_dot (f g : Fin 128 → ℝ) : ∑ k : Fin 128, ((f k : ℝ) : EReal) * ((g k : ℝ) : EReal) = ((∑ k : Fin 128, f k * g k : ℝ) : EReal) := by
  rw [Row.coe_sum]
  exact Finset.sum_congr rfl fun k _ => (EReal.coe_mul _ _).symm

variable (h0 : ∀ k : Fin 256, X0 (ix4 b h t k) = (q k : EReal)) (h1 : ∀ (s : Fin 2176) (k : Fin 256), X1 (ix3 b s k) = (cc s.val k : EReal))
include h0 h1

theorem logits_real : logits X0 X1 (ix4 b h t p) = Row.T (lg q cc) t.val p.val := by
  rw [logits_at, Row.T, lg_halves]
  by_cases hp : p.val ≤ t.val
  · rw [if_pos hp, if_pos hp]
    simp only [h0, h1]
    rw [coe_dot (fun k => q ⟨k.val, by omega⟩) (fun k => cc p.val ⟨k.val, by omega⟩),
      coe_dot (fun k => q ⟨128 + k.val, by omega⟩) (fun k => cc p.val ⟨128 + k.val, by omega⟩), EReal.coe_add]
  · rw [if_neg hp, if_neg hp]

theorem rowmax_real : rowmax (logits X0 X1) (ix4 b h t p) = M (lg q cc) t.val := by
  rw [rowmax_at]
  refine (Finset.sup_congr rfl fun a _ => logits_real X0 X1 b h t a q cc h0 h1).trans ?_
  exact Row.sup_eq_M _ _ Finset.univ (fun a : Fin 2176 => a.val) fun p hp => ⟨⟨p, by omega⟩, Finset.mem_univ _, rfl⟩

theorem expo_real : expo (logits X0 X1) (ix4 b h t p) = (E (lg q cc) t.val p.val : EReal) := by
  rw [expo_at, rowmax_real X0 X1 b h t p q cc h0 h1, logits_real X0 X1 b h t p q cc h0 h1]
  exact Row.exp_T _ _ _

theorem probs_real : probs (logits X0 X1) (ix4 b h t p) = ((E (lg q cc) t.val p.val / den (lg q cc) t.val : ℝ) : EReal) := by
  have hs : (∑ a : Fin 2176, (expo (logits X0 X1) (ix4 b h t a) : EReal)) = (den (lg q cc) t.val : EReal) := by
    rw [← Row.den_of_lt (lg q cc) t.val 2176 t.isLt, Finset.sum_range, Row.coe_sum]
    exact Finset.sum_congr rfl fun a _ => expo_real X0 X1 b h t a q cc h0 h1
  rw [probs_at, hs, expo_real X0 X1 b h t p q cc h0 h1, Row.div_coe _ _ (Row.den_pos _ _).ne']

/-- The result: each head's weighted mean of the keys' first half, through the head's weights. -/
theorem result_real (e : Fin 64) : result X0 X1 X2 (ix3 b t ⟨64 * h.val + e.val, by omega⟩)
    = ∑ k : Fin 128, ((num (lg q cc) t.val (fun p => cc p ⟨k.val, by omega⟩) / den (lg q cc) t.val : ℝ) : EReal) * X2 (ix3 k h e) := by
  rw [result_at]
  refine Finset.sum_congr rfl fun k _ => congrArg (· * (X2 (ix3 k h e) : EReal)) ?_
  rw [← Row.num_div (lg q cc) t.val (fun p => cc p ⟨k.val, by omega⟩) 2176 t.isLt, Finset.sum_range, Row.coe_sum]
  refine Finset.sum_congr rfl fun a _ => ?_
  rw [probs_real X0 X1 b h t a q cc h0 h1, h1, EReal.coe_mul]

end Cert.ReferenceIdeal.Att

end
-- ==== Proof.KI.Tile.lean ====
/-
  One block of the kernel's result is the reference's.
-/
module

public import proofs.«01_k».proof.Proof.KI.Sums
public import proofs.«01_k».proof.Proof.Val.Real

@[expose] public section

set_option maxRecDepth 16384

noncomputable section

namespace Cert.KernelIdeal.Att

open Cert.KernelIdeal Cert.KernelIdeal.Gen
open Idealize.ShloMosaic Cert.Row
open Cert.ReferenceIdeal.Att (result result_real lg)

theorem tile_eq (i : grid0.Coords) (x0 : FVec Ideal S1x8x128x256 .bf16) (x1 : FVec Ideal S1x2176x256 .bf16)
    (x2 : FVec Ideal S8x128x64 .bf16)
    (X0 : FVec Ideal S16x8x2176x256 .bf16) (X1 : FVec Ideal S16x2176x256 .bf16) (X2 : FVec Ideal S128x8x64 .f32) (b : Fin 16)
    (hi : qt i < 17)
    (hx0 : ∀ (h : Fin 8) (r : Fin 128) (k : Fin 256), x0 (ix4 0 h r k) = X0 (ix4 b h ⟨128 * qt i + r.val, by omega⟩ k))
    (hx1 : ∀ (s : Fin 2176) (k : Fin 256), x1 (ix3 0 s k) = X1 (ix3 b s k))
    (hx2 : ∀ (h : Fin 8) (k : Fin 128) (e : Fin 64), x2 (ix3 h k e) = X2 (ix3 k h e))
    (r0 : ∀ j, ((X0 j : EReal).toReal : EReal) = X0 j) (r1 : ∀ j, ((X1 j : EReal).toReal : EReal) = X1 j)
    (r : Fin 128) (h : Fin 8) (e : Fin 64) :
    outv (F := Ideal) i x0 x1 x2 (ix3 0 r ⟨64 * h.val + e.val, by omega⟩)
      = result X0 X1 X2 (ix3 b ⟨128 * qt i + r.val, by omega⟩ ⟨64 * h.val + e.val, by omega⟩) := by
  let q : Fin 1024 → Fin 256 → ℝ := fun R k => (X0 (ix4 b ⟨R.val / 128, by omega⟩ ⟨128 * qt i + R.val % 128, by omega⟩ k) : EReal).toReal
  let cc : ℕ → Fin 256 → ℝ := fun p k => if hp : p < 2176 then (X1 (ix3 b ⟨p, hp⟩ k) : EReal).toReal else 0
  have hc : ∀ (s : Fin 2176) (k : Fin 256), X1 (ix3 b s k) = (cc s.val k : EReal) := fun s k => by
    show _ = (((if hp : s.val < 2176 then (X1 (ix3 b ⟨s.val, hp⟩ k) : EReal).toReal else 0 : ℝ)) : EReal)
    rw [dif_pos s.isLt]; exact (r1 _).symm
  have hq : ∀ (R : Fin 1024) (k : Fin 256), x0 (ix4 0 ⟨R.val / 128, by omega⟩ ⟨R.val % 128, by omega⟩ k) = (q R k : EReal) := fun R k =>
    (hx0 _ _ _).trans (r0 _).symm
  have hR : 128 * h.val + r.val < 1024 := by omega
  have e1 : (128 * h.val + r.val) / 128 = h.val := by omega
  have e2 : (128 * h.val + r.val) % 128 = r.val := by omega
  have hp : pos i ⟨128 * h.val + r.val, hR⟩ = 128 * qt i + r.val := by unfold pos; dsimp only; rw [e2]
  have hq0 : ∀ k : Fin 256, X0 (ix4 b h ⟨128 * qt i + r.val, by omega⟩ k) = (q ⟨128 * h.val + r.val, hR⟩ k : EReal) := fun k => by
    refine Eq.trans ?_ (r0 _).symm
    congr 2 <;> apply Fin.ext
    · exact e1.symm
    · show 128 * qt i + r.val = 128 * qt i + (128 * h.val + r.val) % 128; rw [e2]
  rw [out_at, result_real X0 X1 X2 b h ⟨128 * qt i + r.val, by omega⟩ (q ⟨128 * h.val + r.val, hR⟩) cc hq0 hc]
  refine Finset.sum_congr rfl fun k _ => ?_
  rw [lat_at i x0 x1 q cc hq (fun s k => (hx1 s k).trans (hc s k)), hx2, hp]
  rfl

end Cert.KernelIdeal.Att

end
-- ==== Proof.Val.Finite.lean ====
/-
  What the precondition says: every query and every key is a real number.
-/
module

public import proofs.«01_k».proof.Defs
public import Idealize.ShloMosaic.Lib.Pointwise
public import Idealize.ShloMosaic.Lib.ReduceAll

@[expose] public section

set_option maxRecDepth 16384

noncomputable section

namespace Cert.Pre_finite

open Idealize.ShloMosaic

instance facts : Facts where
  bitsLt_bf16_f32 := by decide
  bcast_S_S16x8x2176x256 := by decide
  reducesTo_S16x8x2176x256_S_d0_1_2_3 := by decide
  h_S_ := by decide
  bcast_S_S16x2176x256 := by decide
  reducesTo_S16x2176x256_S_d0_1_2 := by decide

theorem inf_top : Ideal.ofBits .f32 0x7F800000#32 = (⊤ : EReal) := by
  simp [Ideal.ofBits, Ideal.ieee]

/-- A number whose absolute value is below infinity is real. -/
theorem real_of_abs (x : EReal) (h : Ideal.cmp .olt (max x (-x)) (Ideal.ofBits .f32 0x7F800000#32) = 1#1) :
    (x.toReal : EReal) = x := by
  rw [inf_top] at h
  induction x with
  | bot => simp [Ideal.cmp] at h
  | coe y => rfl
  | top => simp [Ideal.cmp] at h

theorem both_of_and : ∀ a b : BitVec 1, IntOp.andi a b = 1#1 → a = 1#1 ∧ b = 1#1 := by decide

/-- Every query and every key is real. -/
theorem real_of_pre (X0 : FVec Ideal S16x8x2176x256 .bf16) (X1 : FVec Ideal S16x2176x256 .bf16) (X2 : FVec Ideal S128x8x64 .f32)
    (h : fn (F := Ideal) X0 X1 X2 = fun _ => 1#1) :
    (∀ i, ((X0 i : EReal).toReal : EReal) = X0 i) ∧ (∀ i, ((X1 i : EReal).toReal : EReal) = X1 i) := by
  have hj := congrFun h ix0
  dsimp only [fn] at hj
  obtain ⟨h0, h1⟩ := both_of_and _ _ hj
  have : Subsingleton S_.Idx := ⟨fun a b => funext fun k => absurd k.isLt (Nat.not_lt_zero _)⟩
  exact ⟨fun i => real_of_abs _ (Host.reduce_andi_all _ _ _ _ _ h0 i), fun i => real_of_abs _ (Host.reduce_andi_all _ _ _ _ _ h1 i)⟩

end Cert.Pre_finite

end
-- ==== Proof.KI.Value.lean ====
/-
  The kernel's result array is the reference's, and the two runs end with it.
-/
module

public import proofs.«01_k».proof.Proof.Frames
public import proofs.«01_k».proof.Proof.KI.Tile
public import proofs.«01_k».proof.Proof.Val.Finite
public import Idealize.ShloMosaic.Lib.Pipeline.ValueKit

@[expose] public section

set_option maxRecDepth 16384

noncomputable section

namespace Cert.KernelIdeal.Att

open Cert.KernelIdeal Cert.KernelIdeal.Gen
open Idealize.ShloMosaic Idealize.ShloMosaic.TcCoe Idealize.SL.Sem
open Idealize.ShloMosaic.Pipeline (Dat)
open Cert.ReferenceIdeal.Att (result)

theorem idx : ∀ t : Fin cfg0.N, win0_0.index t = ![(grid0.coords t 0).val, 0, (grid0.coords t 1).val, 0]
    ∧ win0_1.index t = ![(grid0.coords t 0).val, 0, 0]
    ∧ win0_2.index t = ![0, 0, 0]
    ∧ win0_3.index t = ![(grid0.coords t 0).val, (grid0.coords t 1).val, 0] :=
  (by decide +kernel : ∀ t : Fin grid0.N, _)

variable (m : (ℓ : Loc nD τ sig) → Buf (Elt Ideal) ℓ) (c : Dev nD) (t : Fin cfg0.N)

theorem queries_at (h : Fin 8) (r : Fin 128) (k : Fin 256) :
    (iblk m c 0 t : FVec Ideal S1x8x128x256 .bf16) (ix4 0 h r k)
      = (m ((c : Thread nD τ).loc main_arg0) : FVec Ideal S16x8x2176x256 .bf16)
          (ix4 ⟨(grid0.coords t 0).val, (grid0.coords t 0).isLt⟩ h ⟨128 * (grid0.coords t 1).val + r.val, by have := qt_lt (grid0.coords t); unfold qt at this; omega⟩ k) := by
  blk_ext [iblk, V, idx t]

theorem keys_at (s : Fin 2176) (k : Fin 256) :
    (iblk m c 1 t : FVec Ideal S1x2176x256 .bf16) (ix3 0 s k)
      = (m ((c : Thread nD τ).loc main_arg1) : FVec Ideal S16x2176x256 .bf16)
          (ix3 ⟨(grid0.coords t 0).val, (grid0.coords t 0).isLt⟩ s k) := by
  blk_ext [iblk, V, idx t]

theorem weights_at (h : Fin 8) (k : Fin 128) (e : Fin 64) :
    (iblk m c 2 t : FVec Ideal S8x128x64 .bf16) (ix3 h k e)
      = (m ((c : Thread nD τ).loc main_arg2) : FVec Ideal S128x8x64 .f32) (ix3 k h e) := by
  blk_simp [iblk, idx t]
  entry_read
  pointwise
  blk_ext [idx t]

variable (r0 : ∀ j, (((m ((c : Thread nD τ).loc main_arg0) : FVec Ideal S16x8x2176x256 .bf16) j : EReal).toReal : EReal)
    = (m ((c : Thread nD τ).loc main_arg0) : FVec Ideal S16x8x2176x256 .bf16) j)
  (r1 : ∀ j, (((m ((c : Thread nD τ).loc main_arg1) : FVec Ideal S16x2176x256 .bf16) j : EReal).toReal : EReal)
    = (m ((c : Thread nD τ).loc main_arg1) : FVec Ideal S16x2176x256 .bf16) j)

include r0 r1

/-- What a grid point stores. -/
theorem point (r : Fin 128) (d : Fin 512) :
    outsAt (F := Ideal) m c t (ix3 0 r d)
      = result (m ((c : Thread nD τ).loc main_arg0)) (m ((c : Thread nD τ).loc main_arg1)) (m ((c : Thread nD τ).loc main_arg2))
          (ix3 ⟨(grid0.coords t 0).val, (grid0.coords t 0).isLt⟩
            ⟨128 * (grid0.coords t 1).val + r.val, by have := qt_lt (grid0.coords t); unfold qt at this; omega⟩ d) := by
  obtain ⟨h, e, rfl⟩ : ∃ (h : Fin 8) (e : Fin 64), d = ⟨64 * h.val + e.val, by omega⟩ :=
    ⟨⟨d.val / 64, by omega⟩, ⟨d.val % 64, by omega⟩, Fin.ext (by dsimp only; omega)⟩
  unfold outsAt
  exact tile_eq (grid0.coords t) _ _ _ _ _ _ ⟨(grid0.coords t 0).val, (grid0.coords t 0).isLt⟩ (qt_lt (grid0.coords t))
    (queries_at m c t) (keys_at m c t) (weights_at m c t) r0 r1 r h e

/-- The result array after the run. -/
theorem final : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨a, r, d, rfl⟩ : ∃ (a : Fin 1) (r : Fin 128) (d : Fin 512), y = ix3 a r d := ⟨y 0, y 1, y 2, by funext k; match k with | ⟨0, _⟩ => rfl | ⟨1, _⟩ => rfl | ⟨2, _⟩ => rfl⟩
  obtain rfl : a = 0 := Subsingleton.elim _ _
  refine (point m c t r0 r1 r d).trans ?_
  blk_ext [idx t]

omit r0 r1 in
/-- The run, with the arrays it ends with. -/
theorem run_arrays (ρ : Dev nD → PrngReg) : θ_run defs (onTc (τ := τ) (main (F := Ideal))) (s₀ m ρ) (Pipeline.FramePost cfgs (dats m) 0 (V m)) :=
  (θ_run defs _ _).mono (fun _ h => h.1) (run_main m ρ)

end Cert.KernelIdeal.Att

namespace Cert.Proof

open Idealize.ShloMosaic Idealize.ShloMosaic.TcCoe Idealize.SL.Sem

attribute [local instance] Cert.Kernel.Gen.facts Cert.KernelIdeal.Gen.facts Cert.ReferenceIdeal.Gen.facts

/-- The kernel runs under the precondition. -/
theorem runs_KernelIdeal_finite : Cert.quiescent_KernelIdeal_pre_finite :=
  fun m g _ => runs_KernelIdeal m g trivial

/-- The reference runs under the precondition. -/
theorem runs_ReferenceIdeal_finite : Cert.quiescent_ReferenceIdeal_pre_finite :=
  fun m g _ => runs_ReferenceIdeal m g trivial

/-- On real queries and keys the two programs end with the same result. -/
theorem same_result : Cert.algebraic_KernelIdeal_ReferenceIdeal_pre_finite := by
  intro m g m' g' hpre hargs
  have hr := fun c => Cert.Pre_finite.real_of_pre _ _ _ (hpre c)
  refine ⟨fun c => Cert.ReferenceIdeal.Att.result (m (((c.tc : Thread Cert.KernelIdeal.nD Cert.KernelIdeal.τ)).loc Cert.KernelIdeal.main_arg0))
    (m (((c.tc : Thread Cert.KernelIdeal.nD Cert.KernelIdeal.τ)).loc Cert.KernelIdeal.main_arg1))
    (m (((c.tc : Thread Cert.KernelIdeal.nD Cert.KernelIdeal.τ)).loc Cert.KernelIdeal.main_arg2)), ?_, ?_⟩
  · run_from Cert.KernelIdeal.Att.run_arrays m g
    exact Cert.KernelIdeal.Att.final m c (hr c).1 (hr c).2
  · run_from Cert.ReferenceIdeal.Value.run m' g'
    rw [Cert.ReferenceIdeal.Att.res_eq, (hargs c).1, (hargs c).2.1, (hargs c).2.2]

end Cert.Proof

end
-- ==== Proof.Frames2.lean ====
/-
  The runs of the projection's programs.
-/
module

public import proofs.«01_k».proof.Defs
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import Idealize.ShloMosaic.Lib.Quiescent

@[expose] public section

noncomputable section

namespace Cert.Proof

open Idealize.ShloMosaic Idealize.SL.Sem

attribute [local instance] Cert.Kernel2.Gen.facts Cert.Kernel2Ideal.Gen.facts Cert.Reference2Ideal.Gen.facts

/-- The projection runs, keeps its arguments and leaves every counter at zero. -/
theorem runs_Kernel2 : Cert.quiescent_Kernel2 :=
  fun m g _ => Cert.Kernel2.Gen.frame m g

/-- The same of the projection over the extended reals. -/
theorem runs_Kernel2Ideal : Cert.quiescent_Kernel2Ideal :=
  fun m g _ => Cert.Kernel2Ideal.Gen.frame m g

/-- The reference of the projection runs over the extended reals; it declares no counter. -/
theorem runs_Reference2Ideal : Cert.quiescent_Reference2Ideal :=
  fun m g _ => (θ_run Cert.Reference2Ideal.defs _ _).mono
    (fun r h => ⟨fun c => (h c).2.2.2.2.2.2.2.2.2.2.2.2.2.2, sem_eq_zero_of_no_sems (by decide) r.2⟩)
    (Cert.Reference2Ideal.Value.run (F := Ideal) m g)

/-- No constant of the projection is renamed. -/
theorem preserved_Kernel2 : Cert.preserves_Kernel2_Kernel2Ideal := trivial

end Cert.Proof

end
-- ==== Proof.Proj.Ref.lean ====
/-
  The projection's reference: its parts named, and each part at an index.
-/
module

public import proofs.«01_k».proof.Proof.Frames2
public import Idealize.ShloMosaic.Lib.Pointwise
public import Idealize.ShloMosaic.Lib.Pipeline.ValueKit

@[expose] public section

set_option maxRecDepth 16384

noncomputable section

namespace Cert.Reference2Ideal.Proj

open Cert.Reference2Ideal Cert.Reference2Ideal.Gen
open Idealize.ShloMosaic Idealize.ShloMosaic.TcCoe Idealize.SL.Sem

/-- The combined projection of every token. -/
def hid (x : FVec Ideal S16x2176x1024 .f32) (w : FVec Ideal S1024x2920 .f32) : FVec Ideal S16x2176x2920 .f32 :=
  Host.dotGeneral dot_S16x2176x1024_S1024x2920_S16x2176x2920_2_0_01_1_n_n none x w

/-- The rotation angle of a token and a frequency. -/
def angle  : FVec Ideal S1x2176x16 .f32 :=
  shapeCast _ (mulf (broadcastInDim S2176x16 ![0, 1] bcast_S2176x1_S2176x16_0_1 (broadcastInDim S2176x1 ![0] bcast_S2176_S2176x1_0 (sitofp .f32 (iotaInDim S2176 32 0)))) (broadcastInDim S2176x16 ![0, 1] bcast_S1x16_S2176x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))) shapeCasts_S2176x16_S1x2176x16

/-- The same angles, laid out for the heads. -/
def angles  : FVec Ideal S1x2176x1x16 .f32 :=
  shapeCast _ (mulf (broadcastInDim S2176x16 ![0, 1] bcast_S2176x1_S2176x16_0_1 (broadcastInDim S2176x1 ![0] bcast_S2176_S2176x1_0 (sitofp .f32 (iotaInDim S2176 32 0)))) (broadcastInDim S2176x16 ![0, 1] bcast_S1x16_S2176x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))) shapeCasts_S2176x16_S1x2176x1x16

/-- First group: the scaled queries by head. -/
def aq (h : FVec Ideal S16x2176x2920 .f32) : FVec Ideal S16x4x2176x64 .bf16 :=
  truncf .bf16 (mulf (transpose S16x4x2176x64 [0, 2, 1, 3] (shapeCast _ (extractStridedSlice S16x2176x256 ![0, 0, 0] h slices_S16x2176x2920_S16x2176x256_0_0_0) shapeCasts_S16x2176x256_S16x2176x4x64) transposes_S16x2176x4x64_S16x4x2176x64_0_2_1_3) (broadcastInDim S16x4x2176x64 ![] bcast_S_S16x4x2176x64 (constant S_ .f32 0x3E000000#32))) bitsLt_bf16_f32

/-- First group: keys and values, the rows kept. -/
def akv (h : FVec Ideal S16x2176x2920 .f32) : FVec Ideal S16x2064x128 .f32 :=
  extractStridedSlice S16x2064x128 ![0, 0, 0] (concatenate S16x2176x128 2 [⟨S16x2176x64, (extractStridedSlice S16x2176x64 ![0, 0, 256] h slices_S16x2176x2920_S16x2176x64_0_0_256)⟩, ⟨S16x2176x64, (extractStridedSlice S16x2176x64 ![0, 0, 320] h slices_S16x2176x2920_S16x2176x64_0_0_320)⟩] concatenates_S16x2176x64_S16x2176x64_S16x2176x128_d2) slices_S16x2176x128_S16x2064x128_0_0_0

/-- First group: keys and values, all rows. -/
def akvb (h : FVec Ideal S16x2176x2920 .f32) : FVec Ideal S16x2176x128 .bf16 :=
  truncf .bf16 (concatenate S16x2176x128 2 [⟨S16x2176x64, (extractStridedSlice S16x2176x64 ![0, 0, 256] h slices_S16x2176x2920_S16x2176x64_0_0_256)⟩, ⟨S16x2176x64, (extractStridedSlice S16x2176x64 ![0, 0, 320] h slices_S16x2176x2920_S16x2176x64_0_0_320)⟩] concatenates_S16x2176x64_S16x2176x64_S16x2176x128_d2) bitsLt_bf16_f32

/-- First group: the index queries by head. -/
def aiq (h : FVec Ideal S16x2176x2920 .f32) : FVec Ideal S16x8x2176x64 .bf16 :=
  truncf .bf16 (transpose S16x8x2176x64 [0, 2, 1, 3] (shapeCast _ (extractStridedSlice S16x2176x512 ![0, 0, 384] h slices_S16x2176x2920_S16x2176x512_0_0_384) shapeCasts_S16x2176x512_S16x2176x8x64) transposes_S16x2176x8x64_S16x8x2176x64_0_2_1_3) bitsLt_bf16_f32

/-- First group: the index keys, the rows kept. -/
def aik (h : FVec Ideal S16x2176x2920 .f32) : FVec Ideal S16x2064x64 .f32 :=
  extractStridedSlice S16x2064x64 ![0, 0, 0] (extractStridedSlice S16x2176x64 ![0, 0, 896] h slices_S16x2176x2920_S16x2176x64_0_0_896) slices_S16x2176x64_S16x2064x64_0_0_0

/-- First group: index keys and weights, padded. -/
def aikb (h : FVec Ideal S16x2176x2920 .f32) : FVec Ideal S16x2176x128 .bf16 :=
  truncf .bf16 (pad S16x2176x128 ![0, 0, 0] ![0, 0, 56] ![0, 0, 0] (concatenate S16x2176x72 2 [⟨S16x2176x64, (extractStridedSlice S16x2176x64 ![0, 0, 896] h slices_S16x2176x2920_S16x2176x64_0_0_896)⟩, ⟨S16x2176x8, (extractStridedSlice S16x2176x8 ![0, 0, 960] h slices_S16x2176x2920_S16x2176x8_0_0_960)⟩] concatenates_S16x2176x64_S16x2176x8_S16x2176x72_d2) (sitofp .f32 (constantI S_ 32 0#32)) pads_S16x2176x72_S16x2176x128_000_000_0560 h_S_) bitsLt_bf16_f32

/-- First group: the scaled index weights. -/
def aiw (h : FVec Ideal S16x2176x2920 .f32) : FVec Ideal S16x2176x128 .f32 :=
  mulf (pad S16x2176x128 ![0, 0, 0] ![0, 0, 56] ![0, 0, 0] (concatenate S16x2176x72 2 [⟨S16x2176x64, (extractStridedSlice S16x2176x64 ![0, 0, 896] h slices_S16x2176x2920_S16x2176x64_0_0_896)⟩, ⟨S16x2176x8, (extractStridedSlice S16x2176x8 ![0, 0, 960] h slices_S16x2176x2920_S16x2176x8_0_0_960)⟩] concatenates_S16x2176x64_S16x2176x8_S16x2176x72_d2) (sitofp .f32 (constantI S_ 32 0#32)) pads_S16x2176x72_S16x2176x128_000_000_0560 h_S_) (broadcastInDim S16x2176x128 ![] bcast_S_S16x2176x128 (constant S_ .f32 0x3D3504F3#32))

/-- The gates of the three groups. -/
def gates (h : FVec Ideal S16x2176x2920 .f32) : FVec Ideal S16x2176x1024 .f32 :=
  concatenate S16x2176x1024 2 [⟨S16x2176x256, ((extractStridedSlice S16x2176x256 ![0, 0, 968] h slices_S16x2176x2920_S16x2176x256_0_0_968))⟩, ⟨S16x2176x256, ((extractStridedSlice S16x2176x256 ![0, 0, 1736] h slices_S16x2176x2920_S16x2176x256_0_0_1736))⟩, ⟨S16x2176x512, ((extractStridedSlice S16x2176x512 ![0, 0, 2408] h slices_S16x2176x2920_S16x2176x512_0_0_2408))⟩] concatenates_S16x2176x256_S16x2176x256_S16x2176x512_S16x2176x1024_d2

/-- Second group: the scaled queries by head. -/
def bq (h : FVec Ideal S16x2176x2920 .f32) : FVec Ideal S16x4x2176x64 .bf16 :=
  truncf .bf16 (mulf (transpose S16x4x2176x64 [0, 2, 1, 3] (shapeCast _ (extractStridedSlice S16x2176x256 ![0, 0, 1224] h slices_S16x2176x2920_S16x2176x256_0_0_1224) shapeCasts_S16x2176x256_S16x2176x4x64) transposes_S16x2176x4x64_S16x4x2176x64_0_2_1_3) (broadcastInDim S16x4x2176x64 ![] bcast_S_S16x4x2176x64 (constant S_ .f32 0x3E000000#32))) bitsLt_bf16_f32

/-- Second group: keys and values, the rows kept. -/
def bkv (h : FVec Ideal S16x2176x2920 .f32) : FVec Ideal S16x2064x256 .f32 :=
  extractStridedSlice S16x2064x256 ![0, 0, 0] (concatenate S16x2176x256 2 [⟨S16x2176x128, (extractStridedSlice S16x2176x128 ![0, 0, 1480] h slices_S16x2176x2920_S16x2176x128_0_0_1480)⟩, ⟨S16x2176x128, (extractStridedSlice S16x2176x128 ![0, 0, 1608] h slices_S16x2176x2920_S16x2176x128_0_0_1608)⟩] concatenates_S16x2176x128_S16x2176x128_S16x2176x256_d2) slices_S16x2176x256_S16x2064x256_0_0_0

/-- Second group: keys and values by head. -/
def bkvb (h : FVec Ideal S16x2176x2920 .f32) : FVec Ideal S16x4x2176x64 .bf16 :=
  truncf .bf16 (transpose S16x4x2176x64 [0, 2, 1, 3] (shapeCast _ (concatenate S16x2176x256 2 [⟨S16x2176x128, (extractStridedSlice S16x2176x128 ![0, 0, 1480] h slices_S16x2176x2920_S16x2176x128_0_0_1480)⟩, ⟨S16x2176x128, (extractStridedSlice S16x2176x128 ![0, 0, 1608] h slices_S16x2176x2920_S16x2176x128_0_0_1608)⟩] concatenates_S16x2176x128_S16x2176x128_S16x2176x256_d2) shapeCasts_S16x2176x256_S16x2176x4x64) transposes_S16x2176x4x64_S16x4x2176x64_0_2_1_3) bitsLt_bf16_f32

/-- Third group: the normalised query latent. -/
def cn (h : FVec Ideal S16x2176x2920 .f32) (g : FVec Ideal S256 .f32) : FVec Ideal S16x2176x256 .f32 :=
  mulf (mulf (extractStridedSlice S16x2176x256 ![0, 0, 1992] h slices_S16x2176x2920_S16x2176x256_0_0_1992) (broadcastInDim S16x2176x256 ![0, 1, 2] bcast_S16x2176x1_S16x2176x256_0_1_2 (Host.rsqrt (addf (Host.divf (broadcastInDim S16x2176x1 ![0, 1] bcast_S16x2176_S16x2176x1_0_1 (Host.reduceAdd (mulf (extractStridedSlice S16x2176x256 ![0, 0, 1992] h slices_S16x2176x2920_S16x2176x256_0_0_1992) (extractStridedSlice S16x2176x256 ![0, 0, 1992] h slices_S16x2176x2920_S16x2176x256_0_0_1992)) (constant S_ .f32 0x00000000#32) reducesTo_S16x2176x256_S16x2176_d2 h_S_)) (broadcastInDim S16x2176x1 ![] bcast_S_S16x2176x1 (constant S_ .f32 0x43800000#32))) (broadcastInDim S16x2176x1 ![] bcast_S_S16x2176x1 (constant S_ .f32 0x358637BD#32)))))) (broadcastInDim S16x2176x256 ![0, 1, 2] bcast_S1x1x256_S16x2176x256_0_1_2 (broadcastInDim S1x1x256 ![2] bcast_S256_S1x1x256_2 g))

/-- Third group: the queries by head. -/
def up (n : FVec Ideal S16x2176x256 .f32) (w : FVec Ideal S256x768 .f32) : FVec Ideal S16x2176x8x96 .f32 :=
  shapeCast _ (Host.dotGeneral dot_S16x2176x256_S256x768_S16x2176x768_2_0_01_1_n_n none n w) shapeCasts_S16x2176x768_S16x2176x8x96

/-- Third group: the unrotated queries, taken to the latent. -/
def lat (u : FVec Ideal S16x2176x8x96 .f32) (w : FVec Ideal S128x8x64 .f32) : FVec Ideal S16x8x2176x128 .f32 :=
  transpose S16x8x2176x128 [2, 0, 3, 1] (Host.dotGeneral dot_S128x8x64_S16x2176x8x64_S8x128x16x2176_2_3_0_01_1_2 none w (extractStridedSlice S16x2176x8x64 ![0, 0, 0, 0] u slices_S16x2176x8x96_S16x2176x8x64_0_0_0_0)) transposes_S8x128x16x2176_S16x8x2176x128_2_0_3_1

/-- Third group: the rotated queries. -/
def rot (u : FVec Ideal S16x2176x8x96 .f32) : FVec Ideal S16x2176x8x32 .f32 :=
  concatenate S16x2176x8x32 3 [⟨S16x2176x8x16, (subf (mulf (extractStridedSlice S16x2176x8x16 ![0, 0, 0, 0] (extractStridedSlice S16x2176x8x32 ![0, 0, 0, 64] u slices_S16x2176x8x96_S16x2176x8x32_0_0_0_64) slices_S16x2176x8x32_S16x2176x8x16_0_0_0_0) (broadcastInDim S16x2176x8x16 ![0, 1, 2, 3] bcast_S1x2176x1x16_S16x2176x8x16_0_1_2_3 (Host.cos angles))) (mulf (extractStridedSlice S16x2176x8x16 ![0, 0, 0, 16] (extractStridedSlice S16x2176x8x32 ![0, 0, 0, 64] u slices_S16x2176x8x96_S16x2176x8x32_0_0_0_64) slices_S16x2176x8x32_S16x2176x8x16_0_0_0_16) (broadcastInDim S16x2176x8x16 ![0, 1, 2, 3] bcast_S1x2176x1x16_S16x2176x8x16_0_1_2_3 (Host.sin angles))))⟩, ⟨S16x2176x8x16, (addf (mulf (extractStridedSlice S16x2176x8x16 ![0, 0, 0, 0] (extractStridedSlice S16x2176x8x32 ![0, 0, 0, 64] u slices_S16x2176x8x96_S16x2176x8x32_0_0_0_64) slices_S16x2176x8x32_S16x2176x8x16_0_0_0_0) (broadcastInDim S16x2176x8x16 ![0, 1, 2, 3] bcast_S1x2176x1x16_S16x2176x8x16_0_1_2_3 (Host.sin angles))) (mulf (extractStridedSlice S16x2176x8x16 ![0, 0, 0, 16] (extractStridedSlice S16x2176x8x32 ![0, 0, 0, 64] u slices_S16x2176x8x96_S16x2176x8x32_0_0_0_64) slices_S16x2176x8x32_S16x2176x8x16_0_0_0_16) (broadcastInDim S16x2176x8x16 ![0, 1, 2, 3] bcast_S1x2176x1x16_S16x2176x8x16_0_1_2_3 (Host.cos angles))))⟩] concatenates_S16x2176x8x16_S16x2176x8x16_S16x2176x8x32_d3

/-- Third group: the scaled queries, padded. -/
def cq (l : FVec Ideal S16x8x2176x128 .f32) (r : FVec Ideal S16x2176x8x32 .f32) : FVec Ideal S16x8x2176x256 .bf16 :=
  truncf .bf16 (pad S16x8x2176x256 ![0, 0, 0, 0] ![0, 0, 0, 96] ![0, 0, 0, 0] (mulf (concatenate S16x8x2176x160 3 [⟨S16x8x2176x128, l⟩, ⟨S16x8x2176x32, (transpose S16x8x2176x32 [0, 2, 1, 3] r transposes_S16x2176x8x32_S16x8x2176x32_0_2_1_3)⟩] concatenates_S16x8x2176x128_S16x8x2176x32_S16x8x2176x160_d3) (broadcastInDim S16x8x2176x160 ![] bcast_S_S16x8x2176x160 (constant S_ .f32 0x3DD105EC#32))) (sitofp .f32 (constantI S_ 32 0#32)) pads_S16x8x2176x160_S16x8x2176x256_000_000_000_0960 h_S_) bitsLt_bf16_f32

/-- Third group: the normalised key latent. -/
def kvn (h : FVec Ideal S16x2176x2920 .f32) (g : FVec Ideal S128 .f32) : FVec Ideal S16x2176x128 .f32 :=
  mulf (mulf (extractStridedSlice S16x2176x128 ![0, 0, 2248] h slices_S16x2176x2920_S16x2176x128_0_0_2248) (broadcastInDim S16x2176x128 ![0, 1, 2] bcast_S16x2176x1_S16x2176x128_0_1_2 (Host.rsqrt (addf (Host.divf (broadcastInDim S16x2176x1 ![0, 1] bcast_S16x2176_S16x2176x1_0_1 (Host.reduceAdd (mulf (extractStridedSlice S16x2176x128 ![0, 0, 2248] h slices_S16x2176x2920_S16x2176x128_0_0_2248) (extractStridedSlice S16x2176x128 ![0, 0, 2248] h slices_S16x2176x2920_S16x2176x128_0_0_2248)) (constant S_ .f32 0x00000000#32) reducesTo_S16x2176x128_S16x2176_d2 h_S_)) (broadcastInDim S16x2176x1 ![] bcast_S_S16x2176x1 (constant S_ .f32 0x43000000#32))) (broadcastInDim S16x2176x1 ![] bcast_S_S16x2176x1 (constant S_ .f32 0x358637BD#32)))))) (broadcastInDim S16x2176x128 ![0, 1, 2] bcast_S1x1x128_S16x2176x128_0_1_2 (broadcastInDim S1x1x128 ![2] bcast_S128_S1x1x128_2 g))

/-- Third group: the rotated shared key. -/
def krot (h : FVec Ideal S16x2176x2920 .f32) : FVec Ideal S16x2176x32 .f32 :=
  concatenate S16x2176x32 2 [⟨S16x2176x16, (subf (mulf (extractStridedSlice S16x2176x16 ![0, 0, 0] (extractStridedSlice S16x2176x32 ![0, 0, 2376] h slices_S16x2176x2920_S16x2176x32_0_0_2376) slices_S16x2176x32_S16x2176x16_0_0_0) (broadcastInDim S16x2176x16 ![0, 1, 2] bcast_S1x2176x16_S16x2176x16_0_1_2 (Host.cos angle))) (mulf (extractStridedSlice S16x2176x16 ![0, 0, 16] (extractStridedSlice S16x2176x32 ![0, 0, 2376] h slices_S16x2176x2920_S16x2176x32_0_0_2376) slices_S16x2176x32_S16x2176x16_0_0_16) (broadcastInDim S16x2176x16 ![0, 1, 2] bcast_S1x2176x16_S16x2176x16_0_1_2 (Host.sin angle))))⟩, ⟨S16x2176x16, (addf (mulf (extractStridedSlice S16x2176x16 ![0, 0, 0] (extractStridedSlice S16x2176x32 ![0, 0, 2376] h slices_S16x2176x2920_S16x2176x32_0_0_2376) slices_S16x2176x32_S16x2176x16_0_0_0) (broadcastInDim S16x2176x16 ![0, 1, 2] bcast_S1x2176x16_S16x2176x16_0_1_2 (Host.sin angle))) (mulf (extractStridedSlice S16x2176x16 ![0, 0, 16] (extractStridedSlice S16x2176x32 ![0, 0, 2376] h slices_S16x2176x2920_S16x2176x32_0_0_2376) slices_S16x2176x32_S16x2176x16_0_0_16) (broadcastInDim S16x2176x16 ![0, 1, 2] bcast_S1x2176x16_S16x2176x16_0_1_2 (Host.cos angle))))⟩] concatenates_S16x2176x16_S16x2176x16_S16x2176x32_d2

/-- Third group: a row of the cache. -/
def crow (n : FVec Ideal S16x2176x128 .f32) (r : FVec Ideal S16x2176x32 .f32) : FVec Ideal S16x2176x160 .f32 :=
  concatenate S16x2176x160 2 [⟨S16x2176x128, n⟩, ⟨S16x2176x32, r⟩] concatenates_S16x2176x128_S16x2176x32_S16x2176x160_d2

/-- Third group: the rows kept. -/
def crows (c : FVec Ideal S16x2176x160 .f32) : FVec Ideal S16x2064x160 .f32 :=
  extractStridedSlice S16x2064x160 ![0, 0, 0] c slices_S16x2176x160_S16x2064x160_0_0_0

/-- Third group: the rows padded. -/
def crowb (c : FVec Ideal S16x2176x160 .f32) : FVec Ideal S16x2176x256 .bf16 :=
  truncf .bf16 (pad S16x2176x256 ![0, 0, 0] ![0, 0, 96] ![0, 0, 0] c (sitofp .f32 (constantI S_ 32 0#32)) pads_S16x2176x160_S16x2176x256_000_000_0960 h_S_) bitsLt_bf16_f32

variable (h : FVec Ideal S16x2176x2920 .f32) (b : Fin 16) (t : Fin 2176)

theorem hid_at (x : FVec Ideal S16x2176x1024 .f32) (w : FVec Ideal S1024x2920 .f32) (j : Fin 2920) :
    hid x w (ix3 b t j) = ∑ k : Fin 1024, x (ix3 b t k) * w (ix2 k j) := by
  pointwise [hid]

theorem angles_at (e : Fin 16) : angles (ix4 0 t 0 e) = angle (ix3 0 t e) := by
  pointwise [angles, angle]

/-- The zero that fills a row out. -/
theorem fill_zero : (FloatOps.sitofp FTy.f32 0#32 : Ideal FTy.f32) = (0 : EReal) := by
  simp [FloatOps.sitofp]

theorem aq_at (n : Fin 4) (d : Fin 64) : aq h (ix4 b n t d) = h (ix3 b t ⟨n.val * 64 + d.val, by omega⟩) * Ideal.ofBits .f32 0x3E000000#32 := by
  pointwise [aq]

theorem akv_at (t : Fin 2064) (j : Fin 128) : akv h (ix3 b t j) = h (ix3 b ⟨t.val, by omega⟩ ⟨256 + j.val, by omega⟩) := by
  pointwise [akv]
  by_cases h2 : j.val < 64
  · rw [dif_pos h2]
  · rw [dif_neg h2]
    exact congrArg (fun q => h (ix3 b _ q)) (Fin.ext (by simp only []; omega))

theorem akvb_at (j : Fin 128) : akvb h (ix3 b t j) = h (ix3 b t ⟨256 + j.val, by omega⟩) := by
  pointwise [akvb]
  by_cases h2 : j.val < 64
  · rw [dif_pos h2]
  · rw [dif_neg h2]
    exact congrArg (fun q => h (ix3 b _ q)) (Fin.ext (by simp only []; omega))

theorem aiq_at (n : Fin 8) (d : Fin 64) : aiq h (ix4 b n t d) = h (ix3 b t ⟨384 + (n.val * 64 + d.val), by omega⟩) := by
  pointwise [aiq]

theorem aik_at (t : Fin 2064) (j : Fin 64) : aik h (ix3 b t j) = h (ix3 b ⟨t.val, by omega⟩ ⟨896 + j.val, by omega⟩) := by
  pointwise [aik]

theorem aikb_at (j : Fin 128) : aikb h (ix3 b t j) = if hj : j.val < 72 then h (ix3 b t ⟨896 + j.val, by omega⟩) else 0 := by
  pointwise [aikb]
  rw [fill_zero]
  by_cases h1 : j.val < 72
  · rw [dif_pos h1, dif_pos h1]
    by_cases h2 : j.val < 64
    · rw [dif_pos h2]
    · rw [dif_neg h2]
      exact congrArg (fun q => h (ix3 b _ q)) (Fin.ext (by simp only []; omega))
  · rw [dif_neg h1, dif_neg h1]

theorem aiw_at (j : Fin 128) : aiw h (ix3 b t j) = (if hj : j.val < 72 then h (ix3 b t ⟨896 + j.val, by omega⟩) else 0) * Ideal.ofBits .f32 0x3D3504F3#32 := by
  pointwise [aiw]
  rw [fill_zero]
  by_cases h1 : j.val < 72
  · rw [dif_pos h1, dif_pos h1]
    by_cases h2 : j.val < 64
    · rw [dif_pos h2]
    · rw [dif_neg h2]
      exact congrArg (fun q => h (ix3 b _ q) * Ideal.ofBits .f32 0x3D3504F3#32) (Fin.ext (by simp only []; omega))
  · rw [dif_neg h1, dif_neg h1]

theorem gates_at (j : Fin 1024) : gates h (ix3 b t j) = if ha : j.val < 256 then h (ix3 b t ⟨968 + j.val, by omega⟩)
    else if hb : j.val < 512 then h (ix3 b t ⟨1480 + j.val, by omega⟩) else h (ix3 b t ⟨1896 + j.val, by omega⟩) := by
  pointwise [gates]
  by_cases h1 : j.val < 256
  · rw [dif_pos h1, dif_pos h1]
  · rw [dif_neg h1, dif_neg h1]
    by_cases h2 : j.val < 512
    · rw [dif_pos h2, dif_pos (show j.val - 256 < 256 by omega)]
      exact congrArg (fun q => h (ix3 b _ q)) (Fin.ext (by simp only []; omega))
    · rw [dif_neg h2, dif_neg (show ¬ j.val - 256 < 256 by omega)]
      exact congrArg (fun q => h (ix3 b _ q)) (Fin.ext (by simp only []; omega))

theorem bq_at (n : Fin 4) (d : Fin 64) : bq h (ix4 b n t d) = h (ix3 b t ⟨1224 + (n.val * 64 + d.val), by omega⟩) * Ideal.ofBits .f32 0x3E000000#32 := by
  pointwise [bq]

theorem bkv_at (t : Fin 2064) (j : Fin 256) : bkv h (ix3 b t j) = h (ix3 b ⟨t.val, by omega⟩ ⟨1480 + j.val, by omega⟩) := by
  pointwise [bkv]
  by_cases h2 : j.val < 128
  · rw [dif_pos h2]
  · rw [dif_neg h2]
    exact congrArg (fun q => h (ix3 b _ q)) (Fin.ext (by simp only []; omega))

theorem bkvb_at (n : Fin 4) (d : Fin 64) : bkvb h (ix4 b n t d) = h (ix3 b t ⟨1480 + (n.val * 64 + d.val), by omega⟩) := by
  pointwise [bkvb]
  by_cases h2 : n.val * 64 + d.val < 128
  · rw [dif_pos h2]
  · rw [dif_neg h2]
    exact congrArg (fun q => h (ix3 b _ q)) (Fin.ext (by simp only []; omega))

theorem cn_at (g : FVec Ideal S256 .f32) (j : Fin 256) : cn h g (ix3 b t j)
    = h (ix3 b t ⟨1992 + j.val, by omega⟩)
      * Ideal.rsqrt (Ideal.div (∑ x : Fin 256, h (ix3 b t ⟨1992 + x.val, by omega⟩) * h (ix3 b t ⟨1992 + x.val, by omega⟩)) (Ideal.ofBits .f32 0x43800000#32)
          + Ideal.ofBits .f32 0x358637BD#32)
      * g (ix1 j) := by
  pointwise [cn]

theorem kvn_at (g : FVec Ideal S128 .f32) (j : Fin 128) : kvn h g (ix3 b t j)
    = h (ix3 b t ⟨2248 + j.val, by omega⟩)
      * Ideal.rsqrt (Ideal.div (∑ x : Fin 128, h (ix3 b t ⟨2248 + x.val, by omega⟩) * h (ix3 b t ⟨2248 + x.val, by omega⟩)) (Ideal.ofBits .f32 0x43000000#32)
          + Ideal.ofBits .f32 0x358637BD#32)
      * g (ix1 j) := by
  pointwise [kvn]

theorem up_at (n : FVec Ideal S16x2176x256 .f32) (w : FVec Ideal S256x768 .f32) (k : Fin 8) (e : Fin 96) :
    up n w (ix4 b t k e) = ∑ x : Fin 256, n (ix3 b t x) * w (ix2 x ⟨k.val * 96 + e.val, by omega⟩) := by
  pointwise [up]

theorem lat_at (u : FVec Ideal S16x2176x8x96 .f32) (w : FVec Ideal S128x8x64 .f32) (k : Fin 8) (e : Fin 128) :
    lat u w (ix4 b k t e) = ∑ x : Fin 64, w (ix3 e k x) * u (ix4 b t k ⟨x.val, by omega⟩) := by
  pointwise [lat]

theorem rot_lo (u : FVec Ideal S16x2176x8x96 .f32) (k : Fin 8) (e : Fin 16) : rot u (ix4 b t k ⟨e.val, by omega⟩)
    = u (ix4 b t k ⟨64 + e.val, by omega⟩) * Ideal.cos (angle (ix3 0 t e)) - u (ix4 b t k ⟨64 + (16 + e.val), by omega⟩) * Ideal.sin (angle (ix3 0 t e)) := by
  pointwise [rot]
  rw [angles_at]

theorem rot_hi (u : FVec Ideal S16x2176x8x96 .f32) (k : Fin 8) (e : Fin 16) : rot u (ix4 b t k ⟨16 + e.val, by omega⟩)
    = u (ix4 b t k ⟨64 + e.val, by omega⟩) * Ideal.sin (angle (ix3 0 t e)) + u (ix4 b t k ⟨64 + (16 + e.val), by omega⟩) * Ideal.cos (angle (ix3 0 t e)) := by
  pointwise [rot]
  rw [angles_at]

theorem krot_lo (e : Fin 16) : krot h (ix3 b t ⟨e.val, by omega⟩)
    = h (ix3 b t ⟨2376 + e.val, by omega⟩) * Ideal.cos (angle (ix3 0 t e)) - h (ix3 b t ⟨2376 + (16 + e.val), by omega⟩) * Ideal.sin (angle (ix3 0 t e)) := by
  pointwise [krot]

theorem krot_hi (e : Fin 16) : krot h (ix3 b t ⟨16 + e.val, by omega⟩)
    = h (ix3 b t ⟨2376 + e.val, by omega⟩) * Ideal.sin (angle (ix3 0 t e)) + h (ix3 b t ⟨2376 + (16 + e.val), by omega⟩) * Ideal.cos (angle (ix3 0 t e)) := by
  pointwise [krot]

theorem cq_at (l : FVec Ideal S16x8x2176x128 .f32) (r : FVec Ideal S16x2176x8x32 .f32) (k : Fin 8) (e : Fin 256) : cq l r (ix4 b k t e)
    = if ha : e.val < 160 then
        (if hb : e.val < 128 then l (ix4 b k t ⟨e.val, by omega⟩) else r (ix4 b t k ⟨e.val - 128, by omega⟩)) * Ideal.ofBits .f32 0x3DD105EC#32
      else 0 := by
  pointwise [cq]
  rw [fill_zero]

theorem crow_at (n : FVec Ideal S16x2176x128 .f32) (r : FVec Ideal S16x2176x32 .f32) (e : Fin 160) : crow n r (ix3 b t e)
    = if h : e.val < 128 then n (ix3 b t ⟨e.val, by omega⟩) else r (ix3 b t ⟨e.val - 128, by omega⟩) := by
  pointwise [crow]

theorem crows_at (c : FVec Ideal S16x2176x160 .f32) (t : Fin 2064) (e : Fin 160) : crows c (ix3 b t e) = c (ix3 b ⟨t.val, by omega⟩ e) := by
  pointwise [crows]

theorem crowb_at (c : FVec Ideal S16x2176x160 .f32) (e : Fin 256) : crowb c (ix3 b t e)
    = if he : e.val < 160 then c (ix3 b t ⟨e.val, by omega⟩) else 0 := by
  pointwise [crowb]
  rw [fill_zero]

end Cert.Reference2Ideal.Proj

end
-- ==== Proof.Proj.PayA.lean ====
/-
  What a grid point of the projection stores in the first two groups, entry by entry.
-/
module

public import proofs.«01_k».proof.Proof.Proj.Ref
public import proofs.«01_k».proof.Proof.Gen.Kernel2Ideal.Skeleton
public import Idealize.ShloMosaic.Lib.Pointwise

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Cert.Reference2Ideal.Proj (angle hid aq akv akvb aiq aik aikb aiw gates bq bkv bkvb cn up lat rot cq kvn krot crow crows crowb)
open Cert.Reference2Ideal (S16x2176x2920 S16x2176x8x96 S16x2176x32)

variable (v0 : Vec Ideal S1x544x1024 .f32) (r : Fin 544) (hh : FVec Ideal S16x2176x2920 .f32) (b : Fin 16) (t : Fin 2176)

theorem aq_tile0 (w : Vec Ideal S1024x256 .bf16) (hd : ∀ j : Fin 256, ∑ k : Fin 1024, (v0 (ix3 0 r k) : EReal) * w (ix2 k j) = hh (ix3 b t ⟨0 + j.val, by omega⟩)) (d : Fin 64) :
    k0_pay7 (F := Ideal) v0 w (ix4 0 0 r d) = aq hh (ix4 b ⟨0, by decide⟩ t d) := by
  rw [Cert.Reference2Ideal.Proj.aq_at]
  pointwise [k0_pay7, k0_pay6, k0_pay5]
  rw [hd]
  exact congrArg (fun q => hh (ix3 b t q) * Ideal.ofBits .f32 0x3E000000#32) (Fin.ext (by simp only []; omega))

theorem aq_tile1 (w : Vec Ideal S1024x256 .bf16) (hd : ∀ j : Fin 256, ∑ k : Fin 1024, (v0 (ix3 0 r k) : EReal) * w (ix2 k j) = hh (ix3 b t ⟨0 + j.val, by omega⟩)) (d : Fin 64) :
    k0_pay8 (F := Ideal) v0 w (ix4 0 0 r d) = aq hh (ix4 b ⟨1, by decide⟩ t d) := by
  rw [Cert.Reference2Ideal.Proj.aq_at]
  pointwise [k0_pay8, k0_pay6, k0_pay5]
  rw [hd]
  exact congrArg (fun q => hh (ix3 b t q) * Ideal.ofBits .f32 0x3E000000#32) (Fin.ext (by simp only []; omega))

theorem aq_tile2 (w : Vec Ideal S1024x256 .bf16) (hd : ∀ j : Fin 256, ∑ k : Fin 1024, (v0 (ix3 0 r k) : EReal) * w (ix2 k j) = hh (ix3 b t ⟨0 + j.val, by omega⟩)) (d : Fin 64) :
    k0_pay9 (F := Ideal) v0 w (ix4 0 0 r d) = aq hh (ix4 b ⟨2, by decide⟩ t d) := by
  rw [Cert.Reference2Ideal.Proj.aq_at]
  pointwise [k0_pay9, k0_pay6, k0_pay5]
  rw [hd]
  exact congrArg (fun q => hh (ix3 b t q) * Ideal.ofBits .f32 0x3E000000#32) (Fin.ext (by simp only []; omega))

theorem aq_tile3 (w : Vec Ideal S1024x256 .bf16) (hd : ∀ j : Fin 256, ∑ k : Fin 1024, (v0 (ix3 0 r k) : EReal) * w (ix2 k j) = hh (ix3 b t ⟨0 + j.val, by omega⟩)) (d : Fin 64) :
    k0_pay11 (F := Ideal) (k0_pay10 v0 w) (ix4 0 0 r d) = aq hh (ix4 b ⟨3, by decide⟩ t d) := by
  rw [Cert.Reference2Ideal.Proj.aq_at]
  pointwise [k0_pay11, k0_pay10, k0_pay6, k0_pay5]
  rw [hd]
  exact congrArg (fun q => hh (ix3 b t q) * Ideal.ofBits .f32 0x3E000000#32) (Fin.ext (by simp only []; omega))

theorem aiq_tile0 (w : Vec Ideal S1024x512 .bf16) (hd : ∀ j : Fin 512, ∑ k : Fin 1024, (v0 (ix3 0 r k) : EReal) * w (ix2 k j) = hh (ix3 b t ⟨384 + j.val, by omega⟩)) (d : Fin 64) :
    k0_pay16 (F := Ideal) (k0_pay5 v0) w (ix4 0 0 r d) = aiq hh (ix4 b ⟨0, by decide⟩ t d) := by
  rw [Cert.Reference2Ideal.Proj.aiq_at]
  pointwise [k0_pay16, k0_pay15, k0_pay5]
  rw [hd]

theorem aiq_tile1 (w : Vec Ideal S1024x512 .bf16) (hd : ∀ j : Fin 512, ∑ k : Fin 1024, (v0 (ix3 0 r k) : EReal) * w (ix2 k j) = hh (ix3 b t ⟨384 + j.val, by omega⟩)) (d : Fin 64) :
    k0_pay17 (F := Ideal) (k0_pay5 v0) w (ix4 0 0 r d) = aiq hh (ix4 b ⟨1, by decide⟩ t d) := by
  rw [Cert.Reference2Ideal.Proj.aiq_at]
  pointwise [k0_pay17, k0_pay15, k0_pay5]
  rw [hd]

theorem aiq_tile2 (w : Vec Ideal S1024x512 .bf16) (hd : ∀ j : Fin 512, ∑ k : Fin 1024, (v0 (ix3 0 r k) : EReal) * w (ix2 k j) = hh (ix3 b t ⟨384 + j.val, by omega⟩)) (d : Fin 64) :
    k0_pay19 (F := Ideal) (k0_pay18 (k0_pay5 v0) w) (ix4 0 0 r d) = aiq hh (ix4 b ⟨2, by decide⟩ t d) := by
  rw [Cert.Reference2Ideal.Proj.aiq_at]
  pointwise [k0_pay19, k0_pay18, k0_pay15, k0_pay5]
  rw [hd]

theorem aiq_tile3 (w : Vec Ideal S1024x512 .bf16) (hd : ∀ j : Fin 512, ∑ k : Fin 1024, (v0 (ix3 0 r k) : EReal) * w (ix2 k j) = hh (ix3 b t ⟨384 + j.val, by omega⟩)) (d : Fin 64) :
    k0_pay20 (F := Ideal) (k0_pay15 (k0_pay5 v0) w) (ix4 0 0 r d) = aiq hh (ix4 b ⟨3, by decide⟩ t d) := by
  rw [Cert.Reference2Ideal.Proj.aiq_at]
  pointwise [k0_pay20, k0_pay15, k0_pay5]
  rw [hd]

theorem aiq_tile4 (w : Vec Ideal S1024x512 .bf16) (hd : ∀ j : Fin 512, ∑ k : Fin 1024, (v0 (ix3 0 r k) : EReal) * w (ix2 k j) = hh (ix3 b t ⟨384 + j.val, by omega⟩)) (d : Fin 64) :
    k0_pay21 (F := Ideal) (k0_pay15 (k0_pay5 v0) w) (ix4 0 0 r d) = aiq hh (ix4 b ⟨4, by decide⟩ t d) := by
  rw [Cert.Reference2Ideal.Proj.aiq_at]
  pointwise [k0_pay21, k0_pay15, k0_pay5]
  rw [hd]

theorem aiq_tile5 (w : Vec Ideal S1024x512 .bf16) (hd : ∀ j : Fin 512, ∑ k : Fin 1024, (v0 (ix3 0 r k) : EReal) * w (ix2 k j) = hh (ix3 b t ⟨384 + j.val, by omega⟩)) (d : Fin 64) :
    k0_pay22 (F := Ideal) (k0_pay15 (k0_pay5 v0) w) (ix4 0 0 r d) = aiq hh (ix4 b ⟨5, by decide⟩ t d) := by
  rw [Cert.Reference2Ideal.Proj.aiq_at]
  pointwise [k0_pay22, k0_pay15, k0_pay5]
  rw [hd]

theorem aiq_tile6 (w : Vec Ideal S1024x512 .bf16) (hd : ∀ j : Fin 512, ∑ k : Fin 1024, (v0 (ix3 0 r k) : EReal) * w (ix2 k j) = hh (ix3 b t ⟨384 + j.val, by omega⟩)) (d : Fin 64) :
    k0_pay23 (F := Ideal) (k0_pay15 (k0_pay5 v0) w) (ix4 0 0 r d) = aiq hh (ix4 b ⟨6, by decide⟩ t d) := by
  rw [Cert.Reference2Ideal.Proj.aiq_at]
  pointwise [k0_pay23, k0_pay15, k0_pay5]
  rw [hd]

theorem aiq_tile7 (w : Vec Ideal S1024x512 .bf16) (hd : ∀ j : Fin 512, ∑ k : Fin 1024, (v0 (ix3 0 r k) : EReal) * w (ix2 k j) = hh (ix3 b t ⟨384 + j.val, by omega⟩)) (d : Fin 64) :
    k0_pay24 (F := Ideal) (k0_pay15 (k0_pay5 v0) w) (ix4 0 0 r d) = aiq hh (ix4 b ⟨7, by decide⟩ t d) := by
  rw [Cert.Reference2Ideal.Proj.aiq_at]
  pointwise [k0_pay24, k0_pay15, k0_pay5]
  rw [hd]

theorem bq_tile0 (w : Vec Ideal S1024x256 .bf16) (hd : ∀ j : Fin 256, ∑ k : Fin 1024, (v0 (ix3 0 r k) : EReal) * w (ix2 k j) = hh (ix3 b t ⟨1224 + j.val, by omega⟩)) (d : Fin 64) :
    k0_pay32 (F := Ideal) (k0_pay5 v0) w (ix4 0 0 r d) = bq hh (ix4 b ⟨0, by decide⟩ t d) := by
  rw [Cert.Reference2Ideal.Proj.bq_at]
  pointwise [k0_pay32, k0_pay31, k0_pay5]
  rw [hd]

theorem bq_tile1 (w : Vec Ideal S1024x256 .bf16) (hd : ∀ j : Fin 256, ∑ k : Fin 1024, (v0 (ix3 0 r k) : EReal) * w (ix2 k j) = hh (ix3 b t ⟨1224 + j.val, by omega⟩)) (d : Fin 64) :
    k0_pay35 (F := Ideal) (k0_pay33 (k0_pay5 v0) w) k0_pay34 (ix4 0 0 r d) = bq hh (ix4 b ⟨1, by decide⟩ t d) := by
  rw [Cert.Reference2Ideal.Proj.bq_at]
  pointwise [k0_pay35, k0_pay33, k0_pay34, k0_pay31, k0_pay5]
  rw [hd]

theorem bq_tile2 (w : Vec Ideal S1024x256 .bf16) (hd : ∀ j : Fin 256, ∑ k : Fin 1024, (v0 (ix3 0 r k) : EReal) * w (ix2 k j) = hh (ix3 b t ⟨1224 + j.val, by omega⟩)) (d : Fin 64) :
    k0_pay36 (F := Ideal) (k0_pay31 (k0_pay5 v0) w) (ix4 0 0 r d) = bq hh (ix4 b ⟨2, by decide⟩ t d) := by
  rw [Cert.Reference2Ideal.Proj.bq_at]
  pointwise [k0_pay36, k0_pay31, k0_pay5]
  rw [hd]

theorem bq_tile3 (w : Vec Ideal S1024x256 .bf16) (hd : ∀ j : Fin 256, ∑ k : Fin 1024, (v0 (ix3 0 r k) : EReal) * w (ix2 k j) = hh (ix3 b t ⟨1224 + j.val, by omega⟩)) (d : Fin 64) :
    k0_pay37 (F := Ideal) (k0_pay31 (k0_pay5 v0) w) (ix4 0 0 r d) = bq hh (ix4 b ⟨3, by decide⟩ t d) := by
  rw [Cert.Reference2Ideal.Proj.bq_at]
  pointwise [k0_pay37, k0_pay31, k0_pay5]
  rw [hd]

theorem bkvb_tile0 (w : Vec Ideal S1024x256 .bf16) (hd : ∀ j : Fin 256, ∑ k : Fin 1024, (v0 (ix3 0 r k) : EReal) * w (ix2 k j) = hh (ix3 b t ⟨1480 + j.val, by omega⟩)) (d : Fin 64) :
    k0_pay40 (F := Ideal) (k0_pay5 v0) w (ix4 0 0 r d) = bkvb hh (ix4 b ⟨0, by decide⟩ t d) := by
  rw [Cert.Reference2Ideal.Proj.bkvb_at]
  pointwise [k0_pay40, k0_pay38, k0_pay5]
  rw [hd]

theorem bkvb_tile1 (w : Vec Ideal S1024x256 .bf16) (hd : ∀ j : Fin 256, ∑ k : Fin 1024, (v0 (ix3 0 r k) : EReal) * w (ix2 k j) = hh (ix3 b t ⟨1480 + j.val, by omega⟩)) (d : Fin 64) :
    k0_pay42 (F := Ideal) (k0_pay41 (k0_pay5 v0) w) (ix4 0 0 r d) = bkvb hh (ix4 b ⟨1, by decide⟩ t d) := by
  rw [Cert.Reference2Ideal.Proj.bkvb_at]
  pointwise [k0_pay42, k0_pay41, k0_pay38, k0_pay5]
  rw [hd]

theorem bkvb_tile2 (w : Vec Ideal S1024x256 .bf16) (hd : ∀ j : Fin 256, ∑ k : Fin 1024, (v0 (ix3 0 r k) : EReal) * w (ix2 k j) = hh (ix3 b t ⟨1480 + j.val, by omega⟩)) (d : Fin 64) :
    k0_pay43 (F := Ideal) (k0_pay38 (k0_pay5 v0) w) (ix4 0 0 r d) = bkvb hh (ix4 b ⟨2, by decide⟩ t d) := by
  rw [Cert.Reference2Ideal.Proj.bkvb_at]
  pointwise [k0_pay43, k0_pay38, k0_pay5]
  rw [hd]

theorem bkvb_tile3 (w : Vec Ideal S1024x256 .bf16) (hd : ∀ j : Fin 256, ∑ k : Fin 1024, (v0 (ix3 0 r k) : EReal) * w (ix2 k j) = hh (ix3 b t ⟨1480 + j.val, by omega⟩)) (d : Fin 64) :
    k0_pay44 (F := Ideal) (k0_pay38 (k0_pay5 v0) w) (ix4 0 0 r d) = bkvb hh (ix4 b ⟨3, by decide⟩ t d) := by
  rw [Cert.Reference2Ideal.Proj.bkvb_at]
  pointwise [k0_pay44, k0_pay38, k0_pay5]
  rw [hd]

theorem akvb_tile (w : Vec Ideal S1024x128 .bf16) (hd : ∀ j : Fin 128, ∑ k : Fin 1024, (v0 (ix3 0 r k) : EReal) * w (ix2 k j) = hh (ix3 b t ⟨256 + j.val, by omega⟩)) (j : Fin 128) :
    k0_pay14 (F := Ideal) (k0_pay5 v0) w (ix3 0 r j) = akvb hh (ix3 b t j) := by
  rw [Cert.Reference2Ideal.Proj.akvb_at]
  pointwise [k0_pay14, k0_pay12, k0_pay5]
  exact hd j

theorem akv_tile (t' : Fin 2064) (ht : t'.val = t.val) (w : Vec Ideal S1024x128 .bf16) (hd : ∀ j : Fin 128, ∑ k : Fin 1024, (v0 (ix3 0 r k) : EReal) * w (ix2 k j) = hh (ix3 b t ⟨256 + j.val, by omega⟩)) (j : Fin 128) :
    k0_pay13 (F := Ideal) (k0_pay5 v0) w (ix3 0 r j) = akv hh (ix3 b t' j) := by
  obtain rfl : t = ⟨t'.val, Nat.lt_of_lt_of_le t'.isLt (by decide)⟩ := Fin.ext ht.symm
  rw [Cert.Reference2Ideal.Proj.akv_at]
  pointwise [k0_pay13, k0_pay12, k0_pay5]
  exact hd j

theorem bkv_tile (t' : Fin 2064) (ht : t'.val = t.val) (w : Vec Ideal S1024x256 .bf16) (hd : ∀ j : Fin 256, ∑ k : Fin 1024, (v0 (ix3 0 r k) : EReal) * w (ix2 k j) = hh (ix3 b t ⟨1480 + j.val, by omega⟩)) (j : Fin 256) :
    k0_pay39 (F := Ideal) (k0_pay5 v0) w (ix3 0 r j) = bkv hh (ix3 b t' j) := by
  obtain rfl : t = ⟨t'.val, Nat.lt_of_lt_of_le t'.isLt (by decide)⟩ := Fin.ext ht.symm
  rw [Cert.Reference2Ideal.Proj.bkv_at]
  pointwise [k0_pay39, k0_pay38, k0_pay5]
  exact hd j

theorem aik_tile (t' : Fin 2064) (ht : t'.val = t.val) (w : Vec Ideal S1024x128 .bf16) (hd : ∀ j : Fin 128, ∑ k : Fin 1024, (v0 (ix3 0 r k) : EReal) * w (ix2 k j) = if hj : j.val < 72 then hh (ix3 b t ⟨896 + j.val, by omega⟩) else 0) (j : Fin 64) :
    k0_pay27 (F := Ideal) (k0_pay26 (k0_pay5 v0) w) (ix3 0 r j) = aik hh (ix3 b t' j) := by
  obtain rfl : t = ⟨t'.val, Nat.lt_of_lt_of_le t'.isLt (by decide)⟩ := Fin.ext ht.symm
  rw [Cert.Reference2Ideal.Proj.aik_at]
  pointwise [k0_pay27, k0_pay26, k0_pay25, k0_pay5]
  refine (hd ⟨j.val, by omega⟩).trans ?_
  rw [dif_pos (by simp only []; omega)]

theorem aikb_tile (w : Vec Ideal S1024x128 .bf16) (hd : ∀ j : Fin 128, ∑ k : Fin 1024, (v0 (ix3 0 r k) : EReal) * w (ix2 k j) = if hj : j.val < 72 then hh (ix3 b t ⟨896 + j.val, by omega⟩) else 0) (j : Fin 128) :
    k0_pay28 (F := Ideal) (k0_pay25 (k0_pay5 v0) w) (ix3 0 r j) = aikb hh (ix3 b t j) := by
  rw [Cert.Reference2Ideal.Proj.aikb_at]
  pointwise [k0_pay28, k0_pay25, k0_pay5]
  exact hd j

theorem aiw_tile (w : Vec Ideal S1024x128 .bf16) (hd : ∀ j : Fin 128, ∑ k : Fin 1024, (v0 (ix3 0 r k) : EReal) * w (ix2 k j) = if hj : j.val < 72 then hh (ix3 b t ⟨896 + j.val, by omega⟩) else 0) (j : Fin 128) :
    k0_pay29 (F := Ideal) (k0_pay25 (k0_pay5 v0) w) (ix3 0 r j) = aiw hh (ix3 b t j) := by
  rw [Cert.Reference2Ideal.Proj.aiw_at]
  pointwise [k0_pay29, k0_pay25, k0_pay5]
  rw [hd j]

theorem gates_tile (w : Vec Ideal S1024x1024 .bf16)
    (hd : ∀ j : Fin 1024, ∑ k : Fin 1024, (v0 (ix3 0 r k) : EReal) * w (ix2 k j) = if ha : j.val < 256 then hh (ix3 b t ⟨968 + j.val, by omega⟩)
      else if hb : j.val < 512 then hh (ix3 b t ⟨1480 + j.val, by omega⟩) else hh (ix3 b t ⟨1896 + j.val, by omega⟩)) (j : Fin 1024) :
    k0_pay30 (F := Ideal) (k0_pay5 v0) w (ix3 0 r j) = gates hh (ix3 b t j) := by
  rw [Cert.Reference2Ideal.Proj.gates_at]
  pointwise [k0_pay30, k0_pay5]
  exact hd j

end Cert.Kernel2Ideal.Proj

end
-- ==== Proof.Proj.PayC.lean ====
/-
  What a grid point of the projection stores in the third group, entry by entry.
-/
module

public import proofs.«01_k».proof.Proof.Proj.Ref
public import proofs.«01_k».proof.Proof.Gen.Kernel2Ideal.Skeleton
public import Idealize.ShloMosaic.Lib.Pointwise

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Cert.Reference2Ideal.Proj (angle hid aq akv akvb aiq aik aikb aiw gates bq bkv bkvb cn up lat rot cq kvn krot crow crows crowb)
open Cert.Reference2Ideal (S16x2176x2920 S16x2176x8x96 S16x2176x32)

variable (v0 : Vec Ideal S1x544x1024 .f32) (r : Fin 544) (hh : FVec Ideal S16x2176x2920 .f32) (b : Fin 16) (t : Fin 2176)

theorem cn_tile (w : Vec Ideal S1024x256 .bf16) (q : Vec Ideal S1x256 .f32) (g : FVec Ideal S256 .f32) (hd : ∀ j : Fin 256, ∑ k : Fin 1024, (v0 (ix3 0 r k) : EReal) * w (ix2 k j) = hh (ix3 b t ⟨1992 + j.val, by omega⟩))
    (hq : ∀ j, q (ix2 0 j) = g (ix1 j)) (j : Fin 256) : k0_pay45 (F := Ideal) (k0_pay5 v0) w q (ix2 r j) = cn hh g (ix3 b t j) := by
  rw [Cert.Reference2Ideal.Proj.cn_at]
  pointwise [k0_pay45, k0_pay5]
  simp only [hd, hq]

theorem kvn_tile (w : Vec Ideal S1024x128 .bf16) (q : Vec Ideal S1x128 .f32) (g : FVec Ideal S128 .f32) (hd : ∀ j : Fin 128, ∑ k : Fin 1024, (v0 (ix3 0 r k) : EReal) * w (ix2 k j) = hh (ix3 b t ⟨2248 + j.val, by omega⟩))
    (hq : ∀ j, q (ix2 0 j) = g (ix1 j)) (j : Fin 128) : k0_pay62 (F := Ideal) (k0_pay5 v0) w q (ix2 r j) = kvn hh g (ix3 b t j) := by
  rw [Cert.Reference2Ideal.Proj.kvn_at]
  pointwise [k0_pay62, k0_pay5]
  simp only [hd, hq]

theorem up_tile (n : FVec Ideal S544x256 .bf16) (w : Vec Ideal S256x768 .bf16) (g : FVec Ideal S16x2176x256 .f32) (X : FVec Ideal S256x768 .f32)
    (hn : ∀ x, n (ix2 r x) = g (ix3 b t x)) (j : Fin 768) (k : Fin 8) (e : Fin 96)
    (hw : ∀ x, w (ix2 x j) = X (ix2 x ⟨k.val * 96 + e.val, by omega⟩)) :
    k0_pay47 (F := Ideal) n (k0_pay46 w) (constant S544x768 .f32 0x00000000#32) (ix2 r j) = up g X (ix4 b t k e) := by
  rw [Cert.Reference2Ideal.Proj.up_at]
  pointwise [k0_pay47, k0_pay46]
  simp only [hn, hw]

section rotation

variable (n : FVec Ideal S544x256 .bf16) (w : FVec Ideal S256x768 .bf16) (z : FVec Ideal S544x768 .f32) (p q : Vec Ideal S544x128 .f32)
  (u : FVec Ideal S16x2176x8x96 .f32)

theorem rot_lo_tile (k : Fin 8) (e : Fin 16)
    (hp : ∀ j : Fin 128, p (ix2 r j) = Ideal.cos (angle (ix3 0 t ⟨j.val % 16, by omega⟩)))
    (hq : ∀ j : Fin 128, q (ix2 r j) = Ideal.sin (angle (ix3 0 t ⟨j.val % 16, by omega⟩)))
    (hl : k0_pay47 (F := Ideal) n w z (ix2 r ⟨512 + (16 * k.val + e.val), by omega⟩) = u (ix4 b t k ⟨64 + e.val, by omega⟩))
    (hu : k0_pay47 (F := Ideal) n w z (ix2 r ⟨640 + (16 * k.val + e.val), by omega⟩) = u (ix4 b t k ⟨64 + (16 + e.val), by omega⟩)) :
    k0_pay48 (F := Ideal) n w z p q (ix2 r ⟨16 * k.val + e.val, by omega⟩)
      = rot u (ix4 b t k ⟨e.val, by omega⟩) * Ideal.ofBits .f32 0x3DD105EC#32 := by
  have he : (⟨(16 * k.val + e.val) % 16, by omega⟩ : Fin 16) = e := Fin.ext (by simp only []; omega)
  rw [Cert.Reference2Ideal.Proj.rot_lo]
  pointwise [k0_pay48]
  rw [dif_pos (by omega)]
  rw [hl, hu, hp, hq]
  simp only [he]

theorem rot_hi_tile (k : Fin 8) (e : Fin 16)
    (hp : ∀ j : Fin 128, p (ix2 r j) = Ideal.cos (angle (ix3 0 t ⟨j.val % 16, by omega⟩)))
    (hq : ∀ j : Fin 128, q (ix2 r j) = Ideal.sin (angle (ix3 0 t ⟨j.val % 16, by omega⟩)))
    (hl : k0_pay47 (F := Ideal) n w z (ix2 r ⟨512 + (16 * k.val + e.val), by omega⟩) = u (ix4 b t k ⟨64 + e.val, by omega⟩))
    (hu : k0_pay47 (F := Ideal) n w z (ix2 r ⟨640 + (16 * k.val + e.val), by omega⟩) = u (ix4 b t k ⟨64 + (16 + e.val), by omega⟩)) :
    k0_pay48 (F := Ideal) n w z p q (ix2 r ⟨128 + (16 * k.val + e.val), by omega⟩)
      = rot u (ix4 b t k ⟨16 + e.val, by omega⟩) * Ideal.ofBits .f32 0x3DD105EC#32 := by
  have he : (⟨(16 * k.val + e.val) % 16, by omega⟩ : Fin 16) = e := Fin.ext (by simp only []; omega)
  rw [Cert.Reference2Ideal.Proj.rot_hi]
  pointwise [k0_pay48]
  rw [hl, hu, hp, hq]
  simp only [he]

end rotation

theorem pick (v : Fin 256 → EReal) (s : ℕ) (h : s < 256) : ∑ y : Fin 256, v y * (if y.val = s then (1 : EReal) else 0) = v ⟨s, h⟩ := by
  rw [Finset.sum_eq_single ⟨s, h⟩]
  · simp
  · intro y _ hy
    rw [if_neg (fun e => hy (Fin.ext e)), mul_zero]
  · intro hn
    exact absurd (Finset.mem_univ _) hn

theorem pick_none (v : Fin 256 → EReal) (s : ℕ) (h : 256 ≤ s) : ∑ y : Fin 256, v y * (if y.val = s then (1 : EReal) else 0) = 0 := by
  refine Finset.sum_eq_zero fun y _ => ?_
  rw [if_neg (by omega), mul_zero]

/-- The row that column `j` of head `n` selects, or 256 for none. -/
def chosen (n j : ℕ) : ℕ := if j < 16 then 16 * n + j else if j < 32 then 128 + (16 * n + (j - 16)) else 256

/-- A head's row from its parts. -/
theorem head_at (n : Fin 8) (P : Fin 64 → EReal) (Q : FVec Ideal S544x256 .bf16) (wk : Vec Ideal S1x64x128 .bf16) (sl : Vec Ideal S1x256x128 .bf16)
    (u : FVec Ideal S16x2176x8x96 .f32) (X : FVec Ideal S128x8x64 .f32)
    (hP : ∀ x : Fin 64, P x = u (ix4 b t n ⟨x.val, by omega⟩))
    (hlo : ∀ e : Fin 16, Q (ix2 r ⟨16 * n.val + e.val, by omega⟩) = rot u (ix4 b t n ⟨e.val, by omega⟩) * Ideal.ofBits .f32 0x3DD105EC#32)
    (hhi : ∀ e : Fin 16, Q (ix2 r ⟨128 + (16 * n.val + e.val), by omega⟩) = rot u (ix4 b t n ⟨16 + e.val, by omega⟩) * Ideal.ofBits .f32 0x3DD105EC#32)
    (hk : ∀ x j, wk (ix3 0 x j) = X (ix3 j n x))
    (hs : ∀ y j, sl (ix3 0 y j) = if y.val = chosen n.val j.val then (1 : EReal) else 0) (e : Fin 256) :
    (if h : e.val < 128 then (∑ x : Fin 64, P x * (wk (ix3 0 x ⟨e.val, h⟩) : EReal)) * Ideal.ofBits .f32 0x3DD105EC#32
      else ∑ y : Fin 256, (Q (ix2 r y) : EReal) * sl (ix3 0 y ⟨e.val - 128, by omega⟩))
      = cq (lat u X) (rot u) (ix4 b n t e) := by
  rw [Cert.Reference2Ideal.Proj.cq_at]
  by_cases h1 : e.val < 128
  · rw [dif_pos h1, dif_pos (by omega), dif_pos h1, Cert.Reference2Ideal.Proj.lat_at]
    refine congrArg (fun q => q * Ideal.ofBits .f32 0x3DD105EC#32) (Finset.sum_congr rfl fun x _ => ?_)
    rw [hP, hk, mul_comm]
  · rw [dif_neg h1]
    simp only [hs]
    by_cases h2 : e.val < 144
    · have hc : chosen n.val (e.val - 128) = 16 * n.val + (e.val - 128) := by unfold chosen; rw [if_pos (by omega)]
      rw [hc, pick (fun y => Q (ix2 r y)) _ (by omega), dif_pos (by omega), dif_neg h1]
      exact hlo ⟨e.val - 128, by omega⟩
    · by_cases h3 : e.val < 160
      · have hc : chosen n.val (e.val - 128) = 128 + (16 * n.val + (e.val - 128 - 16)) := by
          unfold chosen; rw [if_neg (by omega), if_pos (by omega)]
        rw [hc, pick (fun y => Q (ix2 r y)) _ (by omega), dif_pos h3, dif_neg h1]
        refine (hhi ⟨e.val - 128 - 16, by omega⟩).trans ?_
        exact congrArg (fun q => rot u (ix4 b t n q) * Ideal.ofBits .f32 0x3DD105EC#32) (Fin.ext (by simp only []; omega))
      · have hc : chosen n.val (e.val - 128) = 256 := by unfold chosen; rw [if_neg (by omega), if_neg (by omega)]
        rw [hc, pick_none _ _ (le_refl _), dif_neg h3]

/-- The rotated shared key, the unused lanes zero. -/
theorem krot_tile (w : Vec Ideal S1024x128 .bf16) (ck sa sb : Vec Ideal S544x128 .f32)
    (hd : ∀ j : Fin 128, ∑ k : Fin 1024, (v0 (ix3 0 r k) : EReal) * w (ix2 k j) = if hj : j.val < 32 then hh (ix3 b t ⟨2376 + j.val, by omega⟩) else 0)
    (hc : ∀ j : Fin 128, ck (ix2 r j) = if h : j.val < 32 then Ideal.cos (angle (ix3 0 t ⟨j.val % 16, by omega⟩)) else 0)
    (ha : ∀ j : Fin 128, sa (ix2 r j) = if h : j.val < 16 then -Ideal.sin (angle (ix3 0 t ⟨j.val, h⟩)) else 0)
    (hb : ∀ j : Fin 128, sb (ix2 r j) = if h : 16 ≤ j.val ∧ j.val < 32 then Ideal.sin (angle (ix3 0 t ⟨j.val - 16, by omega⟩)) else 0) (j : Fin 128) :
    k0_pay1 (F := Ideal) (k0_pay64 (k0_pay5 v0) w ck sa) (k0_pay65 (k0_pay5 v0) w) sb (ix2 r j) = if h : j.val < 32 then krot hh (ix3 b t ⟨j.val, h⟩) else 0 := by
  pointwise [k0_pay1, k0_pay64, k0_pay65, k0_pay63, k0_pay5]
  simp only [hd, hc, ha, hb]
  by_cases h1 : j.val < 16
  · have e1 : (j.val + 128 - 112) % 128 = 16 + j.val := by omega
    have e2 : (⟨j.val % 16, by omega⟩ : Fin 16) = ⟨j.val, h1⟩ := Fin.ext (by simp only []; omega)
    simp only [e1, e2]
    rw [dif_pos (show j.val < 32 by omega), dif_pos (show j.val < 32 by omega), dif_pos (show 16 + j.val < 32 by omega), dif_pos h1,
      dif_neg (show ¬ (16 ≤ j.val ∧ j.val < 32) by omega), dif_pos (show j.val < 32 by omega), mul_zero, add_zero, mul_neg, ← sub_eq_add_neg]
    exact (Cert.Reference2Ideal.Proj.krot_lo hh b t ⟨j.val, h1⟩).symm
  · by_cases h2 : j.val < 32
    · have e1 : (j.val + 128 - 16) % 128 = j.val - 16 := by omega
      have e2 : (⟨j.val % 16, by omega⟩ : Fin 16) = ⟨j.val - 16, by omega⟩ := Fin.ext (by simp only []; omega)
      have e3 : (⟨j.val, h2⟩ : Fin 32) = ⟨16 + (j.val - 16), by omega⟩ := Fin.ext (by simp only []; omega)
      have e4 : (⟨2376 + j.val, by omega⟩ : Fin 2920) = ⟨2376 + (16 + (j.val - 16)), by omega⟩ := Fin.ext (by simp only []; omega)
      simp only [e1, e2]
      rw [dif_pos h2, dif_pos h2, dif_neg h1, dif_pos (show j.val - 16 < 32 by omega), dif_pos (show 16 ≤ j.val ∧ j.val < 32 by omega),
        dif_pos h2, mul_zero, add_zero, e3, e4, add_comm]
      exact (Cert.Reference2Ideal.Proj.krot_hi hh b t ⟨j.val - 16, by omega⟩).symm
    · rw [dif_neg h2, dif_neg h2, dif_neg h1, dif_neg (show ¬ (16 ≤ j.val ∧ j.val < 32) by omega), dif_neg h2]
      simp only [mul_zero, add_zero]

section rows

variable (n a c s : FVec Ideal S544x128 .f32) (N : FVec Ideal S16x2176x128 .f32) (K : FVec Ideal S16x2176x32 .f32)

theorem crow_lo_tile (t' : Fin 2064) (ht : t'.val = t.val) (hn : ∀ j, n (ix2 r j) = N (ix3 b t j)) (j : Fin 128) :
    k0_pay2 (F := Ideal) n (ix3 0 r j) = crows (crow N K) (ix3 b t' ⟨j.val, by omega⟩) := by
  obtain rfl : t = ⟨t'.val, Nat.lt_of_lt_of_le t'.isLt (by decide)⟩ := Fin.ext ht.symm
  rw [Cert.Reference2Ideal.Proj.crows_at, Cert.Reference2Ideal.Proj.crow_at, dif_pos (by simp only []; omega)]
  pointwise [k0_pay2]
  exact hn j

theorem crow_hi_tile (t' : Fin 2064) (ht : t'.val = t.val)
    (hk : ∀ j : Fin 128, k0_pay1 (F := Ideal) a c s (ix2 r j) = if h : j.val < 32 then K (ix3 b t ⟨j.val, h⟩) else 0) (j : Fin 32) :
    k0_pay3 (F := Ideal) a c s (ix3 0 r j) = crows (crow N K) (ix3 b t' ⟨128 + j.val, by omega⟩) := by
  obtain rfl : t = ⟨t'.val, Nat.lt_of_lt_of_le t'.isLt (by decide)⟩ := Fin.ext ht.symm
  rw [Cert.Reference2Ideal.Proj.crows_at, Cert.Reference2Ideal.Proj.crow_at, dif_neg (by simp only []; omega)]
  pointwise [k0_pay3]
  refine (hk ⟨j.val, by omega⟩).trans ?_
  rw [dif_pos (by simp only []; omega)]

theorem crowb_tile (hn : ∀ j, n (ix2 r j) = N (ix3 b t j))
    (hk : ∀ j : Fin 128, k0_pay1 (F := Ideal) a c s (ix2 r j) = if h : j.val < 32 then K (ix3 b t ⟨j.val, h⟩) else 0) (j : Fin 256) :
    k0_pay4 (F := Ideal) n a c s (ix3 0 r j) = crowb (crow N K) (ix3 b t j) := by
  rw [Cert.Reference2Ideal.Proj.crowb_at]
  pointwise [k0_pay4]
  by_cases h1 : j.val < 128
  · rw [dif_pos h1, dif_pos (show j.val < 160 by omega), Cert.Reference2Ideal.Proj.crow_at, dif_pos h1]
    exact hn _
  · rw [dif_neg h1]
    refine (hk ⟨j.val - 128, by omega⟩).trans ?_
    by_cases h2 : j.val < 160
    · rw [dif_pos (show j.val - 128 < 32 by omega), dif_pos h2, Cert.Reference2Ideal.Proj.crow_at, dif_neg h1]
    · rw [dif_neg (show ¬ j.val - 128 < 32 by omega), dif_neg h2]

end rows

variable (v183 : FVec Ideal S544x256 .bf16) (v185 : FVec Ideal S256x768 .bf16) (z : FVec Ideal S544x768 .f32) (p q : Vec Ideal S544x128 .f32)
  (v186 : FVec Ideal S544x768 .f32) (v202 : FVec Ideal S544x256 .bf16) (wk : Vec Ideal S1x64x128 .bf16) (sl : Vec Ideal S1x256x128 .bf16)
  (u : FVec Ideal S16x2176x8x96 .f32) (X : FVec Ideal S128x8x64 .f32)

theorem head_tile0 (hP : ∀ x : Fin 64, (k0_pay47 v183 v185 z) (ix2 r ⟨64 * 0 + x.val, by omega⟩) = u (ix4 b t ⟨0, by decide⟩ ⟨x.val, by omega⟩))
    (hlo : ∀ e : Fin 16, (k0_pay48 v183 v185 z p q) (ix2 r ⟨16 * 0 + e.val, by omega⟩) = rot u (ix4 b t ⟨0, by decide⟩ ⟨e.val, by omega⟩) * Ideal.ofBits .f32 0x3DD105EC#32)
    (hhi : ∀ e : Fin 16, (k0_pay48 v183 v185 z p q) (ix2 r ⟨128 + (16 * 0 + e.val), by omega⟩) = rot u (ix4 b t ⟨0, by decide⟩ ⟨16 + e.val, by omega⟩) * Ideal.ofBits .f32 0x3DD105EC#32)
    (hk : ∀ x j, wk (ix3 0 x j) = X (ix3 j ⟨0, by decide⟩ x))
    (hs : ∀ y j, sl (ix3 0 y j) = if y.val = chosen 0 j.val then (1 : EReal) else 0) (e : Fin 256) :
    k0_pay49 (F := Ideal) v183 v185 z p q wk sl (ix4 0 0 r e) = cq (lat u X) (rot u) (ix4 b ⟨0, by decide⟩ t e) := by
  refine Eq.trans ?_ (head_at r b t ⟨0, by decide⟩ (fun x => (k0_pay47 v183 v185 z) (ix2 r ⟨x.val, by omega⟩)) (k0_pay48 v183 v185 z p q) wk sl u X (fun x => (congrArg (fun q => (k0_pay47 v183 v185 z) (ix2 r q)) (Fin.ext (by simp only [] <;> omega))).trans (hP x)) hlo hhi hk hs e)
  pointwise [k0_pay49]

theorem head_tile1 (hP : ∀ x : Fin 64, (k0_pay47 v183 v185 z) (ix2 r ⟨64 * 1 + x.val, by omega⟩) = u (ix4 b t ⟨1, by decide⟩ ⟨x.val, by omega⟩))
    (hlo : ∀ e : Fin 16, v202 (ix2 r ⟨16 * 1 + e.val, by omega⟩) = rot u (ix4 b t ⟨1, by decide⟩ ⟨e.val, by omega⟩) * Ideal.ofBits .f32 0x3DD105EC#32)
    (hhi : ∀ e : Fin 16, v202 (ix2 r ⟨128 + (16 * 1 + e.val), by omega⟩) = rot u (ix4 b t ⟨1, by decide⟩ ⟨16 + e.val, by omega⟩) * Ideal.ofBits .f32 0x3DD105EC#32)
    (hk : ∀ x j, wk (ix3 0 x j) = X (ix3 j ⟨1, by decide⟩ x))
    (hs : ∀ y j, sl (ix3 0 y j) = if y.val = chosen 1 j.val then (1 : EReal) else 0) (e : Fin 256) :
    k0_pay51 (F := Ideal) v202 (k0_pay50 v183 v185 z wk) sl (ix4 0 0 r e) = cq (lat u X) (rot u) (ix4 b ⟨1, by decide⟩ t e) := by
  refine Eq.trans ?_ (head_at r b t ⟨1, by decide⟩ (fun x => (k0_pay47 v183 v185 z) (ix2 r ⟨64 + x.val, by omega⟩)) v202 wk sl u X (fun x => (congrArg (fun q => (k0_pay47 v183 v185 z) (ix2 r q)) (Fin.ext (by simp only [] <;> omega))).trans (hP x)) hlo hhi hk hs e)
  pointwise [k0_pay51, k0_pay50]

theorem head_tile2 (hP : ∀ x : Fin 64, v186 (ix2 r ⟨64 * 2 + x.val, by omega⟩) = u (ix4 b t ⟨2, by decide⟩ ⟨x.val, by omega⟩))
    (hlo : ∀ e : Fin 16, v202 (ix2 r ⟨16 * 2 + e.val, by omega⟩) = rot u (ix4 b t ⟨2, by decide⟩ ⟨e.val, by omega⟩) * Ideal.ofBits .f32 0x3DD105EC#32)
    (hhi : ∀ e : Fin 16, v202 (ix2 r ⟨128 + (16 * 2 + e.val), by omega⟩) = rot u (ix4 b t ⟨2, by decide⟩ ⟨16 + e.val, by omega⟩) * Ideal.ofBits .f32 0x3DD105EC#32)
    (hk : ∀ x j, wk (ix3 0 x j) = X (ix3 j ⟨2, by decide⟩ x))
    (hs : ∀ y j, sl (ix3 0 y j) = if y.val = chosen 2 j.val then (1 : EReal) else 0) (e : Fin 256) :
    k0_pay52 (F := Ideal) v186 v202 wk sl (ix4 0 0 r e) = cq (lat u X) (rot u) (ix4 b ⟨2, by decide⟩ t e) := by
  refine Eq.trans ?_ (head_at r b t ⟨2, by decide⟩ (fun x => v186 (ix2 r ⟨128 + x.val, by omega⟩)) v202 wk sl u X (fun x => (congrArg (fun q => v186 (ix2 r q)) (Fin.ext (by simp only [] <;> omega))).trans (hP x)) hlo hhi hk hs e)
  pointwise [k0_pay52]

theorem head_tile3 (hP : ∀ x : Fin 64, v186 (ix2 r ⟨64 * 3 + x.val, by omega⟩) = u (ix4 b t ⟨3, by decide⟩ ⟨x.val, by omega⟩))
    (hlo : ∀ e : Fin 16, v202 (ix2 r ⟨16 * 3 + e.val, by omega⟩) = rot u (ix4 b t ⟨3, by decide⟩ ⟨e.val, by omega⟩) * Ideal.ofBits .f32 0x3DD105EC#32)
    (hhi : ∀ e : Fin 16, v202 (ix2 r ⟨128 + (16 * 3 + e.val), by omega⟩) = rot u (ix4 b t ⟨3, by decide⟩ ⟨16 + e.val, by omega⟩) * Ideal.ofBits .f32 0x3DD105EC#32)
    (hk : ∀ x j, wk (ix3 0 x j) = X (ix3 j ⟨3, by decide⟩ x))
    (hs : ∀ y j, sl (ix3 0 y j) = if y.val = chosen 3 j.val then (1 : EReal) else 0) (e : Fin 256) :
    k0_pay55 (F := Ideal) v202 (k0_pay53 v186 wk) k0_pay54 sl (ix4 0 0 r e) = cq (lat u X) (rot u) (ix4 b ⟨3, by decide⟩ t e) := by
  refine Eq.trans ?_ (head_at r b t ⟨3, by decide⟩ (fun x => v186 (ix2 r ⟨192 + x.val, by omega⟩)) v202 wk sl u X (fun x => (congrArg (fun q => v186 (ix2 r q)) (Fin.ext (by simp only [] <;> omega))).trans (hP x)) hlo hhi hk hs e)
  pointwise [k0_pay55, k0_pay53, k0_pay54]

theorem head_tile4 (hP : ∀ x : Fin 64, v186 (ix2 r ⟨64 * 4 + x.val, by omega⟩) = u (ix4 b t ⟨4, by decide⟩ ⟨x.val, by omega⟩))
    (hlo : ∀ e : Fin 16, v202 (ix2 r ⟨16 * 4 + e.val, by omega⟩) = rot u (ix4 b t ⟨4, by decide⟩ ⟨e.val, by omega⟩) * Ideal.ofBits .f32 0x3DD105EC#32)
    (hhi : ∀ e : Fin 16, v202 (ix2 r ⟨128 + (16 * 4 + e.val), by omega⟩) = rot u (ix4 b t ⟨4, by decide⟩ ⟨16 + e.val, by omega⟩) * Ideal.ofBits .f32 0x3DD105EC#32)
    (hk : ∀ x j, wk (ix3 0 x j) = X (ix3 j ⟨4, by decide⟩ x))
    (hs : ∀ y j, sl (ix3 0 y j) = if y.val = chosen 4 j.val then (1 : EReal) else 0) (e : Fin 256) :
    k0_pay56 (F := Ideal) v186 v202 wk sl (ix4 0 0 r e) = cq (lat u X) (rot u) (ix4 b ⟨4, by decide⟩ t e) := by
  refine Eq.trans ?_ (head_at r b t ⟨4, by decide⟩ (fun x => v186 (ix2 r ⟨256 + x.val, by omega⟩)) v202 wk sl u X (fun x => (congrArg (fun q => v186 (ix2 r q)) (Fin.ext (by simp only [] <;> omega))).trans (hP x)) hlo hhi hk hs e)
  pointwise [k0_pay56]

theorem head_tile5 (hP : ∀ x : Fin 64, v186 (ix2 r ⟨64 * 5 + x.val, by omega⟩) = u (ix4 b t ⟨5, by decide⟩ ⟨x.val, by omega⟩))
    (hlo : ∀ e : Fin 16, v202 (ix2 r ⟨16 * 5 + e.val, by omega⟩) = rot u (ix4 b t ⟨5, by decide⟩ ⟨e.val, by omega⟩) * Ideal.ofBits .f32 0x3DD105EC#32)
    (hhi : ∀ e : Fin 16, v202 (ix2 r ⟨128 + (16 * 5 + e.val), by omega⟩) = rot u (ix4 b t ⟨5, by decide⟩ ⟨16 + e.val, by omega⟩) * Ideal.ofBits .f32 0x3DD105EC#32)
    (hk : ∀ x j, wk (ix3 0 x j) = X (ix3 j ⟨5, by decide⟩ x))
    (hs : ∀ y j, sl (ix3 0 y j) = if y.val = chosen 5 j.val then (1 : EReal) else 0) (e : Fin 256) :
    k0_pay58 (F := Ideal) v202 (k0_pay57 v186 wk) sl (ix4 0 0 r e) = cq (lat u X) (rot u) (ix4 b ⟨5, by decide⟩ t e) := by
  refine Eq.trans ?_ (head_at r b t ⟨5, by decide⟩ (fun x => v186 (ix2 r ⟨320 + x.val, by omega⟩)) v202 wk sl u X (fun x => (congrArg (fun q => v186 (ix2 r q)) (Fin.ext (by simp only [] <;> omega))).trans (hP x)) hlo hhi hk hs e)
  pointwise [k0_pay58, k0_pay57]

theorem head_tile6 (hP : ∀ x : Fin 64, v186 (ix2 r ⟨64 * 6 + x.val, by omega⟩) = u (ix4 b t ⟨6, by decide⟩ ⟨x.val, by omega⟩))
    (hlo : ∀ e : Fin 16, v202 (ix2 r ⟨16 * 6 + e.val, by omega⟩) = rot u (ix4 b t ⟨6, by decide⟩ ⟨e.val, by omega⟩) * Ideal.ofBits .f32 0x3DD105EC#32)
    (hhi : ∀ e : Fin 16, v202 (ix2 r ⟨128 + (16 * 6 + e.val), by omega⟩) = rot u (ix4 b t ⟨6, by decide⟩ ⟨16 + e.val, by omega⟩) * Ideal.ofBits .f32 0x3DD105EC#32)
    (hk : ∀ x j, wk (ix3 0 x j) = X (ix3 j ⟨6, by decide⟩ x))
    (hs : ∀ y j, sl (ix3 0 y j) = if y.val = chosen 6 j.val then (1 : EReal) else 0) (e : Fin 256) :
    k0_pay59 (F := Ideal) v186 v202 wk sl (ix4 0 0 r e) = cq (lat u X) (rot u) (ix4 b ⟨6, by decide⟩ t e) := by
  refine Eq.trans ?_ (head_at r b t ⟨6, by decide⟩ (fun x => v186 (ix2 r ⟨384 + x.val, by omega⟩)) v202 wk sl u X (fun x => (congrArg (fun q => v186 (ix2 r q)) (Fin.ext (by simp only [] <;> omega))).trans (hP x)) hlo hhi hk hs e)
  pointwise [k0_pay59]

theorem head_tile7 (hP : ∀ x : Fin 64, v186 (ix2 r ⟨64 * 7 + x.val, by omega⟩) = u (ix4 b t ⟨7, by decide⟩ ⟨x.val, by omega⟩))
    (hlo : ∀ e : Fin 16, v202 (ix2 r ⟨16 * 7 + e.val, by omega⟩) = rot u (ix4 b t ⟨7, by decide⟩ ⟨e.val, by omega⟩) * Ideal.ofBits .f32 0x3DD105EC#32)
    (hhi : ∀ e : Fin 16, v202 (ix2 r ⟨128 + (16 * 7 + e.val), by omega⟩) = rot u (ix4 b t ⟨7, by decide⟩ ⟨16 + e.val, by omega⟩) * Ideal.ofBits .f32 0x3DD105EC#32)
    (hk : ∀ x j, wk (ix3 0 x j) = X (ix3 j ⟨7, by decide⟩ x))
    (hs : ∀ y j, sl (ix3 0 y j) = if y.val = chosen 7 j.val then (1 : EReal) else 0) (e : Fin 256) :
    k0_pay61 (F := Ideal) v202 (k0_pay60 v186 wk) sl (ix4 0 0 r e) = cq (lat u X) (rot u) (ix4 b ⟨7, by decide⟩ t e) := by
  refine Eq.trans ?_ (head_at r b t ⟨7, by decide⟩ (fun x => v186 (ix2 r ⟨448 + x.val, by omega⟩)) v202 wk sl u X (fun x => (congrArg (fun q => v186 (ix2 r q)) (Fin.ext (by simp only [] <;> omega))).trans (hP x)) hlo hhi hk hs e)
  pointwise [k0_pay61, k0_pay60]

end Cert.Kernel2Ideal.Proj

end
-- ==== Proof.Proj.WB.lean ====
/-
  The key weights of the latent heads and the scales of the two norms as the projection's launch receives them.
-/
module

public import proofs.«01_k».proof.Proof.Proj.Ref
public import Idealize.ShloMosaic.Lib.StableHlo.RunRead

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem wuk_at (n : Fin 8) (k : Fin 64) (j : Fin 128) : (V m c main_v1 : FVec Ideal S8x64x128 .bf16) (ix3 n k j)
    = (m (c, Proc.tc.devRef main_arg5) : FVec Ideal S128x8x64 .f32) (ix3 j n k) := by
  after_reads_simp
  pointwise

theorem qn_at (j : Fin 256) : (V m c main_v23 : FVec Ideal S1x256 .f32) (ix2 0 j) = (m (c, Proc.tc.devRef main_arg2) : FVec Ideal S256 .f32) (ix1 j) := by
  after_reads_simp
  pointwise

theorem kvn_at (j : Fin 128) : (V m c main_v24 : FVec Ideal S1x128 .f32) (ix2 0 j) = (m (c, Proc.tc.devRef main_arg3) : FVec Ideal S128 .f32) (ix1 j) := by
  after_reads_simp
  pointwise

end Cert.Kernel2Ideal.Proj

end
-- ==== Proof.Proj.WU.lean ====
/-
  The query weights of the latent heads as the projection's launch reorders them, at an index.
-/
module

public import proofs.«01_k».proof.Proof.Proj.Ref
public import Idealize.ShloMosaic.Lib.StableHlo.RunRead

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem wuq_some (k : Fin 256) (j : Fin 768) : ∃ v : EReal, (V m c main_v33 : FVec Ideal S256x768 .bf16) (ix2 k j) = v
    ∧ (∀ s : Fin 768, (j.val < 512 ∧ s.val = j.val / 64 * 96 + j.val % 64 ∨ 512 ≤ j.val ∧ j.val < 640 ∧ s.val = (j.val - 512) / 16 * 96 + (64 + (j.val - 512) % 16)
      ∨ 640 ≤ j.val ∧ s.val = (j.val - 640) / 16 * 96 + (80 + (j.val - 640) % 16)) → v = (m (c, Proc.tc.devRef main_arg4) : FVec Ideal S256x768 .f32) (ix2 k s)) := by
  apply Exists.intro
  apply And.intro
  · after_reads_simp
    pointwise
    after_reads_simp
    pointwise
    exact rfl
  · intro s hs
    split_ifs <;> first | omega | exact congrArg (fun q => (m (c, Proc.tc.devRef main_arg4) : FVec Ideal S256x768 .f32) (ix2 k q)) (Fin.ext (by simp only []; omega))

end Cert.Kernel2Ideal.Proj

end
-- ==== Proof.Proj.WS.lean ====
/-
  What the projection's launch prepares on the host, at an index: the reordered weights, the head selection and the
  rotation tables.
-/
module

public import proofs.«01_k».proof.Proof.Proj.Ref
public import Idealize.ShloMosaic.Lib.StableHlo.RunRead

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The bit that the host sets at row `k` and column `j` of a head's selection, the head's first row being `a`. -/
def selBit (a b : BitVec 32) (k j : ℕ) : BitVec 1 :=
  IntOp.ori (IntOp.andi (IntOp.cmpi .eq (BitVec.ofNat 32 k) (IntOp.addi a (BitVec.ofNat 32 j))) (IntOp.cmpi .slt (BitVec.ofNat 32 j) 16#32))
    (IntOp.andi (IntOp.andi (IntOp.cmpi .eq (BitVec.ofNat 32 k) (IntOp.subi (IntOp.addi b (BitVec.ofNat 32 j)) 16#32)) (IntOp.cmpi .sge (BitVec.ofNat 32 j) 16#32))
      (IntOp.cmpi .slt (BitVec.ofNat 32 j) 32#32))

/-- The row that column `j` of head `n` selects, or 256 for none. -/
def selRow (n j : ℕ) : ℕ := if j < 16 then 16 * n + j else if j < 32 then 128 + (16 * n + (j - 16)) else 256

theorem word_cmp : ∀ j : Fin 128, (BitVec.ofNat 32 j.val).slt 16#32 = decide (j.val < 16)
    ∧ (16#32 : BitVec 32).sle (BitVec.ofNat 32 j.val) = decide (16 ≤ j.val)
    ∧ (BitVec.ofNat 32 j.val).slt 32#32 = decide (j.val < 32) := by
  decide +kernel

theorem word_lo : ∀ n : Fin 8, ∀ j : Fin 128, BitVec.ofNat 32 (16 * n.val) + BitVec.ofNat 32 j.val = BitVec.ofNat 32 (16 * n.val + j.val) := by
  decide +kernel

theorem word_hi : ∀ n : Fin 8, ∀ j : Fin 128, BitVec.ofNat 32 (128 + 16 * n.val) + BitVec.ofNat 32 j.val - 16#32 = BitVec.ofNat 32 (112 + 16 * n.val + j.val) := by
  decide +kernel

theorem word_eq (k r : ℕ) (hk : k < 1024) (hr : r < 1024) : (BitVec.ofNat 32 k == BitVec.ofNat 32 r) = decide (k = r) := by
  rw [beq_eq_decide]
  refine decide_eq_decide.mpr ⟨fun h => ?_, fun h => by rw [h]⟩
  have := congrArg BitVec.toNat h
  simp only [BitVec.toNat_ofNat] at this
  omega

theorem selBit_eq (n : Fin 8) (k : Fin 256) (j : Fin 128) : selBit (BitVec.ofNat 32 (16 * n.val)) (BitVec.ofNat 32 (128 + 16 * n.val)) k.val j.val
    = if k.val = selRow n.val j.val then 1#1 else 0#1 := by
  obtain ⟨h1, h2, h3⟩ := word_cmp j
  simp only [selBit, IntOp.ori, IntOp.andi, IntOp.cmpi, IntOp.addi, IntOp.subi]
  rw [word_lo, word_hi, word_eq _ _ (by omega) (by omega), word_eq _ _ (by omega) (by omega), h1, h2, h3]
  unfold selRow
  by_cases a : j.val < 16
  · rw [if_pos a, decide_eq_true a, decide_eq_false (show ¬ 16 ≤ j.val by omega)]
    by_cases e : k.val = 16 * n.val + j.val
    · rw [if_pos e, decide_eq_true e]; simp
    · rw [if_neg e, decide_eq_false e]; simp
  · rw [if_neg a, decide_eq_false a, decide_eq_true (show 16 ≤ j.val by omega)]
    by_cases d : j.val < 32
    · rw [if_pos d, decide_eq_true d]
      by_cases e : k.val = 112 + 16 * n.val + j.val
      · rw [if_pos (by omega), decide_eq_true e]; simp
      · rw [if_neg (by omega), decide_eq_false e]; simp
    · rw [if_neg d, decide_eq_false d, if_neg (by omega)]; simp

theorem selVal (n : Fin 8) (k : Fin 256) (j : Fin 128) :
    (FloatOps.uitofp (F := Ideal) FTy.bf16 (selBit (BitVec.ofNat 32 (16 * n.val)) (BitVec.ofNat 32 (128 + 16 * n.val)) k.val j.val))
    = if k.val = selRow n.val j.val then (1 : EReal) else 0 := by
  rw [selBit_eq]
  by_cases h : k.val = selRow n.val j.val
  · rw [if_pos h, if_pos h]; simp [FloatOps.uitofp]
  · rw [if_neg h, if_neg h]; simp [FloatOps.uitofp]

theorem sel0 (k : Fin 256) (j : Fin 128) : (V m c main_v247 : FVec Ideal S8x256x128 .bf16) (ix3 0 k j)
    = if k.val = selRow 0 j.val then (1 : EReal) else 0 := by
  refine Eq.trans ?_ (selVal 0 k j)
  after_reads_simp
  pointwise
  after_reads_simp
  pointwise
  exact rfl

theorem sel1 (k : Fin 256) (j : Fin 128) : (V m c main_v247 : FVec Ideal S8x256x128 .bf16) (ix3 1 k j)
    = if k.val = selRow 1 j.val then (1 : EReal) else 0 := by
  refine Eq.trans ?_ (selVal 1 k j)
  after_reads_simp
  pointwise
  after_reads_simp
  pointwise
  exact rfl

theorem sel2 (k : Fin 256) (j : Fin 128) : (V m c main_v247 : FVec Ideal S8x256x128 .bf16) (ix3 2 k j)
    = if k.val = selRow 2 j.val then (1 : EReal) else 0 := by
  refine Eq.trans ?_ (selVal 2 k j)
  after_reads_simp
  pointwise
  after_reads_simp
  pointwise
  exact rfl

theorem sel3 (k : Fin 256) (j : Fin 128) : (V m c main_v247 : FVec Ideal S8x256x128 .bf16) (ix3 3 k j)
    = if k.val = selRow 3 j.val then (1 : EReal) else 0 := by
  refine Eq.trans ?_ (selVal 3 k j)
  after_reads_simp
  pointwise
  after_reads_simp
  pointwise
  exact rfl

theorem sel4 (k : Fin 256) (j : Fin 128) : (V m c main_v247 : FVec Ideal S8x256x128 .bf16) (ix3 4 k j)
    = if k.val = selRow 4 j.val then (1 : EReal) else 0 := by
  refine Eq.trans ?_ (selVal 4 k j)
  after_reads_simp
  pointwise
  after_reads_simp
  pointwise
  exact rfl

theorem sel5 (k : Fin 256) (j : Fin 128) : (V m c main_v247 : FVec Ideal S8x256x128 .bf16) (ix3 5 k j)
    = if k.val = selRow 5 j.val then (1 : EReal) else 0 := by
  refine Eq.trans ?_ (selVal 5 k j)
  after_reads_simp
  pointwise
  after_reads_simp
  pointwise
  exact rfl

theorem sel6 (k : Fin 256) (j : Fin 128) : (V m c main_v247 : FVec Ideal S8x256x128 .bf16) (ix3 6 k j)
    = if k.val = selRow 6 j.val then (1 : EReal) else 0 := by
  refine Eq.trans ?_ (selVal 6 k j)
  after_reads_simp
  pointwise
  after_reads_simp
  pointwise
  exact rfl

theorem sel7 (k : Fin 256) (j : Fin 128) : (V m c main_v247 : FVec Ideal S8x256x128 .bf16) (ix3 7 k j)
    = if k.val = selRow 7 j.val then (1 : EReal) else 0 := by
  refine Eq.trans ?_ (selVal 7 k j)
  after_reads_simp
  pointwise
  after_reads_simp
  pointwise
  exact rfl

end Cert.Kernel2Ideal.Proj

end
-- ==== Proof.Proj.WT.lean ====
/-
  What the projection's launch prepares on the host, at an index: the reordered weights, the head selection and the
  rotation tables.
-/
module

public import proofs.«01_k».proof.Proof.Proj.Ref
public import Idealize.ShloMosaic.Lib.StableHlo.RunRead

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

open Cert.Reference2Ideal.Proj (angle)

theorem cosq_at (t : Fin 2176) (j : Fin 128) : (V m c main_v265 : FVec Ideal S2176x128 .f32) (ix2 t j) = Ideal.cos (angle (ix3 0 t ⟨j.val % 16, by omega⟩)) := by
  after_reads_simp
  pointwise [angle]

theorem sinq_at (t : Fin 2176) (j : Fin 128) : (V m c main_v268 : FVec Ideal S2176x128 .f32) (ix2 t j) = Ideal.sin (angle (ix3 0 t ⟨j.val % 16, by omega⟩)) := by
  after_reads_simp
  pointwise [angle]

theorem ladder_ck (f : Fin 16 → EReal) (j : Fin 128) :
    (if h : j.val < 16 then f ⟨j.val, h⟩ else if h : j.val - 16 < 16 then f ⟨j.val - 16, h⟩ else 0)
      = if h : j.val < 32 then f ⟨j.val % 16, by omega⟩ else 0 := by
  by_cases h : j.val < 16
  · rw [dif_pos h, dif_pos (by omega)]
    exact congrArg f (Fin.ext (by simp only []; omega))
  · rw [dif_neg h]
    by_cases h' : j.val < 32
    · rw [dif_pos (by omega), dif_pos h']
      exact congrArg f (Fin.ext (by simp only []; omega))
    · rw [dif_neg (by omega), dif_neg h']

theorem ladder_sa (f : Fin 16 → EReal) (j : Fin 128) :
    (if h : j.val < 16 then -f ⟨j.val, h⟩ else if h : j.val - 16 < 16 then 0 else 0)
      = if h : j.val < 16 then -f ⟨j.val, h⟩ else 0 := by
  by_cases h : j.val < 16
  · rw [dif_pos h, dif_pos h]
  · rw [dif_neg h, dif_neg h]
    by_cases h' : j.val - 16 < 16
    · rw [dif_pos h']
    · rw [dif_neg h']

theorem ladder_sb (f : Fin 16 → EReal) (j : Fin 128) :
    (if h : j.val < 16 then 0 else if h : j.val - 16 < 16 then f ⟨j.val - 16, h⟩ else 0)
      = if h : 16 ≤ j.val ∧ j.val < 32 then f ⟨j.val - 16, by omega⟩ else 0 := by
  by_cases h : j.val < 16
  · rw [dif_pos h, dif_neg (by omega)]
  · rw [dif_neg h]
    by_cases h' : j.val < 32
    · rw [dif_pos (by omega), dif_pos (by omega)]
    · rw [dif_neg (by omega), dif_neg (by omega)]

theorem ck_at (t : Fin 2176) (j : Fin 128) : (V m c main_v271 : FVec Ideal S2176x128 .f32) (ix2 t j)
    = if h : j.val < 32 then Ideal.cos (angle (ix3 0 t ⟨j.val % 16, by omega⟩)) else 0 := by
  refine Eq.trans ?_ (ladder_ck (fun q => Ideal.cos (angle (ix3 0 t q))) j)
  after_reads_simp
  pointwise
  after_reads_simp
  pointwise [angle]

theorem sa_at (t : Fin 2176) (j : Fin 128) : (V m c main_v273 : FVec Ideal S2176x128 .f32) (ix2 t j)
    = if h : j.val < 16 then -Ideal.sin (angle (ix3 0 t ⟨j.val, h⟩)) else 0 := by
  refine Eq.trans ?_ (ladder_sa (fun q => Ideal.sin (angle (ix3 0 t q))) j)
  after_reads_simp
  pointwise
  after_reads_simp
  pointwise [angle]

theorem sb_at (t : Fin 2176) (j : Fin 128) : (V m c main_v274 : FVec Ideal S2176x128 .f32) (ix2 t j)
    = if h : 16 ≤ j.val ∧ j.val < 32 then Ideal.sin (angle (ix3 0 t ⟨j.val - 16, by omega⟩)) else 0 := by
  refine Eq.trans ?_ (ladder_sb (fun q => Ideal.sin (angle (ix3 0 t q))) j)
  after_reads_simp
  pointwise
  after_reads_simp
  pointwise [angle]

end Cert.Kernel2Ideal.Proj

end
-- ==== Proof.Proj.WW.lean ====
/-
  What the projection's launch prepares on the host, at an index: the reordered weights, the head selection and the
  rotation tables.
-/
module

public import proofs.«01_k».proof.Proof.Proj.Ref
public import Idealize.ShloMosaic.Lib.StableHlo.RunRead

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem wl_some (k : Fin 1024) (i : Fin 1024) : ∃ v : EReal, (V m c main_v22 : FVec Ideal S1024x3072 .bf16) (ix2 k ⟨i.val, by omega⟩) = v
    ∧ (∀ s : Fin 2920, i.val < 968 → s.val = i.val → v = (m (c, Proc.tc.devRef main_arg1) : FVec Ideal S1024x2920 .f32) (ix2 k s)) ∧ (968 ≤ i.val → v = 0) := by
  apply Exists.intro
  apply And.intro
  · after_reads_simp
    pointwise
    after_reads_simp
    pointwise
    after_reads_simp
    pointwise
    exact rfl
  · refine ⟨fun s hi hs => ?_, fun hz => ?_⟩
    · split_ifs <;> first | omega | exact congrArg (fun q => (m (c, Proc.tc.devRef main_arg1) : FVec Ideal S1024x2920 .f32) (ix2 k q)) (Fin.ext (by simp only []; omega))
    · split_ifs <;> first | omega | rfl

theorem wr0 (k : Fin 1024) (i : Fin 256) : (V m c main_v22 : FVec Ideal S1024x3072 .bf16) (ix2 k ⟨1024 + i.val, by omega⟩)
    = (m (c, Proc.tc.devRef main_arg1) : FVec Ideal S1024x2920 .f32) (ix2 k ⟨968 + i.val, by omega⟩) := by
  after_reads_simp
  pointwise
  repeat rw [dif_neg (by omega)]
  after_reads_simp
  pointwise
  repeat rw [dif_neg (by omega)]
  try rw [dif_pos (by omega)]
  after_reads_simp
  pointwise
  try exact congrArg (fun q => (m (c, Proc.tc.devRef main_arg1) : FVec Ideal S1024x2920 .f32) (ix2 k q)) (Fin.ext (by simp only []; omega))

theorem wr256 (k : Fin 1024) (i : Fin 256) : (V m c main_v22 : FVec Ideal S1024x3072 .bf16) (ix2 k ⟨1280 + i.val, by omega⟩)
    = (m (c, Proc.tc.devRef main_arg1) : FVec Ideal S1024x2920 .f32) (ix2 k ⟨1736 + i.val, by omega⟩) := by
  after_reads_simp
  pointwise
  repeat rw [dif_neg (by omega)]
  after_reads_simp
  pointwise
  repeat rw [dif_neg (by omega)]
  try rw [dif_pos (by omega)]
  after_reads_simp
  pointwise
  try exact congrArg (fun q => (m (c, Proc.tc.devRef main_arg1) : FVec Ideal S1024x2920 .f32) (ix2 k q)) (Fin.ext (by simp only []; omega))

theorem wr512 (k : Fin 1024) (i : Fin 512) : (V m c main_v22 : FVec Ideal S1024x3072 .bf16) (ix2 k ⟨1536 + i.val, by omega⟩)
    = (m (c, Proc.tc.devRef main_arg1) : FVec Ideal S1024x2920 .f32) (ix2 k ⟨2408 + i.val, by omega⟩) := by
  after_reads_simp
  pointwise
  repeat rw [dif_neg (by omega)]
  after_reads_simp
  pointwise
  repeat rw [dif_neg (by omega)]
  try rw [dif_pos (by omega)]
  after_reads_simp
  pointwise
  try exact congrArg (fun q => (m (c, Proc.tc.devRef main_arg1) : FVec Ideal S1024x2920 .f32) (ix2 k q)) (Fin.ext (by simp only []; omega))

theorem wr1024 (k : Fin 1024) (i : Fin 256) : (V m c main_v22 : FVec Ideal S1024x3072 .bf16) (ix2 k ⟨2048 + i.val, by omega⟩)
    = (m (c, Proc.tc.devRef main_arg1) : FVec Ideal S1024x2920 .f32) (ix2 k ⟨1224 + i.val, by omega⟩) := by
  after_reads_simp
  pointwise
  repeat rw [dif_neg (by omega)]
  after_reads_simp
  pointwise
  repeat rw [dif_neg (by omega)]
  try rw [dif_pos (by omega)]
  after_reads_simp
  pointwise
  try exact congrArg (fun q => (m (c, Proc.tc.devRef main_arg1) : FVec Ideal S1024x2920 .f32) (ix2 k q)) (Fin.ext (by simp only []; omega))

theorem wr1280 (k : Fin 1024) (i : Fin 128) : (V m c main_v22 : FVec Ideal S1024x3072 .bf16) (ix2 k ⟨2304 + i.val, by omega⟩)
    = (m (c, Proc.tc.devRef main_arg1) : FVec Ideal S1024x2920 .f32) (ix2 k ⟨1480 + i.val, by omega⟩) := by
  after_reads_simp
  pointwise
  repeat rw [dif_neg (by omega)]
  after_reads_simp
  pointwise
  repeat rw [dif_neg (by omega)]
  try rw [dif_pos (by omega)]
  after_reads_simp
  pointwise
  try exact congrArg (fun q => (m (c, Proc.tc.devRef main_arg1) : FVec Ideal S1024x2920 .f32) (ix2 k q)) (Fin.ext (by simp only []; omega))

theorem wr1408 (k : Fin 1024) (i : Fin 128) : (V m c main_v22 : FVec Ideal S1024x3072 .bf16) (ix2 k ⟨2432 + i.val, by omega⟩)
    = (m (c, Proc.tc.devRef main_arg1) : FVec Ideal S1024x2920 .f32) (ix2 k ⟨1608 + i.val, by omega⟩) := by
  after_reads_simp
  pointwise
  repeat rw [dif_neg (by omega)]
  after_reads_simp
  pointwise
  repeat rw [dif_neg (by omega)]
  try rw [dif_pos (by omega)]
  after_reads_simp
  pointwise
  try exact congrArg (fun q => (m (c, Proc.tc.devRef main_arg1) : FVec Ideal S1024x2920 .f32) (ix2 k q)) (Fin.ext (by simp only []; omega))

theorem wr1536 (k : Fin 1024) (i : Fin 256) : (V m c main_v22 : FVec Ideal S1024x3072 .bf16) (ix2 k ⟨2560 + i.val, by omega⟩)
    = (m (c, Proc.tc.devRef main_arg1) : FVec Ideal S1024x2920 .f32) (ix2 k ⟨1992 + i.val, by omega⟩) := by
  after_reads_simp
  pointwise
  repeat rw [dif_neg (by omega)]
  after_reads_simp
  pointwise
  repeat rw [dif_neg (by omega)]
  try rw [dif_pos (by omega)]
  after_reads_simp
  pointwise
  try exact congrArg (fun q => (m (c, Proc.tc.devRef main_arg1) : FVec Ideal S1024x2920 .f32) (ix2 k q)) (Fin.ext (by simp only []; omega))

theorem wr1792 (k : Fin 1024) (i : Fin 128) : (V m c main_v22 : FVec Ideal S1024x3072 .bf16) (ix2 k ⟨2816 + i.val, by omega⟩)
    = (m (c, Proc.tc.devRef main_arg1) : FVec Ideal S1024x2920 .f32) (ix2 k ⟨2248 + i.val, by omega⟩) := by
  after_reads_simp
  pointwise
  repeat rw [dif_neg (by omega)]
  after_reads_simp
  pointwise
  repeat rw [dif_neg (by omega)]
  try rw [dif_pos (by omega)]
  after_reads_simp
  pointwise
  try exact congrArg (fun q => (m (c, Proc.tc.devRef main_arg1) : FVec Ideal S1024x2920 .f32) (ix2 k q)) (Fin.ext (by simp only []; omega))

theorem wr1920 (k : Fin 1024) (i : Fin 32) : (V m c main_v22 : FVec Ideal S1024x3072 .bf16) (ix2 k ⟨2944 + i.val, by omega⟩)
    = (m (c, Proc.tc.devRef main_arg1) : FVec Ideal S1024x2920 .f32) (ix2 k ⟨2376 + i.val, by omega⟩) := by
  after_reads_simp
  pointwise
  repeat rw [dif_neg (by omega)]
  after_reads_simp
  pointwise
  repeat rw [dif_neg (by omega)]
  try rw [dif_pos (by omega)]
  after_reads_simp
  pointwise
  try exact congrArg (fun q => (m (c, Proc.tc.devRef main_arg1) : FVec Ideal S1024x2920 .f32) (ix2 k q)) (Fin.ext (by simp only []; omega))

theorem wr1952 (k : Fin 1024) (i : Fin 96) : (V m c main_v22 : FVec Ideal S1024x3072 .bf16) (ix2 k ⟨2976 + i.val, by omega⟩)
    = (0 : EReal) := by
  after_reads_simp
  pointwise
  repeat rw [dif_neg (by omega)]
  after_reads_simp
  pointwise
  repeat rw [dif_neg (by omega)]
  try rw [dif_pos (by omega)]
  after_reads_simp
  pointwise

end Cert.Kernel2Ideal.Proj

end
-- ==== Proof.Proj.Blk.lean ====
/-
  The blocks of a grid point of the projection, and the sums over a segment of the reordered weights.
-/
module

public import proofs.«01_k».proof.Proof.Proj.WB
public import proofs.«01_k».proof.Proof.Proj.WU
public import proofs.«01_k».proof.Proof.Proj.WS
public import proofs.«01_k».proof.Proof.Proj.WT
public import proofs.«01_k».proof.Proof.Proj.WW
public import Idealize.ShloMosaic.Lib.Pipeline.ValueKit

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Idealize.ShloMosaic.Pipeline (Dat)
open Cert.Reference2Ideal.Proj (hid hid_at angle)

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![(grid0.coords t 1).val, 0] := (by decide +kernel : ∀ t : Fin grid0.N, _)
theorem idx8 : ∀ t : Fin cfg0.N, win0_8.index t = ![(grid0.coords t 1).val, 0] := (by decide +kernel : ∀ t : Fin grid0.N, _)
theorem idx9 : ∀ t : Fin cfg0.N, win0_9.index t = ![(grid0.coords t 1).val, 0] := (by decide +kernel : ∀ t : Fin grid0.N, _)
theorem idx10 : ∀ t : Fin cfg0.N, win0_10.index t = ![(grid0.coords t 1).val, 0] := (by decide +kernel : ∀ t : Fin grid0.N, _)
theorem idx11 : ∀ t : Fin cfg0.N, win0_11.index t = ![(grid0.coords t 1).val, 0] := (by decide +kernel : ∀ t : Fin grid0.N, _)
theorem idx12 : ∀ t : Fin cfg0.N, win0_12.index t = ![(grid0.coords t 0).val, 0, (grid0.coords t 1).val, 0] := (by decide +kernel : ∀ t : Fin grid0.N, _)
theorem idx13 : ∀ t : Fin cfg0.N, win0_13.index t = ![(grid0.coords t 0).val, (grid0.coords t 1).val, 0] := (by decide +kernel : ∀ t : Fin grid0.N, _)
theorem idx14 : ∀ t : Fin cfg0.N, win0_14.index t = ![(grid0.coords t 0).val, (grid0.coords t 1).val, 0] := (by decide +kernel : ∀ t : Fin grid0.N, _)
theorem idx15 : ∀ t : Fin cfg0.N, win0_15.index t = ![(grid0.coords t 0).val, 0, (grid0.coords t 1).val, 0] := (by decide +kernel : ∀ t : Fin grid0.N, _)
theorem idx16 : ∀ t : Fin cfg0.N, win0_16.index t = ![(grid0.coords t 0).val, (grid0.coords t 1).val, 0] := (by decide +kernel : ∀ t : Fin grid0.N, _)
theorem idx17 : ∀ t : Fin cfg0.N, win0_17.index t = ![(grid0.coords t 0).val, (grid0.coords t 1).val, 0] := (by decide +kernel : ∀ t : Fin grid0.N, _)
theorem idx18 : ∀ t : Fin cfg0.N, win0_18.index t = ![(grid0.coords t 0).val, (grid0.coords t 1).val, 0] := (by decide +kernel : ∀ t : Fin grid0.N, _)
theorem idx19 : ∀ t : Fin cfg0.N, win0_19.index t = ![(grid0.coords t 0).val, (grid0.coords t 1).val, 0] := (by decide +kernel : ∀ t : Fin grid0.N, _)
theorem idx20 : ∀ t : Fin cfg0.N, win0_20.index t = ![(grid0.coords t 0).val, 0, (grid0.coords t 1).val, 0] := (by decide +kernel : ∀ t : Fin grid0.N, _)
theorem idx21 : ∀ t : Fin cfg0.N, win0_21.index t = ![(grid0.coords t 0).val, (grid0.coords t 1).val, 0] := (by decide +kernel : ∀ t : Fin grid0.N, _)
theorem idx22 : ∀ t : Fin cfg0.N, win0_22.index t = ![(grid0.coords t 0).val, 0, (grid0.coords t 1).val, 0] := (by decide +kernel : ∀ t : Fin grid0.N, _)
theorem idx23 : ∀ t : Fin cfg0.N, win0_23.index t = ![(grid0.coords t 0).val, 0, (grid0.coords t 1).val, 0] := (by decide +kernel : ∀ t : Fin grid0.N, _)
theorem idx24 : ∀ t : Fin cfg0.N, win0_24.index t = ![(grid0.coords t 0).val, (grid0.coords t 1).val, 0] := (by decide +kernel : ∀ t : Fin grid0.N, _)
theorem idx25 : ∀ t : Fin cfg0.N, win0_25.index t = ![(grid0.coords t 0).val, (grid0.coords t 1).val, 0] := (by decide +kernel : ∀ t : Fin grid0.N, _)

variable (m : (ℓ : Loc nD τ sig) → Buf (Elt Ideal) ℓ) (c : Dev nD) (t : Fin cfg0.N)

theorem tile_lt : (grid0.coords t 1).val < 4 := (grid0.coords t 1).isLt

/-- The batch entry of a grid point. -/
abbrev entry : Fin 16 := ⟨(grid0.coords t 0).val, (grid0.coords t 0).isLt⟩

/-- The token of a row at a grid point. -/
abbrev token (r : Fin 544) : Fin 2176 := ⟨(grid0.coords t 1).val * 544 + r.val, by have := tile_lt t; omega⟩

/-- The hidden row, from the launch's arguments. -/
abbrev hidden : FVec Ideal Cert.Reference2Ideal.S16x2176x2920 .f32 :=
  hid (m ((c : Thread nD τ).loc main_arg0)) (m ((c : Thread nD τ).loc main_arg1))

/-- The input rows of a grid point. -/
abbrev xb : FVec Ideal S1x544x1024 .f32 := iblk m c 0 t

theorem x_at (r : Fin 544) (k : Fin 1024) : (iblk m c 0 t : FVec Ideal S1x544x1024 .f32) (ix3 0 r k)
    = (m ((c : Thread nD τ).loc main_arg0) : FVec Ideal S16x2176x1024 .f32) (ix3 (entry t) (token t r) k) := by
  have e : (iblk m c 0 t : FVec Ideal S1x544x1024 .f32) (ix3 0 r k) = (V m c main_arg0 : FVec Ideal S16x2176x1024 .f32) (ix3 (entry t) (token t r) k) := by
    blk_ext [iblk, idx0 t]
  refine e.trans ?_
  clear e
  after_reads_simp

theorem w_blk (k : Fin 1024) (j : Fin 3072) : (iblk m c 1 t : FVec Ideal S1024x3072 .bf16) (ix2 k j) = (V m c main_v22 : FVec Ideal S1024x3072 .bf16) (ix2 k j) := by
  blk_ext [iblk, idx1 t]

theorem qn_blk (j : Fin 256) : (iblk m c 2 t : FVec Ideal S1x256 .f32) (ix2 0 j) = (m ((c : Thread nD τ).loc main_arg2) : FVec Ideal S256 .f32) (ix1 j) := by
  refine Eq.trans ?_ (qn_at m c j)
  blk_ext [iblk, idx2 t]

theorem kvn_blk (j : Fin 128) : (iblk m c 3 t : FVec Ideal S1x128 .f32) (ix2 0 j) = (m ((c : Thread nD τ).loc main_arg3) : FVec Ideal S128 .f32) (ix1 j) := by
  refine Eq.trans ?_ (kvn_at m c j)
  blk_ext [iblk, idx3 t]

theorem wuq_blk (k : Fin 256) (j : Fin 768) (s : Fin 768) (hs : j.val < 512 ∧ s.val = j.val / 64 * 96 + j.val % 64 ∨ 512 ≤ j.val ∧ j.val < 640 ∧ s.val = (j.val - 512) / 16 * 96 + (64 + (j.val - 512) % 16)
      ∨ 640 ≤ j.val ∧ s.val = (j.val - 640) / 16 * 96 + (80 + (j.val - 640) % 16)) :
    (iblk m c 4 t : FVec Ideal S256x768 .bf16) (ix2 k j) = (m ((c : Thread nD τ).loc main_arg4) : FVec Ideal S256x768 .f32) (ix2 k s) := by
  obtain ⟨v, e, f⟩ := wuq_some m c k j
  refine Eq.trans ?_ (e.trans (f s hs))
  clear hs e f
  blk_ext [iblk, idx4 t]

theorem wuk_blk (n : Fin 8) (k : Fin 64) (j : Fin 128) : (iblk m c 5 t : FVec Ideal S8x64x128 .bf16) (ix3 n k j)
    = (m ((c : Thread nD τ).loc main_arg5) : FVec Ideal S128x8x64 .f32) (ix3 j n k) := by
  refine Eq.trans ?_ (wuk_at m c n k j)
  blk_ext [iblk, idx5 t]

theorem sel_blk (n : Fin 8) (k : Fin 256) (j : Fin 128) : (iblk m c 6 t : FVec Ideal S8x256x128 .bf16) (ix3 n k j)
    = (V m c main_v247 : FVec Ideal S8x256x128 .bf16) (ix3 n k j) := by
  blk_ext [iblk, idx6 t]

theorem cosq_blk (r : Fin 544) (j : Fin 128) : (iblk m c 7 t : FVec Ideal S544x128 .f32) (ix2 r j) = Ideal.cos (angle (ix3 0 (token t r) ⟨j.val % 16, by omega⟩)) := by
  refine Eq.trans ?_ (cosq_at m c (token t r) j)
  blk_ext [iblk, idx7 t]

theorem sinq_blk (r : Fin 544) (j : Fin 128) : (iblk m c 8 t : FVec Ideal S544x128 .f32) (ix2 r j) = Ideal.sin (angle (ix3 0 (token t r) ⟨j.val % 16, by omega⟩)) := by
  refine Eq.trans ?_ (sinq_at m c (token t r) j)
  blk_ext [iblk, idx8 t]

theorem ck_blk (r : Fin 544) (j : Fin 128) : (iblk m c 9 t : FVec Ideal S544x128 .f32) (ix2 r j)
    = if h : j.val < 32 then Ideal.cos (angle (ix3 0 (token t r) ⟨j.val % 16, by omega⟩)) else 0 := by
  refine Eq.trans ?_ (ck_at m c (token t r) j)
  blk_ext [iblk, idx9 t]

theorem sa_blk (r : Fin 544) (j : Fin 128) : (iblk m c 10 t : FVec Ideal S544x128 .f32) (ix2 r j)
    = if h : j.val < 16 then -Ideal.sin (angle (ix3 0 (token t r) ⟨j.val, h⟩)) else 0 := by
  refine Eq.trans ?_ (sa_at m c (token t r) j)
  blk_ext [iblk, idx10 t]

theorem sb_blk (r : Fin 544) (j : Fin 128) : (iblk m c 11 t : FVec Ideal S544x128 .f32) (ix2 r j)
    = if h : 16 ≤ j.val ∧ j.val < 32 then Ideal.sin (angle (ix3 0 (token t r) ⟨j.val - 16, by omega⟩)) else 0 := by
  refine Eq.trans ?_ (sb_at m c (token t r) j)
  blk_ext [iblk, idx11 t]

/-- A column of the reordered weights against the input rows: an entry of the hidden row. -/
theorem col_sum (r : Fin 544) (f : Fin 1024 → EReal) (s : Fin 2920)
    (hf : ∀ k, f k = (m ((c : Thread nD τ).loc main_arg1) : FVec Ideal S1024x2920 .f32) (ix2 k s)) :
    ∑ k : Fin 1024, (xb m c t (ix3 0 r k) : EReal) * f k = hidden m c (ix3 (entry t) (token t r) s) := by
  refine Eq.trans ?_ (hid_at (entry t) (token t r) _ _ s).symm
  exact Finset.sum_congr rfl fun k _ => congrArg₂ (fun a b : EReal => a * b) (x_at m c t r k) (hf k)

theorem col_zero (r : Fin 544) (f : Fin 1024 → EReal) (hf : ∀ k, f k = 0) :
    ∑ k : Fin 1024, (xb m c t (ix3 0 r k) : EReal) * f k = 0 := by
  refine Finset.sum_eq_zero fun k _ => ?_
  rw [hf, mul_zero]

theorem wl_at (k : Fin 1024) (j : Fin 3072) (s : Fin 2920) (hj : j.val < 968) (hs : s.val = j.val) :
    (V m c main_v22 : FVec Ideal S1024x3072 .bf16) (ix2 k j) = (m ((c : Thread nD τ).loc main_arg1) : FVec Ideal S1024x2920 .f32) (ix2 k s) := by
  obtain ⟨v, e, f, _⟩ := wl_some m c k ⟨j.val, by omega⟩
  exact e.trans (f s hj hs)

theorem wl_zero (k : Fin 1024) (j : Fin 3072) (hj : 968 ≤ j.val ∧ j.val < 1024) :
    (V m c main_v22 : FVec Ideal S1024x3072 .bf16) (ix2 k j) = (0 : EReal) := by
  obtain ⟨v, e, _, f⟩ := wl_some m c k ⟨j.val, hj.2⟩
  exact e.trans (f hj.1)

theorem wc0 (k : Fin 1024) (j : Fin 3072) (s : Fin 2920) (hj : 1024 ≤ j.val ∧ j.val < 1280) (hs : s.val + 1024 = j.val + 968) :
    (V m c main_v22 : FVec Ideal S1024x3072 .bf16) (ix2 k j) = (m ((c : Thread nD τ).loc main_arg1) : FVec Ideal S1024x2920 .f32) (ix2 k s) := by
  rw [show j = ⟨1024 + (⟨j.val - 1024, by omega⟩ : Fin 256).val, by have := j.isLt; simp only []; omega⟩ from Fin.ext (by simp only []; omega)]
  refine (wr0 m c k ⟨j.val - 1024, by omega⟩).trans ?_
  exact congrArg (fun q => (m ((c : Thread nD τ).loc main_arg1) : FVec Ideal S1024x2920 .f32) (ix2 k q)) (Fin.ext (by simp only []; omega))

theorem wc256 (k : Fin 1024) (j : Fin 3072) (s : Fin 2920) (hj : 1280 ≤ j.val ∧ j.val < 1536) (hs : s.val + 1280 = j.val + 1736) :
    (V m c main_v22 : FVec Ideal S1024x3072 .bf16) (ix2 k j) = (m ((c : Thread nD τ).loc main_arg1) : FVec Ideal S1024x2920 .f32) (ix2 k s) := by
  rw [show j = ⟨1280 + (⟨j.val - 1280, by omega⟩ : Fin 256).val, by have := j.isLt; simp only []; omega⟩ from Fin.ext (by simp only []; omega)]
  refine (wr256 m c k ⟨j.val - 1280, by omega⟩).trans ?_
  exact congrArg (fun q => (m ((c : Thread nD τ).loc main_arg1) : FVec Ideal S1024x2920 .f32) (ix2 k q)) (Fin.ext (by simp only []; omega))

theorem wc512 (k : Fin 1024) (j : Fin 3072) (s : Fin 2920) (hj : 1536 ≤ j.val ∧ j.val < 2048) (hs : s.val + 1536 = j.val + 2408) :
    (V m c main_v22 : FVec Ideal S1024x3072 .bf16) (ix2 k j) = (m ((c : Thread nD τ).loc main_arg1) : FVec Ideal S1024x2920 .f32) (ix2 k s) := by
  rw [show j = ⟨1536 + (⟨j.val - 1536, by omega⟩ : Fin 512).val, by have := j.isLt; simp only []; omega⟩ from Fin.ext (by simp only []; omega)]
  refine (wr512 m c k ⟨j.val - 1536, by omega⟩).trans ?_
  exact congrArg (fun q => (m ((c : Thread nD τ).loc main_arg1) : FVec Ideal S1024x2920 .f32) (ix2 k q)) (Fin.ext (by simp only []; omega))

theorem wc1024 (k : Fin 1024) (j : Fin 3072) (s : Fin 2920) (hj : 2048 ≤ j.val ∧ j.val < 2304) (hs : s.val + 2048 = j.val + 1224) :
    (V m c main_v22 : FVec Ideal S1024x3072 .bf16) (ix2 k j) = (m ((c : Thread nD τ).loc main_arg1) : FVec Ideal S1024x2920 .f32) (ix2 k s) := by
  rw [show j = ⟨2048 + (⟨j.val - 2048, by omega⟩ : Fin 256).val, by have := j.isLt; simp only []; omega⟩ from Fin.ext (by simp only []; omega)]
  refine (wr1024 m c k ⟨j.val - 2048, by omega⟩).trans ?_
  exact congrArg (fun q => (m ((c : Thread nD τ).loc main_arg1) : FVec Ideal S1024x2920 .f32) (ix2 k q)) (Fin.ext (by simp only []; omega))

theorem wc1280 (k : Fin 1024) (j : Fin 3072) (s : Fin 2920) (hj : 2304 ≤ j.val ∧ j.val < 2432) (hs : s.val + 2304 = j.val + 1480) :
    (V m c main_v22 : FVec Ideal S1024x3072 .bf16) (ix2 k j) = (m ((c : Thread nD τ).loc main_arg1) : FVec Ideal S1024x2920 .f32) (ix2 k s) := by
  rw [show j = ⟨2304 + (⟨j.val - 2304, by omega⟩ : Fin 128).val, by have := j.isLt; simp only []; omega⟩ from Fin.ext (by simp only []; omega)]
  refine (wr1280 m c k ⟨j.val - 2304, by omega⟩).trans ?_
  exact congrArg (fun q => (m ((c : Thread nD τ).loc main_arg1) : FVec Ideal S1024x2920 .f32) (ix2 k q)) (Fin.ext (by simp only []; omega))

theorem wc1408 (k : Fin 1024) (j : Fin 3072) (s : Fin 2920) (hj : 2432 ≤ j.val ∧ j.val < 2560) (hs : s.val + 2432 = j.val + 1608) :
    (V m c main_v22 : FVec Ideal S1024x3072 .bf16) (ix2 k j) = (m ((c : Thread nD τ).loc main_arg1) : FVec Ideal S1024x2920 .f32) (ix2 k s) := by
  rw [show j = ⟨2432 + (⟨j.val - 2432, by omega⟩ : Fin 128).val, by have := j.isLt; simp only []; omega⟩ from Fin.ext (by simp only []; omega)]
  refine (wr1408 m c k ⟨j.val - 2432, by omega⟩).trans ?_
  exact congrArg (fun q => (m ((c : Thread nD τ).loc main_arg1) : FVec Ideal S1024x2920 .f32) (ix2 k q)) (Fin.ext (by simp only []; omega))

theorem wc1536 (k : Fin 1024) (j : Fin 3072) (s : Fin 2920) (hj : 2560 ≤ j.val ∧ j.val < 2816) (hs : s.val + 2560 = j.val + 1992) :
    (V m c main_v22 : FVec Ideal S1024x3072 .bf16) (ix2 k j) = (m ((c : Thread nD τ).loc main_arg1) : FVec Ideal S1024x2920 .f32) (ix2 k s) := by
  rw [show j = ⟨2560 + (⟨j.val - 2560, by omega⟩ : Fin 256).val, by have := j.isLt; simp only []; omega⟩ from Fin.ext (by simp only []; omega)]
  refine (wr1536 m c k ⟨j.val - 2560, by omega⟩).trans ?_
  exact congrArg (fun q => (m ((c : Thread nD τ).loc main_arg1) : FVec Ideal S1024x2920 .f32) (ix2 k q)) (Fin.ext (by simp only []; omega))

theorem wc1792 (k : Fin 1024) (j : Fin 3072) (s : Fin 2920) (hj : 2816 ≤ j.val ∧ j.val < 2944) (hs : s.val + 2816 = j.val + 2248) :
    (V m c main_v22 : FVec Ideal S1024x3072 .bf16) (ix2 k j) = (m ((c : Thread nD τ).loc main_arg1) : FVec Ideal S1024x2920 .f32) (ix2 k s) := by
  rw [show j = ⟨2816 + (⟨j.val - 2816, by omega⟩ : Fin 128).val, by have := j.isLt; simp only []; omega⟩ from Fin.ext (by simp only []; omega)]
  refine (wr1792 m c k ⟨j.val - 2816, by omega⟩).trans ?_
  exact congrArg (fun q => (m ((c : Thread nD τ).loc main_arg1) : FVec Ideal S1024x2920 .f32) (ix2 k q)) (Fin.ext (by simp only []; omega))

theorem wc1920 (k : Fin 1024) (j : Fin 3072) (s : Fin 2920) (hj : 2944 ≤ j.val ∧ j.val < 2976) (hs : s.val + 2944 = j.val + 2376) :
    (V m c main_v22 : FVec Ideal S1024x3072 .bf16) (ix2 k j) = (m ((c : Thread nD τ).loc main_arg1) : FVec Ideal S1024x2920 .f32) (ix2 k s) := by
  rw [show j = ⟨2944 + (⟨j.val - 2944, by omega⟩ : Fin 32).val, by have := j.isLt; simp only []; omega⟩ from Fin.ext (by simp only []; omega)]
  refine (wr1920 m c k ⟨j.val - 2944, by omega⟩).trans ?_
  exact congrArg (fun q => (m ((c : Thread nD τ).loc main_arg1) : FVec Ideal S1024x2920 .f32) (ix2 k q)) (Fin.ext (by simp only []; omega))

theorem wz1952 (k : Fin 1024) (j : Fin 3072) (hj : 2976 ≤ j.val) : (V m c main_v22 : FVec Ideal S1024x3072 .bf16) (ix2 k j) = (0 : EReal) := by
  rw [show j = ⟨2976 + (⟨j.val - 2976, by omega⟩ : Fin 96).val, by have := j.isLt; simp only []; omega⟩ from Fin.ext (by simp only []; omega)]
  exact wr1952 m c k ⟨j.val - 2976, by omega⟩

theorem seg_aq (r : Fin 544) (w : Vec Ideal S1024x256 .bf16)
    (hw : ∀ k j, w (ix2 k j) = (iblk m c 1 t : FVec Ideal S1024x3072 .bf16) (ix2 k ⟨0 + j.val, by omega⟩)) (j : Fin 256) :
    ∑ k : Fin 1024, xb m c t (ix3 0 r k) * w (ix2 k j) = hidden m c (ix3 (entry t) (token t r) ⟨0 + j.val, by omega⟩) := by
  exact col_sum m c t r (fun k => w (ix2 k j)) ⟨0 + j.val, by omega⟩ fun k => (hw k j).trans ((w_blk m c t k _).trans (wl_at m c k _ _ (by simp only []; omega) (by simp only [])))

theorem seg_akv (r : Fin 544) (w : Vec Ideal S1024x128 .bf16)
    (hw : ∀ k j, w (ix2 k j) = (iblk m c 1 t : FVec Ideal S1024x3072 .bf16) (ix2 k ⟨256 + j.val, by omega⟩)) (j : Fin 128) :
    ∑ k : Fin 1024, xb m c t (ix3 0 r k) * w (ix2 k j) = hidden m c (ix3 (entry t) (token t r) ⟨256 + j.val, by omega⟩) := by
  exact col_sum m c t r (fun k => w (ix2 k j)) ⟨256 + j.val, by omega⟩ fun k => (hw k j).trans ((w_blk m c t k _).trans (wl_at m c k _ _ (by simp only []; omega) (by simp only [])))

theorem seg_aiq (r : Fin 544) (w : Vec Ideal S1024x512 .bf16)
    (hw : ∀ k j, w (ix2 k j) = (iblk m c 1 t : FVec Ideal S1024x3072 .bf16) (ix2 k ⟨384 + j.val, by omega⟩)) (j : Fin 512) :
    ∑ k : Fin 1024, xb m c t (ix3 0 r k) * w (ix2 k j) = hidden m c (ix3 (entry t) (token t r) ⟨384 + j.val, by omega⟩) := by
  exact col_sum m c t r (fun k => w (ix2 k j)) ⟨384 + j.val, by omega⟩ fun k => (hw k j).trans ((w_blk m c t k _).trans (wl_at m c k _ _ (by simp only []; omega) (by simp only [])))

theorem seg_aik (r : Fin 544) (w : Vec Ideal S1024x128 .bf16)
    (hw : ∀ k j, w (ix2 k j) = (iblk m c 1 t : FVec Ideal S1024x3072 .bf16) (ix2 k ⟨896 + j.val, by omega⟩)) (j : Fin 128) :
    ∑ k : Fin 1024, xb m c t (ix3 0 r k) * w (ix2 k j) = if hj : j.val < 72 then hidden m c (ix3 (entry t) (token t r) ⟨896 + j.val, by omega⟩) else 0 := by
  by_cases h : j.val < 72
  · rw [dif_pos h]
    exact col_sum m c t r (fun k => w (ix2 k j)) ⟨896 + j.val, by omega⟩ fun k => (hw k j).trans ((w_blk m c t k _).trans (wl_at m c k _ _ (by simp only []; omega) (by simp only [])))
  · rw [dif_neg h]
    exact col_zero m c t r (fun k => w (ix2 k j)) fun k => (hw k j).trans ((w_blk m c t k _).trans (wl_zero m c k _ (by simp only []; omega)))

theorem seg_gates (r : Fin 544) (w : Vec Ideal S1024x1024 .bf16)
    (hw : ∀ k j, w (ix2 k j) = (iblk m c 1 t : FVec Ideal S1024x3072 .bf16) (ix2 k ⟨1024 + j.val, by omega⟩)) (j : Fin 1024) :
    ∑ k : Fin 1024, xb m c t (ix3 0 r k) * w (ix2 k j) = if ha : j.val < 256 then hidden m c (ix3 (entry t) (token t r) ⟨968 + j.val, by omega⟩) else if hb : j.val < 512 then hidden m c (ix3 (entry t) (token t r) ⟨1480 + j.val, by omega⟩) else hidden m c (ix3 (entry t) (token t r) ⟨1896 + j.val, by omega⟩) := by
  by_cases h : j.val < 256
  · rw [dif_pos h]
    exact col_sum m c t r (fun k => w (ix2 k j)) ⟨968 + j.val, by omega⟩ fun k => (hw k j).trans ((w_blk m c t k _).trans (wc0 m c k _ _ (by simp only []; omega) (by simp only []; omega)))
  · rw [dif_neg h]
    by_cases h' : j.val < 512
    · rw [dif_pos h']
      exact col_sum m c t r (fun k => w (ix2 k j)) ⟨1480 + j.val, by omega⟩ fun k => (hw k j).trans ((w_blk m c t k _).trans (wc256 m c k _ _ (by simp only []; omega) (by simp only []; omega)))
    · rw [dif_neg h']
      exact col_sum m c t r (fun k => w (ix2 k j)) ⟨1896 + j.val, by omega⟩ fun k => (hw k j).trans ((w_blk m c t k _).trans (wc512 m c k _ _ (by simp only []; omega) (by simp only []; omega)))

theorem seg_bq (r : Fin 544) (w : Vec Ideal S1024x256 .bf16)
    (hw : ∀ k j, w (ix2 k j) = (iblk m c 1 t : FVec Ideal S1024x3072 .bf16) (ix2 k ⟨2048 + j.val, by omega⟩)) (j : Fin 256) :
    ∑ k : Fin 1024, xb m c t (ix3 0 r k) * w (ix2 k j) = hidden m c (ix3 (entry t) (token t r) ⟨1224 + j.val, by omega⟩) := by
  exact col_sum m c t r (fun k => w (ix2 k j)) ⟨1224 + j.val, by omega⟩ fun k => (hw k j).trans ((w_blk m c t k _).trans (wc1024 m c k _ _ (by simp only []; omega) (by simp only []; omega)))

theorem seg_bkv (r : Fin 544) (w : Vec Ideal S1024x256 .bf16)
    (hw : ∀ k j, w (ix2 k j) = (iblk m c 1 t : FVec Ideal S1024x3072 .bf16) (ix2 k ⟨2304 + j.val, by omega⟩)) (j : Fin 256) :
    ∑ k : Fin 1024, xb m c t (ix3 0 r k) * w (ix2 k j) = hidden m c (ix3 (entry t) (token t r) ⟨1480 + j.val, by omega⟩) := by
  by_cases h : j.val < 128
  · exact col_sum m c t r (fun k => w (ix2 k j)) ⟨1480 + j.val, by omega⟩ fun k => (hw k j).trans ((w_blk m c t k _).trans (wc1280 m c k _ _ (by simp only []; omega) (by simp only []; omega)))
  · exact col_sum m c t r (fun k => w (ix2 k j)) ⟨1480 + j.val, by omega⟩ fun k => (hw k j).trans ((w_blk m c t k _).trans (wc1408 m c k _ _ (by simp only []; omega) (by simp only []; omega)))

theorem seg_cq (r : Fin 544) (w : Vec Ideal S1024x256 .bf16)
    (hw : ∀ k j, w (ix2 k j) = (iblk m c 1 t : FVec Ideal S1024x3072 .bf16) (ix2 k ⟨2560 + j.val, by omega⟩)) (j : Fin 256) :
    ∑ k : Fin 1024, xb m c t (ix3 0 r k) * w (ix2 k j) = hidden m c (ix3 (entry t) (token t r) ⟨1992 + j.val, by omega⟩) := by
  exact col_sum m c t r (fun k => w (ix2 k j)) ⟨1992 + j.val, by omega⟩ fun k => (hw k j).trans ((w_blk m c t k _).trans (wc1536 m c k _ _ (by simp only []; omega) (by simp only []; omega)))

theorem seg_ckv (r : Fin 544) (w : Vec Ideal S1024x128 .bf16)
    (hw : ∀ k j, w (ix2 k j) = (iblk m c 1 t : FVec Ideal S1024x3072 .bf16) (ix2 k ⟨2816 + j.val, by omega⟩)) (j : Fin 128) :
    ∑ k : Fin 1024, xb m c t (ix3 0 r k) * w (ix2 k j) = hidden m c (ix3 (entry t) (token t r) ⟨2248 + j.val, by omega⟩) := by
  exact col_sum m c t r (fun k => w (ix2 k j)) ⟨2248 + j.val, by omega⟩ fun k => (hw k j).trans ((w_blk m c t k _).trans (wc1792 m c k _ _ (by simp only []; omega) (by simp only []; omega)))

theorem seg_ckr (r : Fin 544) (w : Vec Ideal S1024x128 .bf16)
    (hw : ∀ k j, w (ix2 k j) = (iblk m c 1 t : FVec Ideal S1024x3072 .bf16) (ix2 k ⟨2944 + j.val, by omega⟩)) (j : Fin 128) :
    ∑ k : Fin 1024, xb m c t (ix3 0 r k) * w (ix2 k j) = if hj : j.val < 32 then hidden m c (ix3 (entry t) (token t r) ⟨2376 + j.val, by omega⟩) else 0 := by
  by_cases h : j.val < 32
  · rw [dif_pos h]
    exact col_sum m c t r (fun k => w (ix2 k j)) ⟨2376 + j.val, by omega⟩ fun k => (hw k j).trans ((w_blk m c t k _).trans (wc1920 m c k _ _ (by simp only []; omega) (by simp only []; omega)))
  · rw [dif_neg h]
    exact col_zero m c t r (fun k => w (ix2 k j)) fun k => (hw k j).trans ((w_blk m c t k _).trans (wz1952 m c k _ (by simp only []; omega)))

end Cert.Kernel2Ideal.Proj

end
-- ==== Proof.Proj.OutA.lean ====
/-
  The first group: the queries.
-/
module

public import proofs.«01_k».proof.Proof.Frames2
public import proofs.«01_k».proof.Proof.Proj.PayA
public import proofs.«01_k».proof.Proof.Proj.PayC
public import proofs.«01_k».proof.Proof.Proj.Blk

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Idealize.ShloMosaic.Pipeline (Dat)
open Cert.Reference2Ideal.Proj (aq akv akvb aiq aik aikb aiw gates bq bkv bkvb cn up lat rot cq kvn krot crow crows crowb)

variable (m : (ℓ : Loc nD τ sig) → Buf (Elt Ideal) ℓ) (c : Dev nD)

set_option maxHeartbeats 3200000 in
theorem final12 : (dats m 0 c).arrAt 12 (cfgs 0).N = aq (hidden m c) := by
  refine (dats m 0 c).arrAt_eq_of_covers 12 _ (by decide +kernel) fun t _ y => ?_
  blk_simp
  rw [after0_12]
  unfold outsAt0
  frame_out
  canon_tiles x h
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (aq_tile3 _ r (hidden m c) (entry t) (token t r) _ (seg_aq m c t r _ fun k j => ?_) d).trans ?_
    · pointwise
    · refine congrArg (aq (hidden m c)) ?_
      blk_ext [idx12 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (aq_tile2 _ r (hidden m c) (entry t) (token t r) _ (seg_aq m c t r _ fun k j => ?_) d).trans ?_
    · pointwise
    · refine congrArg (aq (hidden m c)) ?_
      blk_ext [idx12 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (aq_tile1 _ r (hidden m c) (entry t) (token t r) _ (seg_aq m c t r _ fun k j => ?_) d).trans ?_
    · pointwise
    · refine congrArg (aq (hidden m c)) ?_
      blk_ext [idx12 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (aq_tile0 _ r (hidden m c) (entry t) (token t r) _ (seg_aq m c t r _ fun k j => ?_) d).trans ?_
    · pointwise
    · refine congrArg (aq (hidden m c)) ?_
      blk_ext [idx12 t, h0, h1, h2, h3]

end Cert.Kernel2Ideal.Proj

end
-- ==== Proof.Proj.OutB.lean ====
/-
  The results whose rows are cut at the longest text.
-/
module

public import proofs.«01_k».proof.Proof.Frames2
public import proofs.«01_k».proof.Proof.Proj.PayA
public import proofs.«01_k».proof.Proof.Proj.PayC
public import proofs.«01_k».proof.Proof.Proj.Blk

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Idealize.ShloMosaic.Pipeline (Dat)
open Cert.Reference2Ideal.Proj (aq akv akvb aiq aik aikb aiw gates bq bkv bkvb cn up lat rot cq kvn krot crow crows crowb)

variable (m : (ℓ : Loc nD τ sig) → Buf (Elt Ideal) ℓ) (c : Dev nD)

theorem final13 : (dats m 0 c).arrAt 13 (cfgs 0).N = akv (hidden m c) := by
  refine (dats m 0 c).arrAt_eq_of_covers 13 _ (by decide +kernel) fun t _ y => ?_
  blk_simp
  rw [after0_13]
  unfold outsAt0
  frame_out
  have ht : (((((View.whole main_v275_1).slice (win0_13.rect t)).emb y) 1 : Fin 2064) : ℕ) = (token t ⟨((win0 13).xinj (grid0.coords t) y 1).val, ((win0 13).xinj (grid0.coords t) y 1).isLt⟩).val := by
    blk_ext [idx13 t]
  have y0 : (y 0 : ℕ) = 0 := Nat.lt_one_iff.mp ((win0 13).xinj (grid0.coords t) y 0).isLt
  have hz : ∀ z : Shape.Idx ⟨3, ![1, 544, 128]⟩, z = ix3 0 (z 1) (z 2) := fun z => by
    funext k; match k with | ⟨0, _⟩ => exact Subsingleton.elim (α := Fin 1) _ _ | ⟨1, _⟩ => rfl | ⟨2, _⟩ => rfl
  rw [hz ((win0 13).xinj (grid0.coords t) y)]
  refine (akv_tile _ _ (hidden m c) (entry t) (token t ((win0 13).xinj (grid0.coords t) y 1)) _ ht _ (seg_akv m c t _ _ fun k j => ?_) _).trans ?_
  · pointwise
  · refine congrArg (akv (hidden m c)) ?_
    blk_ext [idx13 t]

theorem final16 : (dats m 0 c).arrAt 16 (cfgs 0).N = aik (hidden m c) := by
  refine (dats m 0 c).arrAt_eq_of_covers 16 _ (by decide +kernel) fun t _ y => ?_
  blk_simp
  rw [after0_16]
  unfold outsAt0
  frame_out
  have ht : (((((View.whole main_v275_4).slice (win0_16.rect t)).emb y) 1 : Fin 2064) : ℕ) = (token t ⟨((win0 16).xinj (grid0.coords t) y 1).val, ((win0 16).xinj (grid0.coords t) y 1).isLt⟩).val := by
    blk_ext [idx16 t]
  have y0 : (y 0 : ℕ) = 0 := Nat.lt_one_iff.mp ((win0 16).xinj (grid0.coords t) y 0).isLt
  have hz : ∀ z : Shape.Idx ⟨3, ![1, 544, 64]⟩, z = ix3 0 (z 1) (z 2) := fun z => by
    funext k; match k with | ⟨0, _⟩ => exact Subsingleton.elim (α := Fin 1) _ _ | ⟨1, _⟩ => rfl | ⟨2, _⟩ => rfl
  rw [hz ((win0 16).xinj (grid0.coords t) y)]
  refine (aik_tile _ _ (hidden m c) (entry t) (token t ((win0 16).xinj (grid0.coords t) y 1)) _ ht _ (seg_aik m c t _ _ fun k j => ?_) _).trans ?_
  · pointwise
  · refine congrArg (aik (hidden m c)) ?_
    blk_ext [idx16 t]

theorem final21 : (dats m 0 c).arrAt 21 (cfgs 0).N = bkv (hidden m c) := by
  refine (dats m 0 c).arrAt_eq_of_covers 21 _ (by decide +kernel) fun t _ y => ?_
  blk_simp
  rw [after0_21]
  unfold outsAt0
  frame_out
  have ht : (((((View.whole main_v275_9).slice (win0_21.rect t)).emb y) 1 : Fin 2064) : ℕ) = (token t ⟨((win0 21).xinj (grid0.coords t) y 1).val, ((win0 21).xinj (grid0.coords t) y 1).isLt⟩).val := by
    blk_ext [idx21 t]
  have y0 : (y 0 : ℕ) = 0 := Nat.lt_one_iff.mp ((win0 21).xinj (grid0.coords t) y 0).isLt
  have hz : ∀ z : Shape.Idx ⟨3, ![1, 544, 256]⟩, z = ix3 0 (z 1) (z 2) := fun z => by
    funext k; match k with | ⟨0, _⟩ => exact Subsingleton.elim (α := Fin 1) _ _ | ⟨1, _⟩ => rfl | ⟨2, _⟩ => rfl
  rw [hz ((win0 21).xinj (grid0.coords t) y)]
  refine (bkv_tile _ _ (hidden m c) (entry t) (token t ((win0 21).xinj (grid0.coords t) y 1)) _ ht _ (seg_bkv m c t _ _ fun k j => ?_) _).trans ?_
  · pointwise
  · refine congrArg (bkv (hidden m c)) ?_
    blk_ext [idx21 t]

end Cert.Kernel2Ideal.Proj

end
-- ==== Proof.Proj.OutC.lean ====
/-
  The index queries.
-/
module

public import proofs.«01_k».proof.Proof.Frames2
public import proofs.«01_k».proof.Proof.Proj.PayA
public import proofs.«01_k».proof.Proof.Proj.PayC
public import proofs.«01_k».proof.Proof.Proj.Blk

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Idealize.ShloMosaic.Pipeline (Dat)
open Cert.Reference2Ideal.Proj (aq akv akvb aiq aik aikb aiw gates bq bkv bkvb cn up lat rot cq kvn krot crow crows crowb)

variable (m : (ℓ : Loc nD τ sig) → Buf (Elt Ideal) ℓ) (c : Dev nD)

set_option maxHeartbeats 3200000 in
theorem final15 : (dats m 0 c).arrAt 15 (cfgs 0).N = aiq (hidden m c) := by
  refine (dats m 0 c).arrAt_eq_of_covers 15 _ (by decide +kernel) fun t _ y => ?_
  blk_simp
  rw [after0_15]
  unfold outsAt0
  frame_out
  canon_tiles x h
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (aiq_tile7 _ r (hidden m c) (entry t) (token t r) _ (seg_aiq m c t r _ fun k j => ?_) d).trans ?_
    · pointwise
    · refine congrArg (aiq (hidden m c)) ?_
      blk_ext [idx15 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (aiq_tile6 _ r (hidden m c) (entry t) (token t r) _ (seg_aiq m c t r _ fun k j => ?_) d).trans ?_
    · pointwise
    · refine congrArg (aiq (hidden m c)) ?_
      blk_ext [idx15 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (aiq_tile5 _ r (hidden m c) (entry t) (token t r) _ (seg_aiq m c t r _ fun k j => ?_) d).trans ?_
    · pointwise
    · refine congrArg (aiq (hidden m c)) ?_
      blk_ext [idx15 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (aiq_tile4 _ r (hidden m c) (entry t) (token t r) _ (seg_aiq m c t r _ fun k j => ?_) d).trans ?_
    · pointwise
    · refine congrArg (aiq (hidden m c)) ?_
      blk_ext [idx15 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (aiq_tile3 _ r (hidden m c) (entry t) (token t r) _ (seg_aiq m c t r _ fun k j => ?_) d).trans ?_
    · pointwise
    · refine congrArg (aiq (hidden m c)) ?_
      blk_ext [idx15 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (aiq_tile2 _ r (hidden m c) (entry t) (token t r) _ (seg_aiq m c t r _ fun k j => ?_) d).trans ?_
    · pointwise
    · refine congrArg (aiq (hidden m c)) ?_
      blk_ext [idx15 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (aiq_tile1 _ r (hidden m c) (entry t) (token t r) _ (seg_aiq m c t r _ fun k j => ?_) d).trans ?_
    · pointwise
    · refine congrArg (aiq (hidden m c)) ?_
      blk_ext [idx15 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (aiq_tile0 _ r (hidden m c) (entry t) (token t r) _ (seg_aiq m c t r _ fun k j => ?_) d).trans ?_
    · pointwise
    · refine congrArg (aiq (hidden m c)) ?_
      blk_ext [idx15 t, h0, h1, h2, h3]

end Cert.Kernel2Ideal.Proj

end
-- ==== Proof.Proj.OutD.lean ====
/-
  The second group: the queries and the keys and values by head.
-/
module

public import proofs.«01_k».proof.Proof.Frames2
public import proofs.«01_k».proof.Proof.Proj.PayA
public import proofs.«01_k».proof.Proof.Proj.PayC
public import proofs.«01_k».proof.Proof.Proj.Blk

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Idealize.ShloMosaic.Pipeline (Dat)
open Cert.Reference2Ideal.Proj (aq akv akvb aiq aik aikb aiw gates bq bkv bkvb cn up lat rot cq kvn krot crow crows crowb)

variable (m : (ℓ : Loc nD τ sig) → Buf (Elt Ideal) ℓ) (c : Dev nD)

set_option maxHeartbeats 3200000 in
theorem final20 : (dats m 0 c).arrAt 20 (cfgs 0).N = bq (hidden m c) := by
  refine (dats m 0 c).arrAt_eq_of_covers 20 _ (by decide +kernel) fun t _ y => ?_
  blk_simp
  rw [after0_20]
  unfold outsAt0
  frame_out
  canon_tiles x h
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (bq_tile3 _ r (hidden m c) (entry t) (token t r) _ (seg_bq m c t r _ fun k j => ?_) d).trans ?_
    · pointwise
    · refine congrArg (bq (hidden m c)) ?_
      blk_ext [idx20 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (bq_tile2 _ r (hidden m c) (entry t) (token t r) _ (seg_bq m c t r _ fun k j => ?_) d).trans ?_
    · pointwise
    · refine congrArg (bq (hidden m c)) ?_
      blk_ext [idx20 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (bq_tile1 _ r (hidden m c) (entry t) (token t r) _ (seg_bq m c t r _ fun k j => ?_) d).trans ?_
    · pointwise
    · refine congrArg (bq (hidden m c)) ?_
      blk_ext [idx20 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (bq_tile0 _ r (hidden m c) (entry t) (token t r) _ (seg_bq m c t r _ fun k j => ?_) d).trans ?_
    · pointwise
    · refine congrArg (bq (hidden m c)) ?_
      blk_ext [idx20 t, h0, h1, h2, h3]

set_option maxHeartbeats 3200000 in
theorem final22 : (dats m 0 c).arrAt 22 (cfgs 0).N = bkvb (hidden m c) := by
  refine (dats m 0 c).arrAt_eq_of_covers 22 _ (by decide +kernel) fun t _ y => ?_
  blk_simp
  rw [after0_22]
  unfold outsAt0
  frame_out
  canon_tiles x h
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (bkvb_tile3 _ r (hidden m c) (entry t) (token t r) _ (seg_bkv m c t r _ fun k j => ?_) d).trans ?_
    · pointwise
    · refine congrArg (bkvb (hidden m c)) ?_
      blk_ext [idx22 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (bkvb_tile2 _ r (hidden m c) (entry t) (token t r) _ (seg_bkv m c t r _ fun k j => ?_) d).trans ?_
    · pointwise
    · refine congrArg (bkvb (hidden m c)) ?_
      blk_ext [idx22 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (bkvb_tile1 _ r (hidden m c) (entry t) (token t r) _ (seg_bkv m c t r _ fun k j => ?_) d).trans ?_
    · pointwise
    · refine congrArg (bkvb (hidden m c)) ?_
      blk_ext [idx22 t, h0, h1, h2, h3]
  · obtain ⟨a, e, r, d, rfl⟩ : ∃ (a : Fin 1) (e : Fin 1) (r : Fin 544) (d : Fin 64), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (bkvb_tile0 _ r (hidden m c) (entry t) (token t r) _ (seg_bkv m c t r _ fun k j => ?_) d).trans ?_
    · pointwise
    · refine congrArg (bkvb (hidden m c)) ?_
      blk_ext [idx22 t, h0, h1, h2, h3]

end Cert.Kernel2Ideal.Proj

end
-- ==== Proof.Proj.OutE.lean ====
/-
  The results that a grid point stores whole.
-/
module

public import proofs.«01_k».proof.Proof.Frames2
public import proofs.«01_k».proof.Proof.Proj.PayA
public import proofs.«01_k».proof.Proof.Proj.PayC
public import proofs.«01_k».proof.Proof.Proj.Blk

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Idealize.ShloMosaic.Pipeline (Dat)
open Cert.Reference2Ideal.Proj (aq akv akvb aiq aik aikb aiw gates bq bkv bkvb cn up lat rot cq kvn krot crow crows crowb)

variable (m : (ℓ : Loc nD τ sig) → Buf (Elt Ideal) ℓ) (c : Dev nD)

theorem final14 : (dats m 0 c).arrAt 14 (cfgs 0).N = akvb (hidden m c) := by
  refine (dats m 0 c).arrAt_eq_of_covers 14 _ (by decide +kernel) fun t _ y => ?_
  blk_simp
  rw [after0_14]
  unfold outsAt0
  frame_out
  obtain ⟨a, r, d, rfl⟩ : ∃ (a : Fin 1) (r : Fin 544) (d : Fin 128), y = ix3 a r d := ⟨y 0, y 1, y 2, by funext k; match k with | ⟨0, _⟩ => rfl | ⟨1, _⟩ => rfl | ⟨2, _⟩ => rfl⟩
  obtain rfl : a = 0 := Subsingleton.elim _ _
  refine (akvb_tile _ r (hidden m c) (entry t) (token t r) _ (seg_akv m c t r _ fun k j => ?_) d).trans ?_
  · pointwise
  · blk_ext [idx14 t]

theorem final17 : (dats m 0 c).arrAt 17 (cfgs 0).N = aikb (hidden m c) := by
  refine (dats m 0 c).arrAt_eq_of_covers 17 _ (by decide +kernel) fun t _ y => ?_
  blk_simp
  rw [after0_17]
  unfold outsAt0
  frame_out
  obtain ⟨a, r, d, rfl⟩ : ∃ (a : Fin 1) (r : Fin 544) (d : Fin 128), y = ix3 a r d := ⟨y 0, y 1, y 2, by funext k; match k with | ⟨0, _⟩ => rfl | ⟨1, _⟩ => rfl | ⟨2, _⟩ => rfl⟩
  obtain rfl : a = 0 := Subsingleton.elim _ _
  refine (aikb_tile _ r (hidden m c) (entry t) (token t r) _ (seg_aik m c t r _ fun k j => ?_) d).trans ?_
  · pointwise
  · blk_ext [idx17 t]

theorem final18 : (dats m 0 c).arrAt 18 (cfgs 0).N = aiw (hidden m c) := by
  refine (dats m 0 c).arrAt_eq_of_covers 18 _ (by decide +kernel) fun t _ y => ?_
  blk_simp
  rw [after0_18]
  unfold outsAt0
  frame_out
  obtain ⟨a, r, d, rfl⟩ : ∃ (a : Fin 1) (r : Fin 544) (d : Fin 128), y = ix3 a r d := ⟨y 0, y 1, y 2, by funext k; match k with | ⟨0, _⟩ => rfl | ⟨1, _⟩ => rfl | ⟨2, _⟩ => rfl⟩
  obtain rfl : a = 0 := Subsingleton.elim _ _
  refine (aiw_tile _ r (hidden m c) (entry t) (token t r) _ (seg_aik m c t r _ fun k j => ?_) d).trans ?_
  · pointwise
  · blk_ext [idx18 t]

theorem final19 : (dats m 0 c).arrAt 19 (cfgs 0).N = gates (hidden m c) := by
  refine (dats m 0 c).arrAt_eq_of_covers 19 _ (by decide +kernel) fun t _ y => ?_
  blk_simp
  rw [after0_19]
  unfold outsAt0
  frame_out
  obtain ⟨a, r, d, rfl⟩ : ∃ (a : Fin 1) (r : Fin 544) (d : Fin 1024), y = ix3 a r d := ⟨y 0, y 1, y 2, by funext k; match k with | ⟨0, _⟩ => rfl | ⟨1, _⟩ => rfl | ⟨2, _⟩ => rfl⟩
  obtain rfl : a = 0 := Subsingleton.elim _ _
  refine (gates_tile _ r (hidden m c) (entry t) (token t r) _ (seg_gates m c t r _ fun k j => ?_) d).trans ?_
  · pointwise
  · blk_ext [idx19 t]

end Cert.Kernel2Ideal.Proj

end
-- ==== Proof.Proj.Head.lean ====
/-
  The heads of the latent queries at a grid point.
-/
module

public import proofs.«01_k».proof.Proof.Frames2
public import proofs.«01_k».proof.Proof.Proj.PayA
public import proofs.«01_k».proof.Proof.Proj.PayC
public import proofs.«01_k».proof.Proof.Proj.Blk

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Idealize.ShloMosaic.Pipeline (Dat)
open Cert.Reference2Ideal.Proj (aq akv akvb aiq aik aikb aiw gates bq bkv bkvb cn up lat rot cq kvn krot crow crows crowb)

variable (m : (ℓ : Loc nD τ sig) → Buf (Elt Ideal) ℓ) (c : Dev nD)

variable (t : Fin cfg0.N) (r : Fin 544) (w : Vec Ideal S1024x256 .bf16)

/-- The heads' queries before the rotation, from the launch's arguments. -/
abbrev upped : FVec Ideal Cert.Reference2Ideal.S16x2176x8x96 .f32 :=
  up (cn (hidden m c) (m ((c : Thread nD τ).loc main_arg2))) (m ((c : Thread nD τ).loc main_arg4))

/-- The normalised latent row of a grid point. -/
abbrev nrm : FVec Ideal S544x256 .bf16 := k0_pay45 (F := Ideal) (k0_pay5 (iblk m c 0 t)) w (iblk m c 2 t)

/-- The heads' queries of a grid point. -/
abbrev ups : FVec Ideal S544x768 .f32 := k0_pay47 (F := Ideal) (nrm m c t w) (k0_pay46 (iblk m c 4 t)) (constant S544x768 .f32 0x00000000#32)

/-- The rotated parts of a grid point. -/
abbrev rots : FVec Ideal S544x256 .bf16 :=
  k0_pay48 (F := Ideal) (nrm m c t w) (k0_pay46 (iblk m c 4 t)) (constant S544x768 .f32 0x00000000#32) (iblk m c 7 t) (iblk m c 8 t)

theorem ups_at (hw : ∀ k j, w (ix2 k j) = (iblk m c 1 t : FVec Ideal S1024x3072 .bf16) (ix2 k ⟨2560 + j.val, by omega⟩))
    (j : Fin 768) (k : Fin 8) (e : Fin 96)
    (hs : j.val < 512 ∧ k.val * 96 + e.val = j.val / 64 * 96 + j.val % 64 ∨ 512 ≤ j.val ∧ j.val < 640 ∧ k.val * 96 + e.val = (j.val - 512) / 16 * 96 + (64 + (j.val - 512) % 16)
      ∨ 640 ≤ j.val ∧ k.val * 96 + e.val = (j.val - 640) / 16 * 96 + (80 + (j.val - 640) % 16)) :
    ups m c t w (ix2 r j) = upped m c (ix4 (entry t) (token t r) k e) :=
  up_tile r (entry t) (token t r) _ _ _ _ (cn_tile _ r (hidden m c) (entry t) (token t r) w _ _ (seg_cq m c t r w hw) (qn_blk m c t)) j k e
    fun x => wuq_blk m c t x j ⟨k.val * 96 + e.val, by omega⟩ hs

theorem rots_lo (hw : ∀ k j, w (ix2 k j) = (iblk m c 1 t : FVec Ideal S1024x3072 .bf16) (ix2 k ⟨2560 + j.val, by omega⟩))
    (k : Fin 8) (e : Fin 16) : rots m c t w (ix2 r ⟨16 * k.val + e.val, by omega⟩)
    = rot (upped m c) (ix4 (entry t) (token t r) k ⟨e.val, by omega⟩) * Ideal.ofBits .f32 0x3DD105EC#32 :=
  rot_lo_tile r (entry t) (token t r) _ _ _ _ _ _ k e (cosq_blk m c t r) (sinq_blk m c t r)
    (ups_at m c t r w hw _ _ _ (by simp only []; omega)) (ups_at m c t r w hw _ _ _ (by simp only []; omega))

theorem rots_hi (hw : ∀ k j, w (ix2 k j) = (iblk m c 1 t : FVec Ideal S1024x3072 .bf16) (ix2 k ⟨2560 + j.val, by omega⟩))
    (k : Fin 8) (e : Fin 16) : rots m c t w (ix2 r ⟨128 + (16 * k.val + e.val), by omega⟩)
    = rot (upped m c) (ix4 (entry t) (token t r) k ⟨16 + e.val, by omega⟩) * Ideal.ofBits .f32 0x3DD105EC#32 :=
  rot_hi_tile r (entry t) (token t r) _ _ _ _ _ _ k e (cosq_blk m c t r) (sinq_blk m c t r)
    (ups_at m c t r w hw _ _ _ (by simp only []; omega)) (ups_at m c t r w hw _ _ _ (by simp only []; omega))

theorem piece0 (hw : ∀ k j, w (ix2 k j) = (iblk m c 1 t : FVec Ideal S1024x3072 .bf16) (ix2 k ⟨2560 + j.val, by omega⟩))
    (wk : Vec Ideal S1x64x128 .bf16) (sl : Vec Ideal S1x256x128 .bf16)
    (hk : ∀ x j, wk (ix3 0 x j) = (iblk m c 5 t : FVec Ideal S8x64x128 .bf16) (ix3 ⟨0, by decide⟩ x j))
    (hs : ∀ x j, sl (ix3 0 x j) = (iblk m c 6 t : FVec Ideal S8x256x128 .bf16) (ix3 ⟨0, by decide⟩ x j)) (e : Fin 256) :
    k0_pay49 (F := Ideal) (nrm m c t w) (k0_pay46 (iblk m c 4 t)) (constant S544x768 .f32 0x00000000#32) (iblk m c 7 t) (iblk m c 8 t) wk sl (ix4 0 0 r e)
      = cq (lat (upped m c) (m ((c : Thread nD τ).loc main_arg5))) (rot (upped m c)) (ix4 (entry t) ⟨0, by decide⟩ (token t r) e) := by
  apply head_tile0
  · exact fun x => ups_at m c t r w hw _ _ _ (by simp only []; omega)
  · exact fun e => rots_lo m c t r w hw ⟨0, by decide⟩ e
  · exact fun e => rots_hi m c t r w hw ⟨0, by decide⟩ e
  · exact fun x j => (hk x j).trans (wuk_blk m c t _ x j)
  · exact fun x j => (hs x j).trans ((sel_blk m c t _ x j).trans (sel0 m c x j))

theorem piece1 (hw : ∀ k j, w (ix2 k j) = (iblk m c 1 t : FVec Ideal S1024x3072 .bf16) (ix2 k ⟨2560 + j.val, by omega⟩))
    (wk : Vec Ideal S1x64x128 .bf16) (sl : Vec Ideal S1x256x128 .bf16)
    (hk : ∀ x j, wk (ix3 0 x j) = (iblk m c 5 t : FVec Ideal S8x64x128 .bf16) (ix3 ⟨1, by decide⟩ x j))
    (hs : ∀ x j, sl (ix3 0 x j) = (iblk m c 6 t : FVec Ideal S8x256x128 .bf16) (ix3 ⟨1, by decide⟩ x j)) (e : Fin 256) :
    k0_pay51 (F := Ideal) (rots m c t w) (k0_pay50 (nrm m c t w) (k0_pay46 (iblk m c 4 t)) (constant S544x768 .f32 0x00000000#32) wk) sl (ix4 0 0 r e)
      = cq (lat (upped m c) (m ((c : Thread nD τ).loc main_arg5))) (rot (upped m c)) (ix4 (entry t) ⟨1, by decide⟩ (token t r) e) := by
  apply head_tile1
  · exact fun x => ups_at m c t r w hw _ _ _ (by simp only []; omega)
  · exact fun e => rots_lo m c t r w hw ⟨1, by decide⟩ e
  · exact fun e => rots_hi m c t r w hw ⟨1, by decide⟩ e
  · exact fun x j => (hk x j).trans (wuk_blk m c t _ x j)
  · exact fun x j => (hs x j).trans ((sel_blk m c t _ x j).trans (sel1 m c x j))

theorem piece2 (hw : ∀ k j, w (ix2 k j) = (iblk m c 1 t : FVec Ideal S1024x3072 .bf16) (ix2 k ⟨2560 + j.val, by omega⟩))
    (wk : Vec Ideal S1x64x128 .bf16) (sl : Vec Ideal S1x256x128 .bf16)
    (hk : ∀ x j, wk (ix3 0 x j) = (iblk m c 5 t : FVec Ideal S8x64x128 .bf16) (ix3 ⟨2, by decide⟩ x j))
    (hs : ∀ x j, sl (ix3 0 x j) = (iblk m c 6 t : FVec Ideal S8x256x128 .bf16) (ix3 ⟨2, by decide⟩ x j)) (e : Fin 256) :
    k0_pay52 (F := Ideal) (ups m c t w) (rots m c t w) wk sl (ix4 0 0 r e)
      = cq (lat (upped m c) (m ((c : Thread nD τ).loc main_arg5))) (rot (upped m c)) (ix4 (entry t) ⟨2, by decide⟩ (token t r) e) := by
  apply head_tile2
  · exact fun x => ups_at m c t r w hw _ _ _ (by simp only []; omega)
  · exact fun e => rots_lo m c t r w hw ⟨2, by decide⟩ e
  · exact fun e => rots_hi m c t r w hw ⟨2, by decide⟩ e
  · exact fun x j => (hk x j).trans (wuk_blk m c t _ x j)
  · exact fun x j => (hs x j).trans ((sel_blk m c t _ x j).trans (sel2 m c x j))

theorem piece3 (hw : ∀ k j, w (ix2 k j) = (iblk m c 1 t : FVec Ideal S1024x3072 .bf16) (ix2 k ⟨2560 + j.val, by omega⟩))
    (wk : Vec Ideal S1x64x128 .bf16) (sl : Vec Ideal S1x256x128 .bf16)
    (hk : ∀ x j, wk (ix3 0 x j) = (iblk m c 5 t : FVec Ideal S8x64x128 .bf16) (ix3 ⟨3, by decide⟩ x j))
    (hs : ∀ x j, sl (ix3 0 x j) = (iblk m c 6 t : FVec Ideal S8x256x128 .bf16) (ix3 ⟨3, by decide⟩ x j)) (e : Fin 256) :
    k0_pay55 (F := Ideal) (rots m c t w) (k0_pay53 (ups m c t w) wk) k0_pay54 sl (ix4 0 0 r e)
      = cq (lat (upped m c) (m ((c : Thread nD τ).loc main_arg5))) (rot (upped m c)) (ix4 (entry t) ⟨3, by decide⟩ (token t r) e) := by
  apply head_tile3
  · exact fun x => ups_at m c t r w hw _ _ _ (by simp only []; omega)
  · exact fun e => rots_lo m c t r w hw ⟨3, by decide⟩ e
  · exact fun e => rots_hi m c t r w hw ⟨3, by decide⟩ e
  · exact fun x j => (hk x j).trans (wuk_blk m c t _ x j)
  · exact fun x j => (hs x j).trans ((sel_blk m c t _ x j).trans (sel3 m c x j))

theorem piece4 (hw : ∀ k j, w (ix2 k j) = (iblk m c 1 t : FVec Ideal S1024x3072 .bf16) (ix2 k ⟨2560 + j.val, by omega⟩))
    (wk : Vec Ideal S1x64x128 .bf16) (sl : Vec Ideal S1x256x128 .bf16)
    (hk : ∀ x j, wk (ix3 0 x j) = (iblk m c 5 t : FVec Ideal S8x64x128 .bf16) (ix3 ⟨4, by decide⟩ x j))
    (hs : ∀ x j, sl (ix3 0 x j) = (iblk m c 6 t : FVec Ideal S8x256x128 .bf16) (ix3 ⟨4, by decide⟩ x j)) (e : Fin 256) :
    k0_pay56 (F := Ideal) (ups m c t w) (rots m c t w) wk sl (ix4 0 0 r e)
      = cq (lat (upped m c) (m ((c : Thread nD τ).loc main_arg5))) (rot (upped m c)) (ix4 (entry t) ⟨4, by decide⟩ (token t r) e) := by
  apply head_tile4
  · exact fun x => ups_at m c t r w hw _ _ _ (by simp only []; omega)
  · exact fun e => rots_lo m c t r w hw ⟨4, by decide⟩ e
  · exact fun e => rots_hi m c t r w hw ⟨4, by decide⟩ e
  · exact fun x j => (hk x j).trans (wuk_blk m c t _ x j)
  · exact fun x j => (hs x j).trans ((sel_blk m c t _ x j).trans (sel4 m c x j))

theorem piece5 (hw : ∀ k j, w (ix2 k j) = (iblk m c 1 t : FVec Ideal S1024x3072 .bf16) (ix2 k ⟨2560 + j.val, by omega⟩))
    (wk : Vec Ideal S1x64x128 .bf16) (sl : Vec Ideal S1x256x128 .bf16)
    (hk : ∀ x j, wk (ix3 0 x j) = (iblk m c 5 t : FVec Ideal S8x64x128 .bf16) (ix3 ⟨5, by decide⟩ x j))
    (hs : ∀ x j, sl (ix3 0 x j) = (iblk m c 6 t : FVec Ideal S8x256x128 .bf16) (ix3 ⟨5, by decide⟩ x j)) (e : Fin 256) :
    k0_pay58 (F := Ideal) (rots m c t w) (k0_pay57 (ups m c t w) wk) sl (ix4 0 0 r e)
      = cq (lat (upped m c) (m ((c : Thread nD τ).loc main_arg5))) (rot (upped m c)) (ix4 (entry t) ⟨5, by decide⟩ (token t r) e) := by
  apply head_tile5
  · exact fun x => ups_at m c t r w hw _ _ _ (by simp only []; omega)
  · exact fun e => rots_lo m c t r w hw ⟨5, by decide⟩ e
  · exact fun e => rots_hi m c t r w hw ⟨5, by decide⟩ e
  · exact fun x j => (hk x j).trans (wuk_blk m c t _ x j)
  · exact fun x j => (hs x j).trans ((sel_blk m c t _ x j).trans (sel5 m c x j))

theorem piece6 (hw : ∀ k j, w (ix2 k j) = (iblk m c 1 t : FVec Ideal S1024x3072 .bf16) (ix2 k ⟨2560 + j.val, by omega⟩))
    (wk : Vec Ideal S1x64x128 .bf16) (sl : Vec Ideal S1x256x128 .bf16)
    (hk : ∀ x j, wk (ix3 0 x j) = (iblk m c 5 t : FVec Ideal S8x64x128 .bf16) (ix3 ⟨6, by decide⟩ x j))
    (hs : ∀ x j, sl (ix3 0 x j) = (iblk m c 6 t : FVec Ideal S8x256x128 .bf16) (ix3 ⟨6, by decide⟩ x j)) (e : Fin 256) :
    k0_pay59 (F := Ideal) (ups m c t w) (rots m c t w) wk sl (ix4 0 0 r e)
      = cq (lat (upped m c) (m ((c : Thread nD τ).loc main_arg5))) (rot (upped m c)) (ix4 (entry t) ⟨6, by decide⟩ (token t r) e) := by
  apply head_tile6
  · exact fun x => ups_at m c t r w hw _ _ _ (by simp only []; omega)
  · exact fun e => rots_lo m c t r w hw ⟨6, by decide⟩ e
  · exact fun e => rots_hi m c t r w hw ⟨6, by decide⟩ e
  · exact fun x j => (hk x j).trans (wuk_blk m c t _ x j)
  · exact fun x j => (hs x j).trans ((sel_blk m c t _ x j).trans (sel6 m c x j))

theorem piece7 (hw : ∀ k j, w (ix2 k j) = (iblk m c 1 t : FVec Ideal S1024x3072 .bf16) (ix2 k ⟨2560 + j.val, by omega⟩))
    (wk : Vec Ideal S1x64x128 .bf16) (sl : Vec Ideal S1x256x128 .bf16)
    (hk : ∀ x j, wk (ix3 0 x j) = (iblk m c 5 t : FVec Ideal S8x64x128 .bf16) (ix3 ⟨7, by decide⟩ x j))
    (hs : ∀ x j, sl (ix3 0 x j) = (iblk m c 6 t : FVec Ideal S8x256x128 .bf16) (ix3 ⟨7, by decide⟩ x j)) (e : Fin 256) :
    k0_pay61 (F := Ideal) (rots m c t w) (k0_pay60 (ups m c t w) wk) sl (ix4 0 0 r e)
      = cq (lat (upped m c) (m ((c : Thread nD τ).loc main_arg5))) (rot (upped m c)) (ix4 (entry t) ⟨7, by decide⟩ (token t r) e) := by
  apply head_tile7
  · exact fun x => ups_at m c t r w hw _ _ _ (by simp only []; omega)
  · exact fun e => rots_lo m c t r w hw ⟨7, by decide⟩ e
  · exact fun e => rots_hi m c t r w hw ⟨7, by decide⟩ e
  · exact fun x j => (hk x j).trans (wuk_blk m c t _ x j)
  · exact fun x j => (hs x j).trans ((sel_blk m c t _ x j).trans (sel7 m c x j))

end Cert.Kernel2Ideal.Proj

end
-- ==== Proof.Proj.OutF.lean ====
/-
  The third group: the queries.
-/
module

public import proofs.«01_k».proof.Proof.Frames2
public import proofs.«01_k».proof.Proof.Proj.PayA
public import proofs.«01_k».proof.Proof.Proj.PayC
public import proofs.«01_k».proof.Proof.Proj.Blk
public import proofs.«01_k».proof.Proof.Proj.Head

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Idealize.ShloMosaic.Pipeline (Dat)
open Cert.Reference2Ideal.Proj (aq akv akvb aiq aik aikb aiw gates bq bkv bkvb cn up lat rot cq kvn krot crow crows crowb)

variable (m : (ℓ : Loc nD τ sig) → Buf (Elt Ideal) ℓ) (c : Dev nD)

set_option maxHeartbeats 6400000 in
theorem final23 : (dats m 0 c).arrAt 23 (cfgs 0).N = cq (lat (upped m c) (m ((c : Thread nD τ).loc main_arg5))) (rot (upped m c)) := by
  refine (dats m 0 c).arrAt_eq_of_covers 23 _ (by decide +kernel) fun t _ y => ?_
  blk_simp
  rw [after0_23]
  unfold outsAt0
  frame_out
  canon_tiles x h
  · obtain ⟨a, e, r, d, rfl⟩ : ∃ (a : Fin 1) (e : Fin 1) (r : Fin 544) (d : Fin 256), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (piece7 m c t r _ (fun k j => ?_) _ _ (fun k j => ?_) (fun k j => ?_) d).trans ?_
    · pointwise
    · pointwise
    · pointwise
    · refine congrArg (cq (lat (upped m c) (m ((c : Thread nD τ).loc main_arg5))) (rot (upped m c))) ?_
      blk_ext [idx23 t, h0, h1, h2, h3]
  · obtain ⟨a, e, r, d, rfl⟩ : ∃ (a : Fin 1) (e : Fin 1) (r : Fin 544) (d : Fin 256), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (piece6 m c t r _ (fun k j => ?_) _ _ (fun k j => ?_) (fun k j => ?_) d).trans ?_
    · pointwise
    · pointwise
    · pointwise
    · refine congrArg (cq (lat (upped m c) (m ((c : Thread nD τ).loc main_arg5))) (rot (upped m c))) ?_
      blk_ext [idx23 t, h0, h1, h2, h3]
  · obtain ⟨a, e, r, d, rfl⟩ : ∃ (a : Fin 1) (e : Fin 1) (r : Fin 544) (d : Fin 256), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (piece5 m c t r _ (fun k j => ?_) _ _ (fun k j => ?_) (fun k j => ?_) d).trans ?_
    · pointwise
    · pointwise
    · pointwise
    · refine congrArg (cq (lat (upped m c) (m ((c : Thread nD τ).loc main_arg5))) (rot (upped m c))) ?_
      blk_ext [idx23 t, h0, h1, h2, h3]
  · obtain ⟨a, e, r, d, rfl⟩ : ∃ (a : Fin 1) (e : Fin 1) (r : Fin 544) (d : Fin 256), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (piece4 m c t r _ (fun k j => ?_) _ _ (fun k j => ?_) (fun k j => ?_) d).trans ?_
    · pointwise
    · pointwise
    · pointwise
    · refine congrArg (cq (lat (upped m c) (m ((c : Thread nD τ).loc main_arg5))) (rot (upped m c))) ?_
      blk_ext [idx23 t, h0, h1, h2, h3]
  · obtain ⟨a, e, r, d, rfl⟩ : ∃ (a : Fin 1) (e : Fin 1) (r : Fin 544) (d : Fin 256), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (piece3 m c t r _ (fun k j => ?_) _ _ (fun k j => ?_) (fun k j => ?_) d).trans ?_
    · pointwise
    · pointwise
    · pointwise
    · refine congrArg (cq (lat (upped m c) (m ((c : Thread nD τ).loc main_arg5))) (rot (upped m c))) ?_
      blk_ext [idx23 t, h0, h1, h2, h3]
  · obtain ⟨a, e, r, d, rfl⟩ : ∃ (a : Fin 1) (e : Fin 1) (r : Fin 544) (d : Fin 256), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (piece2 m c t r _ (fun k j => ?_) _ _ (fun k j => ?_) (fun k j => ?_) d).trans ?_
    · pointwise
    · pointwise
    · pointwise
    · refine congrArg (cq (lat (upped m c) (m ((c : Thread nD τ).loc main_arg5))) (rot (upped m c))) ?_
      blk_ext [idx23 t, h0, h1, h2, h3]
  · obtain ⟨a, e, r, d, rfl⟩ : ∃ (a : Fin 1) (e : Fin 1) (r : Fin 544) (d : Fin 256), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (piece1 m c t r _ (fun k j => ?_) _ _ (fun k j => ?_) (fun k j => ?_) d).trans ?_
    · pointwise
    · pointwise
    · pointwise
    · refine congrArg (cq (lat (upped m c) (m ((c : Thread nD τ).loc main_arg5))) (rot (upped m c))) ?_
      blk_ext [idx23 t, h0, h1, h2, h3]
  · obtain ⟨a, e, r, d, rfl⟩ : ∃ (a : Fin 1) (e : Fin 1) (r : Fin 544) (d : Fin 256), x = ix4 a e r d := ⟨x 0, x 1, x 2, x 3, by funext k; match k with | ⟨0, _⟩ => rfl | ⟨1, _⟩ => rfl | ⟨2, _⟩ => rfl | ⟨3, _⟩ => rfl⟩
    obtain rfl : a = 0 := Subsingleton.elim _ _
    obtain rfl : e = 0 := Subsingleton.elim _ _
    refine (piece0 m c t r _ (fun k j => ?_) _ _ (fun k j => ?_) (fun k j => ?_) d).trans ?_
    · pointwise
    · pointwise
    · pointwise
    · refine congrArg (cq (lat (upped m c) (m ((c : Thread nD τ).loc main_arg5))) (rot (upped m c))) ?_
      blk_ext [idx23 t, h0, h1, h2, h3]

end Cert.Kernel2Ideal.Proj

end
-- ==== Proof.Proj.OutG.lean ====
/-
  The third group: the cache rows.
-/
module

public import proofs.«01_k».proof.Proof.Frames2
public import proofs.«01_k».proof.Proof.Proj.PayA
public import proofs.«01_k».proof.Proof.Proj.PayC
public import proofs.«01_k».proof.Proof.Proj.Blk

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem
open Idealize.ShloMosaic.Pipeline (Dat)
open Cert.Reference2Ideal.Proj (aq akv akvb aiq aik aikb aiw gates bq bkv bkvb cn up lat rot cq kvn krot crow crows crowb)

variable (m : (ℓ : Loc nD τ sig) → Buf (Elt Ideal) ℓ) (c : Dev nD)

set_option maxHeartbeats 3200000 in
theorem final24 : (dats m 0 c).arrAt 24 (cfgs 0).N = crows (crow (kvn (hidden m c) (m ((c : Thread nD τ).loc main_arg3))) (krot (hidden m c))) := by
  refine (dats m 0 c).arrAt_eq_of_covers 24 _ (by decide +kernel) fun t _ y => ?_
  blk_simp
  rw [after0_24]
  unfold outsAt0
  frame_out
  have y0 : (y 0 : ℕ) = 0 := Nat.lt_one_iff.mp ((win0 24).xinj (grid0.coords t) y 0).isLt
  have ht : (((((View.whole main_v275_12).slice (win0_24.rect t)).emb y) 1 : Fin 2064) : ℕ) = (token t ⟨((win0 24).xinj (grid0.coords t) y 1).val, ((win0 24).xinj (grid0.coords t) y 1).isLt⟩).val := by
    blk_ext [idx24 t]
  have cover : ∀ z : S1x544x160.Idx, (128 ≤ (z 2).val → z ∈ (Rect.unit (s := S1x544x160) ![0, 0, 128] ![1, 544, 32] inb_S1x544x160_S1x544x32_0_0_128).set)
      ∧ ((z 2).val < 128 → z ∈ (Rect.unit (s := S1x544x160) ![0, 0, 0] ![1, 544, 128] inb_S1x544x160_S1x544x128_0_0_0).set) := fun z =>
    ⟨fun q => Rect.mem_set_unit.2 fun a => match a with
      | ⟨0, _⟩ => ⟨Nat.zero_le _, (z 0).isLt⟩ | ⟨1, _⟩ => ⟨Nat.zero_le _, (Nat.zero_add 544).symm ▸ (z 1).isLt⟩ | ⟨2, _⟩ => ⟨q, (z 2).isLt⟩,
    fun q => Rect.mem_set_unit.2 fun a => match a with
      | ⟨0, _⟩ => ⟨Nat.zero_le _, (z 0).isLt⟩ | ⟨1, _⟩ => ⟨Nat.zero_le _, (Nat.zero_add 544).symm ▸ (z 1).isLt⟩ | ⟨2, _⟩ => ⟨Nat.zero_le _, (Nat.zero_add 128).symm ▸ q⟩⟩
  canon_tiles x h using by
    by_cases q : 128 ≤ ((win0 24).xinj (grid0.coords t) y 2).val
    · exact ⟨_, List.Mem.head _, (cover _).1 q⟩
    · exact ⟨_, List.Mem.tail _ (List.Mem.head _), (cover _).2 (by omega)⟩
  · obtain ⟨a, r, d, rfl⟩ : ∃ (a : Fin 1) (r : Fin 544) (d : Fin 32), x = ix3 a r d := ⟨x 0, x 1, x 2, by funext k; match k with | ⟨0, _⟩ => rfl | ⟨1, _⟩ => rfl | ⟨2, _⟩ => rfl⟩
    obtain rfl : a = 0 := Subsingleton.elim _ _
    have e1 : (((((View.whole main_v275_12).slice (win0_24.rect t)).emb y) 1 : Fin 2064) : ℕ) = (token t r).val := ht.trans (congrArg (fun q : ℕ => (grid0.coords t 1).val * 544 + q) h1)
    have e2 : (y 2 : ℕ) = 128 + d.val := h2
    refine (crow_hi_tile r (entry t) (token t r) _ _ _ (kvn (hidden m c) (m ((c : Thread nD τ).loc main_arg3))) (krot (hidden m c)) _ e1 (krot_tile _ r (hidden m c) (entry t) (token t r) _ _ _ _ (seg_ckr m c t r _ fun k j => ?_) (ck_blk m c t r) (sa_blk m c t r) (sb_blk m c t r)) d).trans ?_
    · pointwise
    · refine congrArg (crows _) ?_
      blk_ext [idx24 t, e2]
  · obtain ⟨a, r, d, rfl⟩ : ∃ (a : Fin 1) (r : Fin 544) (d : Fin 128), x = ix3 a r d := ⟨x 0, x 1, x 2, by funext k; match k with | ⟨0, _⟩ => rfl | ⟨1, _⟩ => rfl | ⟨2, _⟩ => rfl⟩
    obtain rfl : a = 0 := Subsingleton.elim _ _
    have e1 : (((((View.whole main_v275_12).slice (win0_24.rect t)).emb y) 1 : Fin 2064) : ℕ) = (token t r).val := ht.trans (congrArg (fun q : ℕ => (grid0.coords t 1).val * 544 + q) h1)
    have e2 : (y 2 : ℕ) = d.val := h2
    refine (crow_lo_tile r (entry t) (token t r) _ (kvn (hidden m c) (m ((c : Thread nD τ).loc main_arg3))) (krot (hidden m c)) _ e1 (kvn_tile _ r (hidden m c) (entry t) (token t r) _ _ _ (seg_ckv m c t r _ fun k j => ?_) (kvn_blk m c t)) d).trans ?_
    · pointwise
    · refine congrArg (crows _) ?_
      blk_ext [idx24 t, e2]

theorem final25 : (dats m 0 c).arrAt 25 (cfgs 0).N = crowb (crow (kvn (hidden m c) (m ((c : Thread nD τ).loc main_arg3))) (krot (hidden m c))) := by
  refine (dats m 0 c).arrAt_eq_of_covers 25 _ (by decide +kernel) fun t _ y => ?_
  blk_simp
  rw [after0_25]
  unfold outsAt0
  frame_out
  obtain ⟨a, r, d, rfl⟩ : ∃ (a : Fin 1) (r : Fin 544) (d : Fin 256), y = ix3 a r d := ⟨y 0, y 1, y 2, by funext k; match k with | ⟨0, _⟩ => rfl | ⟨1, _⟩ => rfl | ⟨2, _⟩ => rfl⟩
  obtain rfl : a = 0 := Subsingleton.elim _ _
  refine (crowb_tile r (entry t) (token t r) _ _ _ _ _ _ (kvn_tile _ r (hidden m c) (entry t) (token t r) _ _ _ (seg_ckv m c t r _ fun k j => ?_) (kvn_blk m c t)) (krot_tile _ r (hidden m c) (entry t) (token t r) _ _ _ _ (seg_ckr m c t r _ fun k j => ?_) (ck_blk m c t r) (sa_blk m c t r) (sb_blk m c t r)) d).trans ?_
  · pointwise
  · pointwise
  · blk_ext [idx25 t]

end Cert.Kernel2Ideal.Proj

end
-- ==== Proof.Proj.Value.lean ====
/-
  The projection's result arrays are the reference's, and the two runs end with them.
-/
module

public import proofs.«01_k».proof.Proof.Frames2
public import proofs.«01_k».proof.Proof.Proj.OutA
public import proofs.«01_k».proof.Proof.Proj.OutB
public import proofs.«01_k».proof.Proof.Proj.OutC
public import proofs.«01_k».proof.Proof.Proj.OutD
public import proofs.«01_k».proof.Proof.Proj.OutE
public import proofs.«01_k».proof.Proof.Proj.OutF
public import proofs.«01_k».proof.Proof.Proj.OutG

@[expose] public section

set_option maxRecDepth 16384

noncomputable section

namespace Cert.Proof

open Idealize.ShloMosaic Idealize.ShloMosaic.TcCoe Idealize.SL.Sem
open Cert.Reference2Ideal.Proj (hid aq akv akvb aiq aik aikb aiw gates bq bkv bkvb cn up lat rot cq kvn krot crow crows crowb)

attribute [local instance] Cert.Kernel2.Gen.facts Cert.Kernel2Ideal.Gen.facts Cert.Reference2Ideal.Gen.facts

theorem ends0 (m : (ℓ : Loc Cert.Kernel2Ideal.nD Cert.Kernel2Ideal.τ Cert.Kernel2Ideal.sig) → Buf (Elt Ideal) ℓ) (c : Dev Cert.Kernel2Ideal.nD)
    (r : PUnit × MemSt Cert.Kernel2Ideal.nD Cert.Kernel2Ideal.τ Cert.Kernel2Ideal.sig (Elt Ideal))
    (q : Pipeline.FramePost Cert.Kernel2Ideal.cfgs (Cert.Kernel2Ideal.Gen.dats m) 0 (Cert.Kernel2Ideal.Gen.V m) r) :
    r.2.mem ((c.tc : Thread Cert.Kernel2Ideal.nD Cert.Kernel2Ideal.τ).loc Cert.Kernel2Ideal.main_v275_0) = aq (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) :=
  ((q c).1 12).trans (Cert.Kernel2Ideal.Proj.final12 m c)

theorem ends1 (m : (ℓ : Loc Cert.Kernel2Ideal.nD Cert.Kernel2Ideal.τ Cert.Kernel2Ideal.sig) → Buf (Elt Ideal) ℓ) (c : Dev Cert.Kernel2Ideal.nD)
    (r : PUnit × MemSt Cert.Kernel2Ideal.nD Cert.Kernel2Ideal.τ Cert.Kernel2Ideal.sig (Elt Ideal))
    (q : Pipeline.FramePost Cert.Kernel2Ideal.cfgs (Cert.Kernel2Ideal.Gen.dats m) 0 (Cert.Kernel2Ideal.Gen.V m) r) :
    r.2.mem ((c.tc : Thread Cert.Kernel2Ideal.nD Cert.Kernel2Ideal.τ).loc Cert.Kernel2Ideal.main_v275_1) = akv (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) :=
  ((q c).1 13).trans (Cert.Kernel2Ideal.Proj.final13 m c)

theorem ends2 (m : (ℓ : Loc Cert.Kernel2Ideal.nD Cert.Kernel2Ideal.τ Cert.Kernel2Ideal.sig) → Buf (Elt Ideal) ℓ) (c : Dev Cert.Kernel2Ideal.nD)
    (r : PUnit × MemSt Cert.Kernel2Ideal.nD Cert.Kernel2Ideal.τ Cert.Kernel2Ideal.sig (Elt Ideal))
    (q : Pipeline.FramePost Cert.Kernel2Ideal.cfgs (Cert.Kernel2Ideal.Gen.dats m) 0 (Cert.Kernel2Ideal.Gen.V m) r) :
    r.2.mem ((c.tc : Thread Cert.Kernel2Ideal.nD Cert.Kernel2Ideal.τ).loc Cert.Kernel2Ideal.main_v275_2) = akvb (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) :=
  ((q c).1 14).trans (Cert.Kernel2Ideal.Proj.final14 m c)

theorem ends3 (m : (ℓ : Loc Cert.Kernel2Ideal.nD Cert.Kernel2Ideal.τ Cert.Kernel2Ideal.sig) → Buf (Elt Ideal) ℓ) (c : Dev Cert.Kernel2Ideal.nD)
    (r : PUnit × MemSt Cert.Kernel2Ideal.nD Cert.Kernel2Ideal.τ Cert.Kernel2Ideal.sig (Elt Ideal))
    (q : Pipeline.FramePost Cert.Kernel2Ideal.cfgs (Cert.Kernel2Ideal.Gen.dats m) 0 (Cert.Kernel2Ideal.Gen.V m) r) :
    r.2.mem ((c.tc : Thread Cert.Kernel2Ideal.nD Cert.Kernel2Ideal.τ).loc Cert.Kernel2Ideal.main_v275_3) = aiq (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) :=
  ((q c).1 15).trans (Cert.Kernel2Ideal.Proj.final15 m c)

theorem ends4 (m : (ℓ : Loc Cert.Kernel2Ideal.nD Cert.Kernel2Ideal.τ Cert.Kernel2Ideal.sig) → Buf (Elt Ideal) ℓ) (c : Dev Cert.Kernel2Ideal.nD)
    (r : PUnit × MemSt Cert.Kernel2Ideal.nD Cert.Kernel2Ideal.τ Cert.Kernel2Ideal.sig (Elt Ideal))
    (q : Pipeline.FramePost Cert.Kernel2Ideal.cfgs (Cert.Kernel2Ideal.Gen.dats m) 0 (Cert.Kernel2Ideal.Gen.V m) r) :
    r.2.mem ((c.tc : Thread Cert.Kernel2Ideal.nD Cert.Kernel2Ideal.τ).loc Cert.Kernel2Ideal.main_v275_4) = aik (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) :=
  ((q c).1 16).trans (Cert.Kernel2Ideal.Proj.final16 m c)

theorem ends5 (m : (ℓ : Loc Cert.Kernel2Ideal.nD Cert.Kernel2Ideal.τ Cert.Kernel2Ideal.sig) → Buf (Elt Ideal) ℓ) (c : Dev Cert.Kernel2Ideal.nD)
    (r : PUnit × MemSt Cert.Kernel2Ideal.nD Cert.Kernel2Ideal.τ Cert.Kernel2Ideal.sig (Elt Ideal))
    (q : Pipeline.FramePost Cert.Kernel2Ideal.cfgs (Cert.Kernel2Ideal.Gen.dats m) 0 (Cert.Kernel2Ideal.Gen.V m) r) :
    r.2.mem ((c.tc : Thread Cert.Kernel2Ideal.nD Cert.Kernel2Ideal.τ).loc Cert.Kernel2Ideal.main_v275_5) = aikb (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) :=
  ((q c).1 17).trans (Cert.Kernel2Ideal.Proj.final17 m c)

theorem ends6 (m : (ℓ : Loc Cert.Kernel2Ideal.nD Cert.Kernel2Ideal.τ Cert.Kernel2Ideal.sig) → Buf (Elt Ideal) ℓ) (c : Dev Cert.Kernel2Ideal.nD)
    (r : PUnit × MemSt Cert.Kernel2Ideal.nD Cert.Kernel2Ideal.τ Cert.Kernel2Ideal.sig (Elt Ideal))
    (q : Pipeline.FramePost Cert.Kernel2Ideal.cfgs (Cert.Kernel2Ideal.Gen.dats m) 0 (Cert.Kernel2Ideal.Gen.V m) r) :
    r.2.mem ((c.tc : Thread Cert.Kernel2Ideal.nD Cert.Kernel2Ideal.τ).loc Cert.Kernel2Ideal.main_v275_6) = aiw (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) :=
  ((q c).1 18).trans (Cert.Kernel2Ideal.Proj.final18 m c)

theorem ends7 (m : (ℓ : Loc Cert.Kernel2Ideal.nD Cert.Kernel2Ideal.τ Cert.Kernel2Ideal.sig) → Buf (Elt Ideal) ℓ) (c : Dev Cert.Kernel2Ideal.nD)
    (r : PUnit × MemSt Cert.Kernel2Ideal.nD Cert.Kernel2Ideal.τ Cert.Kernel2Ideal.sig (Elt Ideal))
    (q : Pipeline.FramePost Cert.Kernel2Ideal.cfgs (Cert.Kernel2Ideal.Gen.dats m) 0 (Cert.Kernel2Ideal.Gen.V m) r) :
    r.2.mem ((c.tc : Thread Cert.Kernel2Ideal.nD Cert.Kernel2Ideal.τ).loc Cert.Kernel2Ideal.main_v275_7) = gates (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) :=
  ((q c).1 19).trans (Cert.Kernel2Ideal.Proj.final19 m c)

theorem ends8 (m : (ℓ : Loc Cert.Kernel2Ideal.nD Cert.Kernel2Ideal.τ Cert.Kernel2Ideal.sig) → Buf (Elt Ideal) ℓ) (c : Dev Cert.Kernel2Ideal.nD)
    (r : PUnit × MemSt Cert.Kernel2Ideal.nD Cert.Kernel2Ideal.τ Cert.Kernel2Ideal.sig (Elt Ideal))
    (q : Pipeline.FramePost Cert.Kernel2Ideal.cfgs (Cert.Kernel2Ideal.Gen.dats m) 0 (Cert.Kernel2Ideal.Gen.V m) r) :
    r.2.mem ((c.tc : Thread Cert.Kernel2Ideal.nD Cert.Kernel2Ideal.τ).loc Cert.Kernel2Ideal.main_v275_8) = bq (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) :=
  ((q c).1 20).trans (Cert.Kernel2Ideal.Proj.final20 m c)

theorem ends9 (m : (ℓ : Loc Cert.Kernel2Ideal.nD Cert.Kernel2Ideal.τ Cert.Kernel2Ideal.sig) → Buf (Elt Ideal) ℓ) (c : Dev Cert.Kernel2Ideal.nD)
    (r : PUnit × MemSt Cert.Kernel2Ideal.nD Cert.Kernel2Ideal.τ Cert.Kernel2Ideal.sig (Elt Ideal))
    (q : Pipeline.FramePost Cert.Kernel2Ideal.cfgs (Cert.Kernel2Ideal.Gen.dats m) 0 (Cert.Kernel2Ideal.Gen.V m) r) :
    r.2.mem ((c.tc : Thread Cert.Kernel2Ideal.nD Cert.Kernel2Ideal.τ).loc Cert.Kernel2Ideal.main_v275_9) = bkv (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) :=
  ((q c).1 21).trans (Cert.Kernel2Ideal.Proj.final21 m c)

theorem ends10 (m : (ℓ : Loc Cert.Kernel2Ideal.nD Cert.Kernel2Ideal.τ Cert.Kernel2Ideal.sig) → Buf (Elt Ideal) ℓ) (c : Dev Cert.Kernel2Ideal.nD)
    (r : PUnit × MemSt Cert.Kernel2Ideal.nD Cert.Kernel2Ideal.τ Cert.Kernel2Ideal.sig (Elt Ideal))
    (q : Pipeline.FramePost Cert.Kernel2Ideal.cfgs (Cert.Kernel2Ideal.Gen.dats m) 0 (Cert.Kernel2Ideal.Gen.V m) r) :
    r.2.mem ((c.tc : Thread Cert.Kernel2Ideal.nD Cert.Kernel2Ideal.τ).loc Cert.Kernel2Ideal.main_v275_10) = bkvb (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) :=
  ((q c).1 22).trans (Cert.Kernel2Ideal.Proj.final22 m c)

theorem ends11 (m : (ℓ : Loc Cert.Kernel2Ideal.nD Cert.Kernel2Ideal.τ Cert.Kernel2Ideal.sig) → Buf (Elt Ideal) ℓ) (c : Dev Cert.Kernel2Ideal.nD)
    (r : PUnit × MemSt Cert.Kernel2Ideal.nD Cert.Kernel2Ideal.τ Cert.Kernel2Ideal.sig (Elt Ideal))
    (q : Pipeline.FramePost Cert.Kernel2Ideal.cfgs (Cert.Kernel2Ideal.Gen.dats m) 0 (Cert.Kernel2Ideal.Gen.V m) r) :
    r.2.mem ((c.tc : Thread Cert.Kernel2Ideal.nD Cert.Kernel2Ideal.τ).loc Cert.Kernel2Ideal.main_v275_11) = cq (lat (up (cn (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) (m ((c.tc : Thread Cert.Kernel2Ideal.nD Cert.Kernel2Ideal.τ).loc Cert.Kernel2Ideal.main_arg2))) (m ((c.tc : Thread Cert.Kernel2Ideal.nD Cert.Kernel2Ideal.τ).loc Cert.Kernel2Ideal.main_arg4))) (m ((c.tc : Thread Cert.Kernel2Ideal.nD Cert.Kernel2Ideal.τ).loc Cert.Kernel2Ideal.main_arg5))) (rot (up (cn (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) (m ((c.tc : Thread Cert.Kernel2Ideal.nD Cert.Kernel2Ideal.τ).loc Cert.Kernel2Ideal.main_arg2))) (m ((c.tc : Thread Cert.Kernel2Ideal.nD Cert.Kernel2Ideal.τ).loc Cert.Kernel2Ideal.main_arg4)))) :=
  ((q c).1 23).trans (Cert.Kernel2Ideal.Proj.final23 m c)

theorem ends12 (m : (ℓ : Loc Cert.Kernel2Ideal.nD Cert.Kernel2Ideal.τ Cert.Kernel2Ideal.sig) → Buf (Elt Ideal) ℓ) (c : Dev Cert.Kernel2Ideal.nD)
    (r : PUnit × MemSt Cert.Kernel2Ideal.nD Cert.Kernel2Ideal.τ Cert.Kernel2Ideal.sig (Elt Ideal))
    (q : Pipeline.FramePost Cert.Kernel2Ideal.cfgs (Cert.Kernel2Ideal.Gen.dats m) 0 (Cert.Kernel2Ideal.Gen.V m) r) :
    r.2.mem ((c.tc : Thread Cert.Kernel2Ideal.nD Cert.Kernel2Ideal.τ).loc Cert.Kernel2Ideal.main_v275_12) = crows (crow (kvn (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) (m ((c.tc : Thread Cert.Kernel2Ideal.nD Cert.Kernel2Ideal.τ).loc Cert.Kernel2Ideal.main_arg3))) (krot (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))))) :=
  ((q c).1 24).trans (Cert.Kernel2Ideal.Proj.final24 m c)

theorem ends13 (m : (ℓ : Loc Cert.Kernel2Ideal.nD Cert.Kernel2Ideal.τ Cert.Kernel2Ideal.sig) → Buf (Elt Ideal) ℓ) (c : Dev Cert.Kernel2Ideal.nD)
    (r : PUnit × MemSt Cert.Kernel2Ideal.nD Cert.Kernel2Ideal.τ Cert.Kernel2Ideal.sig (Elt Ideal))
    (q : Pipeline.FramePost Cert.Kernel2Ideal.cfgs (Cert.Kernel2Ideal.Gen.dats m) 0 (Cert.Kernel2Ideal.Gen.V m) r) :
    r.2.mem ((c.tc : Thread Cert.Kernel2Ideal.nD Cert.Kernel2Ideal.τ).loc Cert.Kernel2Ideal.main_v275_13) = crowb (crow (kvn (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) (m ((c.tc : Thread Cert.Kernel2Ideal.nD Cert.Kernel2Ideal.τ).loc Cert.Kernel2Ideal.main_arg3))) (krot (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))))) :=
  ((q c).1 25).trans (Cert.Kernel2Ideal.Proj.final25 m c)

/-- The two programs of the projection end with the same results. -/
theorem same_project : Cert.algebraic_Kernel2Ideal_Reference2Ideal := by
  intro m g m' g' _ hargs
  refine ⟨fun c => aq (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))),
    fun c => akv (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))),
    fun c => akvb (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))),
    fun c => aiq (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))),
    fun c => aik (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))),
    fun c => aikb (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))),
    fun c => aiw (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))),
    fun c => gates (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))),
    fun c => bq (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))),
    fun c => bkv (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))),
    fun c => bkvb (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))),
    fun c => cq (lat (up (cn (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) (m ((c.tc : Thread Cert.Kernel2Ideal.nD Cert.Kernel2Ideal.τ).loc Cert.Kernel2Ideal.main_arg2))) (m ((c.tc : Thread Cert.Kernel2Ideal.nD Cert.Kernel2Ideal.τ).loc Cert.Kernel2Ideal.main_arg4))) (m ((c.tc : Thread Cert.Kernel2Ideal.nD Cert.Kernel2Ideal.τ).loc Cert.Kernel2Ideal.main_arg5))) (rot (up (cn (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) (m ((c.tc : Thread Cert.Kernel2Ideal.nD Cert.Kernel2Ideal.τ).loc Cert.Kernel2Ideal.main_arg2))) (m ((c.tc : Thread Cert.Kernel2Ideal.nD Cert.Kernel2Ideal.τ).loc Cert.Kernel2Ideal.main_arg4)))),
    fun c => crows (crow (kvn (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) (m ((c.tc : Thread Cert.Kernel2Ideal.nD Cert.Kernel2Ideal.τ).loc Cert.Kernel2Ideal.main_arg3))) (krot (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))))),
    fun c => crowb (crow (kvn (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) (m ((c.tc : Thread Cert.Kernel2Ideal.nD Cert.Kernel2Ideal.τ).loc Cert.Kernel2Ideal.main_arg3))) (krot (hid (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))))), ?_, ?_⟩
  · refine (θ_run Cert.Kernel2Ideal.defs _ _).mono (fun r q c => ?_) (θ_run_and (Cert.Kernel2Ideal.Gen.run_main m g) (Cert.Kernel2Ideal.Gen.unchanged m g))
    exact ⟨ends0 m c r q.1, ends1 m c r q.1, ends2 m c r q.1, ends3 m c r q.1, ends4 m c r q.1, ends5 m c r q.1, ends6 m c r q.1, ends7 m c r q.1, ends8 m c r q.1, ends9 m c r q.1, ends10 m c r q.1, ends11 m c r q.1, ends12 m c r q.1, ends13 m c r q.1, q.2 c⟩
  · refine (θ_run Cert.Reference2Ideal.defs _ _).mono (fun r q c => ?_) (Cert.Reference2Ideal.Value.run (F := Ideal) m' g')
    replace q := q c
    obtain ⟨h0, h1, h2, h3, h4, h5⟩ := hargs c
    have e := congrArg₂ hid h0 h1
    have eu := congrArg₂ up (congrArg₂ cn e h2) h4
    have ec := congrArg₂ crow (congrArg₂ kvn e h3) (congrArg krot e)
    exact ⟨(show r.2.mem _ = aq (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) from q.1).trans (congrArg aq e),
      (show r.2.mem _ = akv (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) from q.2.1).trans (congrArg akv e),
      (show r.2.mem _ = akvb (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) from q.2.2.1).trans (congrArg akvb e),
      (show r.2.mem _ = aiq (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) from q.2.2.2.1).trans (congrArg aiq e),
      (show r.2.mem _ = aik (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) from q.2.2.2.2.1).trans (congrArg aik e),
      (show r.2.mem _ = aikb (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) from q.2.2.2.2.2.1).trans (congrArg aikb e),
      (show r.2.mem _ = aiw (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) from q.2.2.2.2.2.2.1).trans (congrArg aiw e),
      (show r.2.mem _ = gates (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) from q.2.2.2.2.2.2.2.1).trans (congrArg gates e),
      (show r.2.mem _ = bq (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) from q.2.2.2.2.2.2.2.2.1).trans (congrArg bq e),
      (show r.2.mem _ = bkv (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) from q.2.2.2.2.2.2.2.2.2.1).trans (congrArg bkv e),
      (show r.2.mem _ = bkvb (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) from q.2.2.2.2.2.2.2.2.2.2.1).trans (congrArg bkvb e),
      (show r.2.mem _ = cq (lat (up (cn (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) (m' ((c.tc : Thread Cert.Reference2Ideal.nD Cert.Reference2Ideal.τ).loc Cert.Reference2Ideal.main_arg2))) (m' ((c.tc : Thread Cert.Reference2Ideal.nD Cert.Reference2Ideal.τ).loc Cert.Reference2Ideal.main_arg4))) (m' ((c.tc : Thread Cert.Reference2Ideal.nD Cert.Reference2Ideal.τ).loc Cert.Reference2Ideal.main_arg5))) (rot (up (cn (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) (m' ((c.tc : Thread Cert.Reference2Ideal.nD Cert.Reference2Ideal.τ).loc Cert.Reference2Ideal.main_arg2))) (m' ((c.tc : Thread Cert.Reference2Ideal.nD Cert.Reference2Ideal.τ).loc Cert.Reference2Ideal.main_arg4)))) from q.2.2.2.2.2.2.2.2.2.2.2.1).trans (congrArg₂ cq (congrArg₂ lat eu h5) (congrArg rot eu)),
      (show r.2.mem _ = crows (crow (kvn (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) (m' ((c.tc : Thread Cert.Reference2Ideal.nD Cert.Reference2Ideal.τ).loc Cert.Reference2Ideal.main_arg3))) (krot (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))))) from q.2.2.2.2.2.2.2.2.2.2.2.2.1).trans (congrArg crows ec),
      (show r.2.mem _ = crowb (crow (kvn (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) (m' ((c.tc : Thread Cert.Reference2Ideal.nD Cert.Reference2Ideal.τ).loc Cert.Reference2Ideal.main_arg3))) (krot (hid (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))))) from q.2.2.2.2.2.2.2.2.2.2.2.2.2.1).trans (congrArg crowb ec),
      q.2.2.2.2.2.2.2.2.2.2.2.2.2.2⟩

end Cert.Proof

end
-- ==== Proof.Frames3.lean ====
/-
  The runs of the merge's programs.
-/
module

public import proofs.«01_k».proof.Defs
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import Idealize.ShloMosaic.Lib.Quiescent

@[expose] public section

noncomputable section

namespace Cert.Proof

open Idealize.ShloMosaic Idealize.SL.Sem

attribute [local instance] Cert.Kernel3.Gen.facts Cert.Kernel3Ideal.Gen.facts Cert.Reference3Ideal.Gen.facts

/-- The merge runs, keeps its arguments and leaves every counter at zero. -/
theorem runs_Kernel3 : Cert.quiescent_Kernel3 :=
  fun m g _ => Cert.Kernel3.Gen.frame m g

/-- The same of the merge over the extended reals. -/
theorem runs_Kernel3Ideal : Cert.quiescent_Kernel3Ideal :=
  fun m g _ => Cert.Kernel3Ideal.Gen.frame m g

/-- The reference of the merge runs over the extended reals; it declares no counter. -/
theorem runs_Reference3Ideal : Cert.quiescent_Reference3Ideal :=
  fun m g _ => (θ_run Cert.Reference3Ideal.defs _ _).mono
    (fun r h => ⟨fun c => (h c).2, sem_eq_zero_of_no_sems (by decide) r.2⟩)
    (Cert.Reference3Ideal.Value.run (F := Ideal) m g)

/-- No constant of the merge is renamed. -/
theorem preserved_Kernel3 : Cert.preserves_Kernel3_Kernel3Ideal := trivial

end Cert.Proof

end
-- ==== Proof.Merge.Ref.lean ====
/-
  The reference's merged stream, entry by entry: the gated outputs' projection added to the stream, then normalised.
-/
module

public import proofs.«01_k».proof.Proof.Gen.Reference3Ideal.Run
public import Idealize.ShloMosaic.Lib.Pointwise

@[expose] public section

set_option maxRecDepth 16384

noncomputable section

namespace Cert.Reference3Ideal.Merge

open Cert.Reference3Ideal Cert.Reference3Ideal.Gen Cert.Reference3Ideal.Value
open Idealize.ShloMosaic Idealize.ShloMosaic.TcCoe Idealize.SL.Sem

/-- The three groups' outputs, gated, side by side. -/
def gated (X1 : FVec Ideal S16x2176x1024 .f32) (X2 X3 : FVec Ideal S16x2176x256 .f32) (X4 : FVec Ideal S16x2176x512 .f32) :
    FVec Ideal S16x2176x1024 .f32 :=
  (concatenate S16x2176x1024 2 [⟨S16x2176x256, ((mulf X2 (mulf (extractStridedSlice S16x2176x256 ![0, 0, 0] X1 slices_S16x2176x1024_S16x2176x256_0_0_0) (Host.divf (broadcastInDim S16x2176x256 ![] bcast_S_S16x2176x256 (constant S_ .f32 0x3F800000#32)) (addf (broadcastInDim S16x2176x256 ![] bcast_S_S16x2176x256 (constant S_ .f32 0x3F800000#32)) (Host.exp (Host.negf (extractStridedSlice S16x2176x256 ![0, 0, 0] X1 slices_S16x2176x1024_S16x2176x256_0_0_0))))))) : (⟨S16x2176x256, .f32⟩ : BufTy).Contents (Elt Ideal))⟩, ⟨S16x2176x256, ((mulf X3 (mulf (extractStridedSlice S16x2176x256 ![0, 0, 256] X1 slices_S16x2176x1024_S16x2176x256_0_0_256) (Host.divf (broadcastInDim S16x2176x256 ![] bcast_S_S16x2176x256 (constant S_ .f32 0x3F800000#32)) (addf (broadcastInDim S16x2176x256 ![] bcast_S_S16x2176x256 (constant S_ .f32 0x3F800000#32)) (Host.exp (Host.negf (extractStridedSlice S16x2176x256 ![0, 0, 256] X1 slices_S16x2176x1024_S16x2176x256_0_0_256))))))) : (⟨S16x2176x256, .f32⟩ : BufTy).Contents (Elt Ideal))⟩, ⟨S16x2176x512, ((mulf X4 (mulf (extractStridedSlice S16x2176x512 ![0, 0, 512] X1 slices_S16x2176x1024_S16x2176x512_0_0_512) (Host.divf (broadcastInDim S16x2176x512 ![] bcast_S_S16x2176x512 (constant S_ .f32 0x3F800000#32)) (addf (broadcastInDim S16x2176x512 ![] bcast_S_S16x2176x512 (constant S_ .f32 0x3F800000#32)) (Host.exp (Host.negf (extractStridedSlice S16x2176x512 ![0, 0, 512] X1 slices_S16x2176x1024_S16x2176x512_0_0_512))))))) : (⟨S16x2176x512, .f32⟩ : BufTy).Contents (Elt Ideal))⟩] concatenates_S16x2176x256_S16x2176x256_S16x2176x512_S16x2176x1024_d2)

/-- The stream plus the projection of the gated outputs. -/
def summed (X0 G : FVec Ideal S16x2176x1024 .f32) (X5 : FVec Ideal S1024x1024 .f32) : FVec Ideal S16x2176x1024 .f32 :=
  addf (mulf (broadcastInDim S16x2176x1024 ![] bcast_S_S16x2176x1024 (constant S_ .f32 0x3FB504F3#32)) X0) (Host.dotGeneral dot_S16x2176x1024_S1024x1024_S16x2176x1024_2_0_01_1_n_n none G X5)

/-- A row without its mean. -/
def centred (R : FVec Ideal S16x2176x1024 .f32) : FVec Ideal S16x2176x1024 .f32 :=
  subf R (broadcastInDim S16x2176x1024 ![0, 1, 2] bcast_S16x2176x1_S16x2176x1024_0_1_2 (Host.divf (broadcastInDim S16x2176x1 ![0, 1] bcast_S16x2176_S16x2176x1_0_1 (Host.reduceAdd R (constant S_ .f32 0x00000000#32) reducesTo_S16x2176x1024_S16x2176_d2 h_S_)) (broadcastInDim S16x2176x1 ![] bcast_S_S16x2176x1 (constant S_ .f32 0x44800000#32))))

/-- The normalised row, scaled and shifted. -/
def normed (R : FVec Ideal S16x2176x1024 .f32) (X6 X7 : FVec Ideal S1024 .f32) : FVec Ideal S16x2176x1024 .f32 :=
  addf (mulf (mulf (centred R) (broadcastInDim S16x2176x1024 ![0, 1, 2] bcast_S16x2176x1_S16x2176x1024_0_1_2 (Host.rsqrt (addf (Host.divf (broadcastInDim S16x2176x1 ![0, 1] bcast_S16x2176_S16x2176x1_0_1 (Host.reduceAdd (mulf (centred R) (centred R)) (constant S_ .f32 0x00000000#32) reducesTo_S16x2176x1024_S16x2176_d2 h_S_)) (broadcastInDim S16x2176x1 ![] bcast_S_S16x2176x1 (constant S_ .f32 0x44800000#32))) (broadcastInDim S16x2176x1 ![] bcast_S_S16x2176x1 (constant S_ .f32 0x3727C5AC#32)))))) (broadcastInDim S16x2176x1024 ![0, 1, 2] bcast_S1x1x1024_S16x2176x1024_0_1_2 (broadcastInDim S1x1x1024 ![2] bcast_S1024_S1x1x1024_2 X6))) (broadcastInDim S16x2176x1024 ![0, 1, 2] bcast_S1x1x1024_S16x2176x1024_0_1_2 (broadcastInDim S1x1x1024 ![2] bcast_S1024_S1x1x1024_2 X7))

/-- The result. -/
def result (X0 X1 : FVec Ideal S16x2176x1024 .f32) (X2 X3 : FVec Ideal S16x2176x256 .f32) (X4 : FVec Ideal S16x2176x512 .f32)
    (X5 : FVec Ideal S1024x1024 .f32) (X6 X7 : FVec Ideal S1024 .f32) : FVec Ideal S16x2176x1024 .f32 :=
  normed (summed X0 (gated X1 X2 X3 X4) X5) X6 X7

theorem res_eq (m : (ℓ : Loc nD τ sig) → Buf (Elt Ideal) ℓ) (c : Dev nD) :
    res_main_v37 (F := Ideal) m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

variable (X0 X1 : FVec Ideal S16x2176x1024 .f32) (X2 X3 : FVec Ideal S16x2176x256 .f32) (X4 : FVec Ideal S16x2176x512 .f32)
    (X5 : FVec Ideal S1024x1024 .f32) (X6 X7 : FVec Ideal S1024 .f32) (R : FVec Ideal S16x2176x1024 .f32)
    (b : Fin 16) (t : Fin 2176) (d : Fin 1024)

theorem gated_at (k : Fin 1024) : gated X1 X2 X3 X4 (ix3 b t k)
    = (if h : k.val < 256 then (X2 (ix3 b t ⟨k.val, h⟩) : EReal)
        else if h' : k.val - 256 < 256 then X3 (ix3 b t ⟨k.val - 256, h'⟩) else X4 (ix3 b t ⟨k.val - 256 - 256, by omega⟩))
      * (X1 (ix3 b t k) * Ideal.logistic (X1 (ix3 b t k))) := by
  pointwise [gated]
  unfold Ideal.logistic
  by_cases h : k.val < 256
  · simp only [dif_pos h]
  · by_cases h' : k.val - 256 < 256
    · have e : (⟨256 + (k.val - 256), by omega⟩ : Fin 1024) = k := Fin.ext (by dsimp only; omega)
      simp only [dif_neg h, dif_pos h', e]
    · have e : (⟨512 + (k.val - 256 - 256), by omega⟩ : Fin 1024) = k := Fin.ext (by dsimp only; omega)
      simp only [dif_neg h, dif_neg h', e]

theorem summed_at (G : FVec Ideal S16x2176x1024 .f32) : summed X0 G X5 (ix3 b t d)
    = Ideal.ofBits .f32 0x3FB504F3#32 * X0 (ix3 b t d) + ∑ k : Fin 1024, (G (ix3 b t k) : EReal) * X5 (ix2 k d) := by
  pointwise [summed]

theorem centred_at : centred R (ix3 b t d) = (R (ix3 b t d) : EReal) - Ideal.div (∑ k : Fin 1024, (R (ix3 b t k) : EReal)) (Ideal.ofBits .f32 0x44800000#32) := by
  pointwise [centred]

theorem normed_at : normed R X6 X7 (ix3 b t d)
    = (centred R (ix3 b t d) : EReal)
        * Ideal.rsqrt (Ideal.div (∑ k : Fin 1024, (centred R (ix3 b t k) : EReal) * centred R (ix3 b t k)) (Ideal.ofBits .f32 0x44800000#32)
            + Ideal.ofBits .f32 0x3727C5AC#32) * X6 (ix1 d) + X7 (ix1 d) := by
  pointwise [normed]

end Cert.Reference3Ideal.Merge

end
-- ==== Proof.Merge.Pay.lean ====
/-
  What one grid point of the merge stores, entry by entry.
-/
module

public import proofs.«01_k».proof.Proof.Gen.Kernel3Ideal.Skeleton
public import Idealize.ShloMosaic.Lib.Pointwise

@[expose] public section

set_option maxRecDepth 16384

noncomputable section

namespace Cert.Kernel3Ideal.Merge

open Cert.Kernel3Ideal Cert.Kernel3Ideal.Gen
open Idealize.ShloMosaic Idealize.ShloMosaic.TcCoe Idealize.SL.Sem

variable (g : Vec Ideal S1x544x1024 .f32) (oa ob : Vec Ideal S1x544x256 .f32) (oc : Vec Ideal S1x544x512 .f32)
  (x : Vec Ideal S1x544x1024 .f32) (w : Vec Ideal S1024x1024 .bf16) (r : Fin 544) (d : Fin 1024)

/-- The gated outputs at a row. -/
def gated (k : Fin 1024) : EReal :=
  (if h : k.val < 256 then (oa (ix3 0 r ⟨k.val, h⟩) : EReal)
    else if h' : k.val - 256 < 256 then ob (ix3 0 r ⟨k.val - 256, h'⟩) else oc (ix3 0 r ⟨k.val - 256 - 256, by omega⟩))
  * (g (ix3 0 r k) * Ideal.logistic (g (ix3 0 r k)))

/-- The stream plus the projected outputs at a row. -/
def summed : EReal :=
  Ideal.ofBits .f32 0x3FB504F3#32 * x (ix3 0 r d) + ∑ k : Fin 1024, gated g oa ob oc r k * (w (ix2 k d) : EReal)

theorem centred_at : k0_pay2 (F := Ideal) g oa ob oc x w (ix2 r d)
    = summed g oa ob oc x w r d
      - Ideal.div (∑ k : Fin 1024, summed g oa ob oc x w r k) (Ideal.ofBits .f32 0x44800000#32) := by
  pointwise [k0_pay2, summed, gated]

theorem spread_at : k0_pay3 (F := Ideal) g oa ob oc x w (ix2 r 0)
    = Ideal.div (∑ k : Fin 1024, (k0_pay2 (F := Ideal) g oa ob oc x w (ix2 r k) : EReal) * k0_pay2 (F := Ideal) g oa ob oc x w (ix2 r k))
        (Ideal.ofBits .f32 0x44800000#32) + Ideal.ofBits .f32 0x3727C5AC#32 := by
  pointwise [k0_pay3]

theorem stored_at (u : FVec Ideal S544x1024 .f32) (v : FVec Ideal S544x1 .f32) (p q : Vec Ideal S1x1024 .f32) :
    k0_pay1 (F := Ideal) u v p q (ix3 0 r d) = (u (ix2 r d) : EReal) * Ideal.rsqrt (v (ix2 r 0)) * p (ix2 0 d) + q (ix2 0 d) := by
  pointwise [k0_pay1]

end Cert.Kernel3Ideal.Merge

end
-- ==== Proof.Merge.Value.lean ====
/-
  The merge's result array is the reference's, and the two runs end with it.
-/
module

public import proofs.«01_k».proof.Proof.Frames3
public import proofs.«01_k».proof.Proof.Merge.Ref
public import proofs.«01_k».proof.Proof.Merge.Pay
public import Idealize.ShloMosaic.Lib.Pipeline.ValueKit

@[expose] public section

set_option maxRecDepth 16384

noncomputable section

namespace Cert.Kernel3Ideal.Merge

open Cert.Kernel3Ideal Cert.Kernel3Ideal.Gen
open Idealize.ShloMosaic Idealize.ShloMosaic.TcCoe Idealize.SL.Sem
open Idealize.ShloMosaic.Pipeline (Dat)
open Cert.Reference3Ideal.Merge (result)

/-- What a grid point stores is the reference's result, when its blocks are the arrays' rows. -/
theorem tile_eq (g : Vec Ideal S1x544x1024 .f32) (oa ob : Vec Ideal S1x544x256 .f32) (oc : Vec Ideal S1x544x512 .f32)
    (x : Vec Ideal S1x544x1024 .f32) (w : Vec Ideal S1024x1024 .bf16) (p q : Vec Ideal S1x1024 .f32)
    (X0 X1 : FVec Ideal S16x2176x1024 .f32) (X2 X3 : FVec Ideal S16x2176x256 .f32) (X4 : FVec Ideal S16x2176x512 .f32)
    (X5 : FVec Ideal S1024x1024 .f32) (X6 X7 : FVec Ideal S1024 .f32) (b : Fin 16) (t : Fin 2176) (r : Fin 544)
    (h0 : ∀ k, x (ix3 0 r k) = X0 (ix3 b t k)) (h1 : ∀ k, g (ix3 0 r k) = X1 (ix3 b t k))
    (h2 : ∀ k, oa (ix3 0 r k) = X2 (ix3 b t k)) (h3 : ∀ k, ob (ix3 0 r k) = X3 (ix3 b t k)) (h4 : ∀ k, oc (ix3 0 r k) = X4 (ix3 b t k))
    (h5 : ∀ k d, w (ix2 k d) = X5 (ix2 k d)) (h6 : ∀ d, p (ix2 0 d) = X6 (ix1 d)) (h7 : ∀ d, q (ix2 0 d) = X7 (ix1 d)) (d : Fin 1024) :
    k0_pay1 (F := Ideal) (k0_pay2 g oa ob oc x w) (k0_pay3 g oa ob oc x w) p q (ix3 0 r d)
      = result X0 X1 X2 X3 X4 X5 X6 X7 (ix3 b t d) := by
  have e1 : ∀ k, gated g oa ob oc r k = Cert.Reference3Ideal.Merge.gated X1 X2 X3 X4 (ix3 b t k) := fun k => by
    rw [Cert.Reference3Ideal.Merge.gated_at]
    simp only [gated, h1, h2, h3, h4]
  have e2 : ∀ k, summed g oa ob oc x w r k
      = Cert.Reference3Ideal.Merge.summed X0 (Cert.Reference3Ideal.Merge.gated X1 X2 X3 X4) X5 (ix3 b t k) := fun k => by
    rw [Cert.Reference3Ideal.Merge.summed_at]
    simp only [summed, h0, h5, e1]
  have e3 : ∀ k, k0_pay2 (F := Ideal) g oa ob oc x w (ix2 r k)
      = Cert.Reference3Ideal.Merge.centred (Cert.Reference3Ideal.Merge.summed X0 (Cert.Reference3Ideal.Merge.gated X1 X2 X3 X4) X5) (ix3 b t k) := fun k => by
    rw [Cert.Reference3Ideal.Merge.centred_at, centred_at]
    simp only [e2]
  unfold result
  rw [stored_at, spread_at, Cert.Reference3Ideal.Merge.normed_at, h6, h7]
  simp only [e3]

theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![0, 0] ∧ win0_6.index t = ![0, 0] ∧ win0_7.index t = ![0, 0]
    ∧ win0_8.index t = ![(grid0.coords t 0).val, (grid0.coords t 1).val, 0] :=
  (by decide +kernel : ∀ t : Fin grid0.N, _)

variable (m : (ℓ : Loc nD τ sig) → Buf (Elt Ideal) ℓ) (c : Dev nD) (t : Fin cfg0.N)

theorem tile_lt : (grid0.coords t 1).val < 4 := (grid0.coords t 1).isLt

/-- The batch entry of a grid point. -/
abbrev entry : Fin 16 := ⟨(grid0.coords t 0).val, (grid0.coords t 0).isLt⟩

/-- The token of a row at a grid point. -/
abbrev token (r : Fin 544) : Fin 2176 := ⟨(grid0.coords t 1).val * 544 + r.val, by have := tile_lt t; omega⟩

theorem stream_at (r : Fin 544) (k : Fin 1024) : (iblk m c 0 t : FVec Ideal S1x544x1024 .f32) (ix3 0 r k)
    = (m ((c : Thread nD τ).loc main_arg0) : FVec Ideal S16x2176x1024 .f32) (ix3 (entry t) (token t r) k) := by
  blk_ext [iblk, V, idx t]

theorem gates_at (r : Fin 544) (k : Fin 1024) : (iblk m c 1 t : FVec Ideal S1x544x1024 .f32) (ix3 0 r k)
    = (m ((c : Thread nD τ).loc main_arg1) : FVec Ideal S16x2176x1024 .f32) (ix3 (entry t) (token t r) k) := by
  blk_ext [iblk, V, idx t]

theorem first_at (r : Fin 544) (k : Fin 256) : (iblk m c 2 t : FVec Ideal S1x544x256 .f32) (ix3 0 r k)
    = (m ((c : Thread nD τ).loc main_arg2) : FVec Ideal S16x2176x256 .f32) (ix3 (entry t) (token t r) k) := by
  blk_ext [iblk, V, idx t]

theorem second_at (r : Fin 544) (k : Fin 256) : (iblk m c 3 t : FVec Ideal S1x544x256 .f32) (ix3 0 r k)
    = (m ((c : Thread nD τ).loc main_arg3) : FVec Ideal S16x2176x256 .f32) (ix3 (entry t) (token t r) k) := by
  blk_ext [iblk, V, idx t]

theorem third_at (r : Fin 544) (k : Fin 512) : (iblk m c 4 t : FVec Ideal S1x544x512 .f32) (ix3 0 r k)
    = (m ((c : Thread nD τ).loc main_arg4) : FVec Ideal S16x2176x512 .f32) (ix3 (entry t) (token t r) k) := by
  blk_ext [iblk, V, idx t]

theorem weights_at (k d : Fin 1024) : (iblk m c 5 t : FVec Ideal S1024x1024 .bf16) (ix2 k d)
    = (m ((c : Thread nD τ).loc main_arg5) : FVec Ideal S1024x1024 .f32) (ix2 k d) := by
  blk_simp [iblk, idx t]
  entry_read
  pointwise
  blk_ext [idx t]

theorem scale_at (d : Fin 1024) : (iblk m c 6 t : FVec Ideal S1x1024 .f32) (ix2 0 d)
    = (m ((c : Thread nD τ).loc main_arg6) : FVec Ideal S1024 .f32) (ix1 d) := by
  blk_simp [iblk, idx t]
  entry_read
  pointwise
  blk_ext [idx t]

theorem shift_at (d : Fin 1024) : (iblk m c 7 t : FVec Ideal S1x1024 .f32) (ix2 0 d)
    = (m ((c : Thread nD τ).loc main_arg7) : FVec Ideal S1024 .f32) (ix1 d) := by
  blk_simp [iblk, idx t]
  entry_read
  pointwise
  blk_ext [idx t]

/-- The result array after the run. -/
theorem final : (dats m 0 c).arrAt 8 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after0_8]
  frame_out
  obtain ⟨a, r, d, rfl⟩ : ∃ (a : Fin 1) (r : Fin 544) (d : Fin 1024), y = ix3 a r d := ⟨y 0, y 1, y 2, by funext k; match k with | ⟨0, _⟩ => rfl | ⟨1, _⟩ => rfl | ⟨2, _⟩ => rfl⟩
  obtain rfl : a = 0 := Subsingleton.elim _ _
  refine (tile_eq _ _ _ _ _ _ _ _ _ _ _ _ _ _ _ _ (entry t) (token t r) r (stream_at m c t r) (gates_at m c t r) (first_at m c t r)
    (second_at m c t r) (third_at m c t r) (weights_at m c t) (scale_at m c t) (shift_at m c t) d).trans ?_
  blk_ext [idx t]

end Cert.Kernel3Ideal.Merge

namespace Cert.Proof

open Idealize.ShloMosaic Idealize.ShloMosaic.TcCoe Idealize.SL.Sem

attribute [local instance] Cert.Kernel3.Gen.facts Cert.Kernel3Ideal.Gen.facts Cert.Reference3Ideal.Gen.facts

/-- The two programs of the merge end with the same result. -/
theorem same_merge : Cert.algebraic_Kernel3Ideal_Reference3Ideal := by
  intro m g m' g' _ hargs
  refine ⟨fun c => Cert.Reference3Ideal.Merge.result (m (((c.tc : Thread Cert.Kernel3Ideal.nD Cert.Kernel3Ideal.τ)).loc Cert.Kernel3Ideal.main_arg0))
    (m (((c.tc : Thread Cert.Kernel3Ideal.nD Cert.Kernel3Ideal.τ)).loc Cert.Kernel3Ideal.main_arg1))
    (m (((c.tc : Thread Cert.Kernel3Ideal.nD Cert.Kernel3Ideal.τ)).loc Cert.Kernel3Ideal.main_arg2))
    (m (((c.tc : Thread Cert.Kernel3Ideal.nD Cert.Kernel3Ideal.τ)).loc Cert.Kernel3Ideal.main_arg3))
    (m (((c.tc : Thread Cert.Kernel3Ideal.nD Cert.Kernel3Ideal.τ)).loc Cert.Kernel3Ideal.main_arg4))
    (m (((c.tc : Thread Cert.Kernel3Ideal.nD Cert.Kernel3Ideal.τ)).loc Cert.Kernel3Ideal.main_arg5))
    (m (((c.tc : Thread Cert.Kernel3Ideal.nD Cert.Kernel3Ideal.τ)).loc Cert.Kernel3Ideal.main_arg6))
    (m (((c.tc : Thread Cert.Kernel3Ideal.nD Cert.Kernel3Ideal.τ)).loc Cert.Kernel3Ideal.main_arg7)), ?_, ?_⟩
  · run_from Cert.Kernel3Ideal.Gen.run_main m g
    exact Cert.Kernel3Ideal.Merge.final m c
  · run_from Cert.Reference3Ideal.Value.run m' g'
    obtain ⟨h0, h1, h2, h3, h4, h5, h6, h7⟩ := hargs c
    rw [Cert.Reference3Ideal.Merge.res_eq, h0, h1, h2, h3, h4, h5, h6, h7]

end Cert.Proof

end
-- ==== Proof.lean ====
module

public import proofs.«01_k».proof.Defs
public import proofs.«01_k».proof.Proof.Frames
public import proofs.«01_k».proof.Proof.KI.Value
public import proofs.«01_k».proof.Proof.Frames2
public import proofs.«01_k».proof.Proof.Proj.Value
public import proofs.«01_k».proof.Proof.Frames3
public import proofs.«01_k».proof.Proof.Merge.Value

/-! The certificate: the runs of the programs, the naming of the mask constant, and the equal results. -/

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite.facts,
    runs_Kernel, runs_KernelIdeal, runs_KernelIdeal_finite, runs_ReferenceIdeal, runs_ReferenceIdeal_finite,
    runs_Kernel2, runs_Kernel2Ideal, runs_Reference2Ideal, runs_Kernel3, runs_Kernel3Ideal, runs_Reference3Ideal,
    mask_named, same_result, preserved_Kernel2, same_project, preserved_Kernel3, same_merge⟩

end Cert.Proof

end
